-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v56_0)) (v1 : (c : Dev Cert.Kernel2Ideal.nD) → Buf (Elt Ideal) ((c.tc : Thread Cert.Kernel2Ideal.nD Cert.Kernel2Ideal.τ).loc Cert.Kernel2Ideal.main_v56_1)) (v2 : (c : Dev Cert.Kernel2Ideal.nD) → Buf (Elt Ideal) ((c.tc : Thread Cert.Kernel2Ideal.nD Cert.Kernel2Ideal.τ).loc Cert.Kernel2Ideal.main_v56_2)) (v3 : (c : Dev Cert.Kernel2Ideal.nD) → Buf (Elt Ideal) ((c.tc : Thread Cert.Kernel2Ideal.nD Cert.Kernel2Ideal.τ).loc Cert.Kernel2Ideal.main_v56_3)) (v4 : (c : Dev Cert.Kernel2Ideal.nD) → Buf (Elt Ideal) ((c.tc : Thread Cert.Kernel2Ideal.nD Cert.Kernel2Ideal.τ).loc Cert.Kernel2Ideal.main_v56_4)) (v5 : (c : Dev Cert.Kernel2Ideal.nD) → Buf (Elt Ideal) ((c.tc : Thread Cert.Kernel2Ideal.nD Cert.Kernel2Ideal.τ).loc Cert.Kernel2Ideal.main_v56_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56_0) = v0 c
          ∧ r.2.mem ((c.tc : Thread Cert.Kernel2Ideal.nD Cert.Kernel2Ideal.τ).loc Cert.Kernel2Ideal.main_v56_1) = v1 c
          ∧ r.2.mem ((c.tc : Thread Cert.Kernel2Ideal.nD Cert.Kernel2Ideal.τ).loc Cert.Kernel2Ideal.main_v56_2) = v2 c
          ∧ r.2.mem ((c.tc : Thread Cert.Kernel2Ideal.nD Cert.Kernel2Ideal.τ).loc Cert.Kernel2Ideal.main_v56_3) = v3 c
          ∧ r.2.mem ((c.tc : Thread Cert.Kernel2Ideal.nD Cert.Kernel2Ideal.τ).loc Cert.Kernel2Ideal.main_v56_4) = v4 c
          ∧ r.2.mem ((c.tc : Thread Cert.Kernel2Ideal.nD Cert.Kernel2Ideal.τ).loc Cert.Kernel2Ideal.main_v56_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v134) = v0 c
          ∧ r.2.mem ((c.tc : Thread Cert.Reference2Ideal.nD Cert.Reference2Ideal.τ).loc Cert.Reference2Ideal.main_v136) = v1 c
          ∧ r.2.mem ((c.tc : Thread Cert.Reference2Ideal.nD Cert.Reference2Ideal.τ).loc Cert.Reference2Ideal.main_v138) = v2 c
          ∧ r.2.mem ((c.tc : Thread Cert.Reference2Ideal.nD Cert.Reference2Ideal.τ).loc Cert.Reference2Ideal.main_v140) = v3 c
          ∧ r.2.mem ((c.tc : Thread Cert.Reference2Ideal.nD Cert.Reference2Ideal.τ).loc Cert.Reference2Ideal.main_v142) = v4 c
          ∧ r.2.mem ((c.tc : Thread Cert.Reference2Ideal.nD Cert.Reference2Ideal.τ).loc Cert.Reference2Ideal.main_v143) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v108_0)) (v1 : (c : Dev Cert.Kernel3Ideal.nD) → Buf (Elt Ideal) ((c.tc : Thread Cert.Kernel3Ideal.nD Cert.Kernel3Ideal.τ).loc Cert.Kernel3Ideal.main_v108_1)) (v2 : (c : Dev Cert.Kernel3Ideal.nD) → Buf (Elt Ideal) ((c.tc : Thread Cert.Kernel3Ideal.nD Cert.Kernel3Ideal.τ).loc Cert.Kernel3Ideal.main_v108_2)) (v3 : (c : Dev Cert.Kernel3Ideal.nD) → Buf (Elt Ideal) ((c.tc : Thread Cert.Kernel3Ideal.nD Cert.Kernel3Ideal.τ).loc Cert.Kernel3Ideal.main_v108_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v108_0) = v0 c
          ∧ r.2.mem ((c.tc : Thread Cert.Kernel3Ideal.nD Cert.Kernel3Ideal.τ).loc Cert.Kernel3Ideal.main_v108_1) = v1 c
          ∧ r.2.mem ((c.tc : Thread Cert.Kernel3Ideal.nD Cert.Kernel3Ideal.τ).loc Cert.Kernel3Ideal.main_v108_2) = v2 c
          ∧ r.2.mem ((c.tc : Thread Cert.Kernel3Ideal.nD Cert.Kernel3Ideal.τ).loc Cert.Kernel3Ideal.main_v108_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x2048x1024 : Shape := ⟨3, ![8, 2048, 1024]⟩
abbrev S16384x512 : Shape := ⟨2, ![16384, 512]⟩
abbrev S8x4x2048x128 : Shape := ⟨4, ![8, 4, 2048, 128]⟩
abbrev S128x4x8x64 : Shape := ⟨4, ![128, 4, 8, 64]⟩
abbrev S1x128x2048x8x64 : Shape := ⟨5, ![1, 128, 2048, 8, 64]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S128x4x8x64 : S_.BroadcastsInDim S128x4x8x64 (![] : Fin 0 → Fin S128x4x8x64.rank)
  reducesTo_S128x4x8x64_S_d0_1_2_3 : S128x4x8x64.ReducesTo [0, 1, 2, 3] S_
  h_S_ : 0 < S_.numel
  bcast_S_S1x128x2048x8x64 : S_.BroadcastsInDim S1x128x2048x8x64 (![] : Fin 0 → Fin S1x128x2048x8x64.rank)
  reducesTo_S1x128x2048x8x64_S_d0_1_2_3_4 : S1x128x2048x8x64.ReducesTo [0, 1, 2, 3, 4] S_

variable [Facts]

def fn {F : FTy → Type} [FloatOps F] (main_arg0 : FVec F S8x2048x1024 .f32) (main_arg1 : FVec F S16384x512 .bf16) (main_arg2 : FVec F S8x4x2048x128 .f32) (main_arg3 : FVec F S128x4x8x64 .f32) (main_arg4 : FVec F S128x4x8x64 .f32) (main_arg5 : FVec F S128x4x8x64 .f32) (main_arg6 : FVec F S1x128x2048x8x64 .f32) (main_arg7 : FVec F S1x128x2048x8x64 .f32) (main_arg8 : FVec F S1x512 .f32) (main_arg9 : FVec F S1x1024x1024 .f32) (main_arg10 : FVec F S1x1024 .f32) (main_arg11 : FVec F S1x1024x2816 .f32) (main_arg12 : FVec F S1x1024x2816 .f32) (main_arg13 : FVec F S1x2816x1024 .f32) : IVec S_ 1 :=
  let main_v0 : FVec F S128x4x8x64 .f32 := Host.absf main_arg3
  let main_cst : FVec F S_ .f32 := constant S_ .f32 0x7F800000#32
  let main_v1 : FVec F S128x4x8x64 .f32 := broadcastInDim S128x4x8x64 ![] bcast_S_S128x4x8x64 main_cst
  let main_v2 : IVec S128x4x8x64 1 := cmpf .olt main_v0 main_v1
  let main_c : IVec S_ 1 := constantI S_ 1 1#1
  let main_v3 : IVec S_ 1 := (fun x v => Host.reduce IntOp.andi x v reducesTo_S128x4x8x64_S_d0_1_2_3 h_S_) main_v2 main_c
  let main_v4 : FVec F S128x4x8x64 .f32 := Host.absf main_arg4
  let main_cst_0 : FVec F S_ .f32 := constant S_ .f32 0x7F800000#32
  let main_v5 : FVec F S128x4x8x64 .f32 := broadcastInDim S128x4x8x64 ![] bcast_S_S128x4x8x64 main_cst_0
  let main_v6 : IVec S128x4x8x64 1 := cmpf .olt main_v4 main_v5
  let main_c_1 : IVec S_ 1 := constantI S_ 1 1#1
  let main_v7 : IVec S_ 1 := (fun x v => Host.reduce IntOp.andi x v reducesTo_S128x4x8x64_S_d0_1_2_3 h_S_) main_v6 main_c_1
  let main_v8 : IVec S_ 1 := andi main_v3 main_v7
  let main_v9 : FVec F S1x128x2048x8x64 .f32 := Host.absf main_arg6
  let main_cst_2 : FVec F S_ .f32 := constant S_ .f32 0x7F800000#32
  let main_v10 : FVec F S1x128x2048x8x64 .f32 := broadcastInDim S1x128x2048x8x64 ![] bcast_S_S1x128x2048x8x64 main_cst_2
  let main_v11 : IVec S1x128x2048x8x64 1 := cmpf .olt main_v9 main_v10
  let main_c_3 : IVec S_ 1 := constantI S_ 1 1#1
  let main_v12 : IVec S_ 1 := (fun x v => Host.reduce IntOp.andi x v reducesTo_S1x128x2048x8x64_S_d0_1_2_3_4 h_S_) main_v11 main_c_3
  let main_v13 : IVec S_ 1 := andi main_v8 main_v12
  main_v13
-- ==== Kernel.lean ====
abbrev S8x2048x1024 : Shape := ⟨3, ![8, 2048, 1024]⟩
abbrev S16384x512 : Shape := ⟨2, ![16384, 512]⟩
abbrev S8x4x2048x128 : Shape := ⟨4, ![8, 4, 2048, 128]⟩
abbrev S128x4x8x64 : Shape := ⟨4, ![128, 4, 8, 64]⟩
abbrev S1x128x2048x8x64 : Shape := ⟨5, ![1, 128, 2048, 8, 64]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16x2048 : Shape := ⟨2, ![16, 2048]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S128x4x512 : Shape := ⟨3, ![128, 4, 512]⟩
abbrev S128x2048x8x64 : Shape := ⟨4, ![128, 2048, 8, 64]⟩
abbrev S128x4x1x512 : Shape := ⟨4, ![128, 4, 1, 512]⟩
abbrev S128x4x3x512 : Shape := ⟨4, ![128, 4, 3, 512]⟩
abbrev S128x4x3x8x64 : Shape := ⟨5, ![128, 4, 3, 8, 64]⟩
abbrev S128x8x3x4x64 : Shape := ⟨5, ![128, 8, 3, 4, 64]⟩
abbrev S_ : Shape := ⟨0, ![]⟩
abbrev S128x8x3x8x64 : Shape := ⟨5, ![128, 8, 3, 8, 64]⟩
abbrev S1024x3x8x64 : Shape := ⟨4, ![1024, 3, 8, 64]⟩
abbrev S128x8x64x2048 : Shape := ⟨4, ![128, 8, 64, 2048]⟩
abbrev S1024x64x2048 : Shape := ⟨3, ![1024, 64, 2048]⟩
abbrev S16384x1024 : Shape := ⟨2, ![16384, 1024]⟩
abbrev S896x16x64 : Shape := ⟨3, ![896, 16, 64]⟩
abbrev S256x1024 : Shape := ⟨2, ![256, 1024]⟩
abbrev S256x512 : Shape := ⟨2, ![256, 512]⟩
abbrev S1x4x256x128 : Shape := ⟨4, ![1, 4, 256, 128]⟩
abbrev S14x3x8x64 : Shape := ⟨4, ![14, 3, 8, 64]⟩
abbrev S14x64x2048 : Shape := ⟨3, ![14, 64, 2048]⟩
abbrev S14x16x64 : Shape := ⟨3, ![14, 16, 64]⟩
abbrev S14x16x2048 : Shape := ⟨3, ![14, 16, 2048]⟩
abbrev S16x1 : Shape := ⟨2, ![16, 1]⟩
abbrev S14x1x8x64 : Shape := ⟨4, ![14, 1, 8, 64]⟩
abbrev S14x8x64 : Shape := ⟨3, ![14, 8, 64]⟩
abbrev S1x8x64 : Shape := ⟨3, ![1, 8, 64]⟩
abbrev S8x64 : Shape := ⟨2, ![8, 64]⟩
abbrev S1x64x2048 : Shape := ⟨3, ![1, 64, 2048]⟩
abbrev S64x2048 : Shape := ⟨2, ![64, 2048]⟩
abbrev S8x2048 : Shape := ⟨2, ![8, 2048]⟩
abbrev S1x16x2048 : Shape := ⟨3, ![1, 16, 2048]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S512x1024 : Shape := ⟨2, ![512, 1024]⟩
abbrev S256x2816 : Shape := ⟨2, ![256, 2816]⟩
abbrev S16x64 : Shape := ⟨2, ![16, 64]⟩
abbrev S1x64 : Shape := ⟨2, ![1, 64]⟩
abbrev S16 : Shape := ⟨1, ![16]⟩
abbrev S1x16x64 : Shape := ⟨3, ![1, 16, 64]⟩

abbrev nBuf : Space → Nat
  | .hbm => 49
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S8x4x2048x128, .f32⟩
  | .hbm, ⟨3, _⟩ => ⟨S128x4x8x64, .f32⟩
  | .hbm, ⟨4, _⟩ => ⟨S128x4x8x64, .f32⟩
  | .hbm, ⟨5, _⟩ => ⟨S128x4x8x64, .f32⟩
  | .hbm, ⟨6, _⟩ => ⟨S1x128x2048x8x64, .f32⟩
  | .hbm, ⟨7, _⟩ => ⟨S1x128x2048x8x64, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S16x2048, .f32⟩
  | .hbm, ⟨15, _⟩ => ⟨S512, .f32⟩
  | .hbm, ⟨16, _⟩ => ⟨S1024x1024, .f32⟩
  | .hbm, ⟨17, _⟩ => ⟨S1024, .f32⟩
  | .hbm, ⟨18, _⟩ => ⟨S1024x2816, .f32⟩
  | .hbm, ⟨19, _⟩ => ⟨S1024x2816, .f32⟩
  | .hbm, ⟨20, _⟩ => ⟨S2816x1024, .f32⟩
  | .hbm, ⟨21, _⟩ => ⟨S128x4x512, .f32⟩
  | .hbm, ⟨22, _⟩ => ⟨S128x4x512, .f32⟩
  | .hbm, ⟨23, _⟩ => ⟨S128x4x512, .f32⟩
  | .hbm, ⟨24, _⟩ => ⟨S128x2048x8x64, .f32⟩
  | .hbm, ⟨25, _⟩ => ⟨S128x2048x8x64, .f32⟩
  | .hbm, ⟨26, _⟩ => ⟨S128x4x1x512, .f32⟩
  | .hbm, ⟨27, _⟩ => ⟨S128x4x1x512, .f32⟩
  | .hbm, ⟨28, _⟩ => ⟨S128x4x1x512, .f32⟩
  | .hbm, ⟨29, _⟩ => ⟨S128x4x3x512, .f32⟩
  | .hbm, ⟨30, _⟩ => ⟨S128x4x3x8x64, .f32⟩
  | .hbm, ⟨31, _⟩ => ⟨S128x8x3x4x64, .f32⟩
  | .hbm, ⟨32, _⟩ => ⟨S_, .i32⟩
  | .hbm, ⟨33, _⟩ => ⟨S_, .f32⟩
  | .hbm, ⟨34, _⟩ => ⟨S128x8x3x8x64, .f32⟩
  | .hbm, ⟨35, _⟩ => ⟨S1024x3x8x64, .f32⟩
  | .hbm, ⟨36, _⟩ => ⟨S128x8x64x2048, .f32⟩
  | .hbm, ⟨37, _⟩ => ⟨S1024x64x2048, .f32⟩
  | .hbm, ⟨38, _⟩ => ⟨S128x8x64x2048, .f32⟩
  | .hbm, ⟨39, _⟩ => ⟨S1024x64x2048, .f32⟩
  | .hbm, ⟨40, _⟩ => ⟨S16384x1024, .f32⟩
  | .hbm, ⟨41, _⟩ => ⟨S1x512, .f32⟩
  | .hbm, ⟨42, _⟩ => ⟨S1024x1024, .bf16⟩
  | .hbm, ⟨43, _⟩ => ⟨S1x1024, .f32⟩
  | .hbm, ⟨44, _⟩ => ⟨S1024x2816, .bf16⟩
  | .hbm, ⟨45, _⟩ => ⟨S1024x2816, .bf16⟩
  | .hbm, ⟨46, _⟩ => ⟨S2816x1024, .bf16⟩
  | .hbm, ⟨47, _⟩ => ⟨S16384x1024, .f32⟩
  | .hbm, ⟨48, _⟩ => ⟨S896x16x64, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S1x4x256x128, .f32⟩
  | .local _ .vmem, ⟨5, _⟩ => ⟨S1x4x256x128, .f32⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S14x3x8x64, .f32⟩
  | .local _ .vmem, ⟨13, _⟩ => ⟨S14x3x8x64, .f32⟩
  | .local _ .vmem, ⟨14, _⟩ => ⟨S14x64x2048, .f32⟩
  | .local _ .vmem, ⟨15, _⟩ => ⟨S14x64x2048, .f32⟩
  | .local _ .vmem, ⟨16, _⟩ => ⟨S14x64x2048, .f32⟩
  | .local _ .vmem, ⟨17, _⟩ => ⟨S14x64x2048, .f32⟩
  | .local _ .vmem, ⟨18, _⟩ => ⟨S16x2048, .f32⟩
  | .local _ .vmem, ⟨19, _⟩ => ⟨S256x1024, .f32⟩
  | .local _ .vmem, ⟨20, _⟩ => ⟨S256x1024, .f32⟩
  | .local _ .vmem, ⟨21, _⟩ => ⟨S14x16x64, .f32⟩
  | .local _ .vmem, ⟨22, _⟩ => ⟨S14x16x64, .f32⟩
  | .local _ .vmem, ⟨23, _⟩ => ⟨S14x16x2048, .f32⟩
  | .local _ .vmem, ⟨24, _⟩ => ⟨S14x16x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_11 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S14x3x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S14x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S14x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S14x16x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x2048x1024 : Shape := ⟨3, ![8, 2048, 1024]⟩
abbrev S16384x512 : Shape := ⟨2, ![16384, 512]⟩
abbrev S8x4x2048x128 : Shape := ⟨4, ![8, 4, 2048, 128]⟩
abbrev S128x4x8x64 : Shape := ⟨4, ![128, 4, 8, 64]⟩
abbrev S1x128x2048x8x64 : Shape := ⟨5, ![1, 128, 2048, 8, 64]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8x2048x4x128 : Shape := ⟨4, ![8, 2048, 4, 128]⟩
abbrev S16384x1024 : Shape := ⟨2, ![16384, 1024]⟩
abbrev S512 : Shape := ⟨1, ![512]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024 : Shape := ⟨1, ![1024]⟩
abbrev S1024x2816 : Shape := ⟨2, ![1024, 2816]⟩
abbrev S16384x2816 : Shape := ⟨2, ![16384, 2816]⟩
abbrev S2816x1024 : Shape := ⟨2, ![2816, 1024]⟩
abbrev S128x2048x8x64 : Shape := ⟨4, ![128, 2048, 8, 64]⟩
abbrev S128x2052x8x64 : Shape := ⟨4, ![128, 2052, 8, 64]⟩
abbrev S112x4x8x64 : Shape := ⟨4, ![112, 4, 8, 64]⟩
abbrev S112x2052x8x64 : Shape := ⟨4, ![112, 2052, 8, 64]⟩
abbrev S4 : Shape := ⟨1, ![4]⟩
abbrev S4x1 : Shape := ⟨2, ![4, 1]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S112x4x129x8x64 : Shape := ⟨5, ![112, 4, 129, 8, 64]⟩
abbrev S112x4x8x129 : Shape := ⟨4, ![112, 4, 8, 129]⟩
abbrev S1x4x1x129 : Shape := ⟨4, ![1, 4, 1, 129]⟩
abbrev S112x4x8 : Shape := ⟨3, ![112, 4, 8]⟩
abbrev S112x4x8x1 : Shape := ⟨4, ![112, 4, 8, 1]⟩
abbrev S1x112x4x8 : Shape := ⟨4, ![1, 112, 4, 8]⟩
abbrev S3x112x4x8 : Shape := ⟨4, ![3, 112, 4, 8]⟩
abbrev S1x112x4x8x64 : Shape := ⟨5, ![1, 112, 4, 8, 64]⟩
abbrev S3x112x4x8x64 : Shape := ⟨5, ![3, 112, 4, 8, 64]⟩
abbrev S3x112x4x8x1 : Shape := ⟨5, ![3, 112, 4, 8, 1]⟩
abbrev S112x8x4x64 : Shape := ⟨4, ![112, 8, 4, 64]⟩
abbrev S896x4x64 : Shape := ⟨3, ![896, 4, 64]⟩
abbrev S1x896x1x4x1x64 : Shape := ⟨6, ![1, 896, 1, 4, 1, 64]⟩
abbrev S1x896x4x4x1x64 : Shape := ⟨6, ![1, 896, 4, 4, 1, 64]⟩
abbrev S896x16x64 : Shape := ⟨3, ![896, 16, 64]⟩

abbrev nBuf : Space → Nat
  | .hbm => 303
  | .vmem => 0
  | .smem => 0
  | _ => 0

abbrev hbmTy0_0 (i : Nat) : BufTy := match i % 128 with
  | 0 => ⟨S8x2048x1024, .f32⟩
  | 1 => ⟨S16384x512, .bf16⟩
  | 2 => ⟨S8x4x2048x128, .f32⟩
  | 3 => ⟨S128x4x8x64, .f32⟩
  | 4 => ⟨S128x4x8x64, .f32⟩
  | 5 => ⟨S128x4x8x64, .f32⟩
  | 6 => ⟨S1x128x2048x8x64, .f32⟩
  | 7 => ⟨S1x128x2048x8x64, .f32⟩
  | 8 => ⟨S1x512, .f32⟩
  | 9 => ⟨S1x1024x1024, .f32⟩
  | 10 => ⟨S1x1024, .f32⟩
  | 11 => ⟨S1x1024x2816, .f32⟩
  | 12 => ⟨S1x1024x2816, .f32⟩
  | 13 => ⟨S1x2816x1024, .f32⟩
  | 14 => ⟨S8x2048x4x128, .f32⟩
  | 15 => ⟨S16384x512, .f32⟩
  | 16 => ⟨S16384x1024, .f32⟩
  | 17 => ⟨S16384x512, .f32⟩
  | 18 => ⟨S512, .f32⟩
  | 19 => ⟨S16384x512, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S16384x1, .f32⟩
  | 30 => ⟨S16384x512, .f32⟩
  | 31 => ⟨S16384x512, .f32⟩
  | 32 => ⟨S1x512, .f32⟩
  | 33 => ⟨S16384x512, .f32⟩
  | 34 => ⟨S16384x512, .f32⟩
  | 35 => ⟨S16384x1024, .f32⟩
  | 36 => ⟨S1024x1024, .f32⟩
  | 37 => ⟨S16384x1024, .f32⟩
  | 38 => ⟨S16384x1024, .f32⟩
  | 39 => ⟨S1024, .f32⟩
  | 40 => ⟨S16384x1024, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S16384x1, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S1024x2816, .f32⟩
  | 57 => ⟨S16384x2816, .f32⟩
  | 58 => ⟨S16384x2816, .f32⟩
  | 59 => ⟨S16384x2816, .f32⟩
  | 60 => ⟨S_, .f32⟩
  | 61 => ⟨S16384x2816, .f32⟩
  | 62 => ⟨S16384x2816, .f32⟩
  | 63 => ⟨S_, .f32⟩
  | 64 => ⟨S16384x2816, .f32⟩
  | 65 => ⟨S16384x2816, .f32⟩
  | 66 => ⟨S16384x2816, .f32⟩
  | 67 => ⟨S1024x2816, .f32⟩
  | 68 => ⟨S16384x2816, .f32⟩
  | 69 => ⟨S16384x2816, .f32⟩
  | 70 => ⟨S2816x1024, .f32⟩
  | 71 => ⟨S16384x1024, .f32⟩
  | 72 => ⟨S16384x1024, .f32⟩
  | 73 => ⟨S128x2048x8x64, .f32⟩
  | 74 => ⟨S128x2052x8x64, .f32⟩
  | 75 => ⟨S128x2048x8x64, .f32⟩
  | 76 => ⟨S128x2052x8x64, .f32⟩
  | 77 => ⟨S112x4x8x64, .f32⟩
  | 78 => ⟨S112x2052x8x64, .f32⟩
  | 79 => ⟨S112x2052x8x64, .f32⟩
  | 80 => ⟨S4, .i32⟩
  | 81 => ⟨S4x1, .i32⟩
  | 82 => ⟨S_, .i32⟩
  | 83 => ⟨S4x1, .i32⟩
  | 84 => ⟨S4x1, .i32⟩
  | 85 => ⟨S129, .i32⟩
  | 86 => ⟨S1x129, .i32⟩
  | 87 => ⟨S_, .i32⟩
  | 88 => ⟨S1x129, .i32⟩
  | 89 => ⟨S1x129, .i32⟩
  | 90 => ⟨S4x129, .i32⟩
  | 91 => ⟨S4x129, .i32⟩
  | 92 => ⟨S4x129, .i32⟩
  | 93 => ⟨S_, .i32⟩
  | 94 => ⟨S4x129, .i32⟩
  | 95 => ⟨S4x129, .i1⟩
  | 96 => ⟨S_, .i32⟩
  | 97 => ⟨S4x129, .i32⟩
  | 98 => ⟨S4x129, .i32⟩
  | 99 => ⟨S_, .i32⟩
  | 100 => ⟨S4x129, .i32⟩
  | 101 => ⟨S4x129, .i1⟩
  | 102 => ⟨S4x129, .i1⟩
  | 103 => ⟨S_, .i32⟩
  | 104 => ⟨S_, .i32⟩
  | 105 => ⟨S4x129, .i32⟩
  | 106 => ⟨S4x129, .i32⟩
  | 107 => ⟨S_, .i32⟩
  | 108 => ⟨S4x129, .i32⟩
  | 109 => ⟨S4x129, .i1⟩
  | 110 => ⟨S_, .i32⟩
  | 111 => ⟨S4x129, .i32⟩
  | 112 => ⟨S4x129, .i32⟩
  | 113 => ⟨S4x129, .i32⟩
  | 114 => ⟨S4x129x1, .i32⟩
  | 115 => ⟨S112x4x129x8x64, .f32⟩
  | 116 => ⟨S_, .i32⟩
  | 117 => ⟨S4x129, .i32⟩
  | 118 => ⟨S4x129, .i1⟩
  | 119 => ⟨S_, .i32⟩
  | 120 => ⟨S4x129, .i32⟩
  | 121 => ⟨S4x129, .i32⟩
  | 122 => ⟨S4x129, .i32⟩
  | 123 => ⟨S4x129x1, .i32⟩
  | 124 => ⟨S112x4x129x8x64, .f32⟩
  | 125 => ⟨S112x4x8x129, .f32⟩
  | 126 => ⟨S1x4x1x129, .i1⟩
  | 127 => ⟨S_, .f32⟩
  | _ => ⟨S8x2048x1024, .f32⟩

abbrev hbmTy0_1 (i : Nat) : BufTy := match i % 128 with
  | 0 => ⟨S_, .f32⟩
  | 1 => ⟨S112x4x8x129, .i1⟩
  | 2 => ⟨S112x4x8x129, .f32⟩
  | 3 => ⟨S112x4x8x129, .f32⟩
  | 4 => ⟨S_, .f32⟩
  | 5 => ⟨S112x4x8, .f32⟩
  | 6 => ⟨S112x4x8x1, .f32⟩
  | 7 => ⟨S112x4x8x129, .f32⟩
  | 8 => ⟨S112x4x8x129, .f32⟩
  | 9 => ⟨S112x4x8x129, .f32⟩
  | 10 => ⟨S_, .f32⟩
  | 11 => ⟨S112x4x8, .f32⟩
  | 12 => ⟨S112x4x8x64, .f32⟩
  | 13 => ⟨S112x4x8x64, .f32⟩
  | 14 => ⟨S112x2052x8x64, .f32⟩
  | 15 => ⟨S112x2052x8x64, .f32⟩
  | 16 => ⟨S4, .i32⟩
  | 17 => ⟨S4x1, .i32⟩
  | 18 => ⟨S_, .i32⟩
  | 19 => ⟨S4x1, .i32⟩
  | 20 => ⟨S4x1, .i32⟩
  | 21 => ⟨S129, .i32⟩
  | 22 => ⟨S1x129, .i32⟩
  | 23 => ⟨S_, .i32⟩
  | 24 => ⟨S1x129, .i32⟩
  | 25 => ⟨S1x129, .i32⟩
  | 26 => ⟨S4x129, .i32⟩
  | 27 => ⟨S4x129, .i32⟩
  | 28 => ⟨S4x129, .i32⟩
  | 29 => ⟨S_, .i32⟩
  | 30 => ⟨S4x129, .i32⟩
  | 31 => ⟨S4x129, .i1⟩
  | 32 => ⟨S_, .i32⟩
  | 33 => ⟨S4x129, .i32⟩
  | 34 => ⟨S4x129, .i32⟩
  | 35 => ⟨S_, .i32⟩
  | 36 => ⟨S4x129, .i32⟩
  | 37 => ⟨S4x129, .i1⟩
  | 38 => ⟨S4x129, .i1⟩
  | 39 => ⟨S_, .i32⟩
  | 40 => ⟨S_, .i32⟩
  | 41 => ⟨S4x129, .i32⟩
  | 42 => ⟨S4x129, .i32⟩
  | 43 => ⟨S_, .i32⟩
  | 44 => ⟨S4x129, .i32⟩
  | 45 => ⟨S4x129, .i1⟩
  | 46 => ⟨S_, .i32⟩
  | 47 => ⟨S4x129, .i32⟩
  | 48 => ⟨S4x129, .i32⟩
  | 49 => ⟨S4x129, .i32⟩
  | 50 => ⟨S4x129x1, .i32⟩
  | 51 => ⟨S112x4x129x8x64, .f32⟩
  | 52 => ⟨S_, .i32⟩
  | 53 => ⟨S4x129, .i32⟩
  | 54 => ⟨S4x129, .i1⟩
  | 55 => ⟨S_, .i32⟩
  | 56 => ⟨S4x129, .i32⟩
  | 57 => ⟨S4x129, .i32⟩
  | 58 => ⟨S4x129, .i32⟩
  | 59 => ⟨S4x129x1, .i32⟩
  | 60 => ⟨S112x4x129x8x64, .f32⟩
  | 61 => ⟨S112x4x8x129, .f32⟩
  | 62 => ⟨S1x4x1x129, .i1⟩
  | 63 => ⟨S_, .f32⟩
  | 64 => ⟨S_, .f32⟩
  | 65 => ⟨S112x4x8x129, .i1⟩
  | 66 => ⟨S112x4x8x129, .f32⟩
  | 67 => ⟨S112x4x8x129, .f32⟩
  | 68 => ⟨S_, .f32⟩
  | 69 => ⟨S112x4x8, .f32⟩
  | 70 => ⟨S112x4x8x1, .f32⟩
  | 71 => ⟨S112x4x8x129, .f32⟩
  | 72 => ⟨S112x4x8x129, .f32⟩
  | 73 => ⟨S112x4x8x129, .f32⟩
  | 74 => ⟨S_, .f32⟩
  | 75 => ⟨S112x4x8, .f32⟩
  | 76 => ⟨S112x4x8x64, .f32⟩
  | 77 => ⟨S112x4x8x64, .f32⟩
  | 78 => ⟨S112x2052x8x64, .f32⟩
  | 79 => ⟨S112x2052x8x64, .f32⟩
  | 80 => ⟨S4, .i32⟩
  | 81 => ⟨S4x1, .i32⟩
  | 82 => ⟨S_, .i32⟩
  | 83 => ⟨S4x1, .i32⟩
  | 84 => ⟨S4x1, .i32⟩
  | 85 => ⟨S129, .i32⟩
  | 86 => ⟨S1x129, .i32⟩
  | 87 => ⟨S_, .i32⟩
  | 88 => ⟨S1x129, .i32⟩
  | 89 => ⟨S1x129, .i32⟩
  | 90 => ⟨S4x129, .i32⟩
  | 91 => ⟨S4x129, .i32⟩
  | 92 => ⟨S4x129, .i32⟩
  | 93 => ⟨S_, .i32⟩
  | 94 => ⟨S4x129, .i32⟩
  | 95 => ⟨S4x129, .i1⟩
  | 96 => ⟨S_, .i32⟩
  | 97 => ⟨S4x129, .i32⟩
  | 98 => ⟨S4x129, .i32⟩
  | 99 => ⟨S_, .i32⟩
  | 100 => ⟨S4x129, .i32⟩
  | 101 => ⟨S4x129, .i1⟩
  | 102 => ⟨S4x129, .i1⟩
  | 103 => ⟨S_, .i32⟩
  | 104 => ⟨S_, .i32⟩
  | 105 => ⟨S4x129, .i32⟩
  | 106 => ⟨S4x129, .i32⟩
  | 107 => ⟨S_, .i32⟩
  | 108 => ⟨S4x129, .i32⟩
  | 109 => ⟨S4x129, .i1⟩
  | 110 => ⟨S_, .i32⟩
  | 111 => ⟨S4x129, .i32⟩
  | 112 => ⟨S4x129, .i32⟩
  | 113 => ⟨S4x129, .i32⟩
  | 114 => ⟨S4x129x1, .i32⟩
  | 115 => ⟨S112x4x129x8x64, .f32⟩
  | 116 => ⟨S_, .i32⟩
  | 117 => ⟨S4x129, .i32⟩
  | 118 => ⟨S4x129, .i1⟩
  | 119 => ⟨S_, .i32⟩
  | 120 => ⟨S4x129, .i32⟩
  | 121 => ⟨S4x129, .i32⟩
  | 122 => ⟨S4x129, .i32⟩
  | 123 => ⟨S4x129x1, .i32⟩
  | 124 => ⟨S112x4x129x8x64, .f32⟩
  | 125 => ⟨S112x4x8x129, .f32⟩
  | 126 => ⟨S1x4x1x129, .i1⟩
  | 127 => ⟨S_, .f32⟩
  | _ => ⟨S8x2048x1024, .f32⟩

abbrev hbmTy0_2 (i : Nat) : BufTy := match i % 128 with
  | 0 => ⟨S_, .f32⟩
  | 1 => ⟨S112x4x8x129, .i1⟩
  | 2 => ⟨S112x4x8x129, .f32⟩
  | 3 => ⟨S112x4x8x129, .f32⟩
  | 4 => ⟨S_, .f32⟩
  | 5 => ⟨S112x4x8, .f32⟩
  | 6 => ⟨S112x4x8x1, .f32⟩
  | 7 => ⟨S112x4x8x129, .f32⟩
  | 8 => ⟨S112x4x8x129, .f32⟩
  | 9 => ⟨S112x4x8x129, .f32⟩
  | 10 => ⟨S_, .f32⟩
  | 11 => ⟨S112x4x8, .f32⟩
  | 12 => ⟨S112x4x8x64, .f32⟩
  | 13 => ⟨S1x112x4x8, .f32⟩
  | 14 => ⟨S1x112x4x8, .f32⟩
  | 15 => ⟨S1x112x4x8, .f32⟩
  | 16 => ⟨S3x112x4x8, .f32⟩
  | 17 => ⟨S1x112x4x8, .f32⟩
  | 18 => ⟨S1x112x4x8, .f32⟩
  | 19 => ⟨S1x112x4x8, .f32⟩
  | 20 => ⟨S3x112x4x8, .f32⟩
  | 21 => ⟨S1x112x4x8x64, .f32⟩
  | 22 => ⟨S1x112x4x8x64, .f32⟩
  | 23 => ⟨S1x112x4x8x64, .f32⟩
  | 24 => ⟨S3x112x4x8x64, .f32⟩
  | 25 => ⟨S_, .f32⟩
  | 26 => ⟨S112x4x8, .f32⟩
  | 27 => ⟨S1x112x4x8, .f32⟩
  | 28 => ⟨S3x112x4x8, .f32⟩
  | 29 => ⟨S3x112x4x8, .f32⟩
  | 30 => ⟨S3x112x4x8, .f32⟩
  | 31 => ⟨S3x112x4x8x1, .f32⟩
  | 32 => ⟨S3x112x4x8x64, .f32⟩
  | 33 => ⟨S3x112x4x8x64, .f32⟩
  | 34 => ⟨S_, .f32⟩
  | 35 => ⟨S112x4x8x64, .f32⟩
  | 36 => ⟨S3x112x4x8, .f32⟩
  | 37 => ⟨S_, .f32⟩
  | 38 => ⟨S112x4x8, .f32⟩
  | 39 => ⟨S112x4x8x1, .f32⟩
  | 40 => ⟨S112x4x8x64, .f32⟩
  | 41 => ⟨S112x4x8x64, .f32⟩
  | 42 => ⟨S112x8x4x64, .f32⟩
  | 43 => ⟨S896x4x64, .f32⟩
  | 44 => ⟨S1x896x1x4x1x64, .f32⟩
  | 45 => ⟨S1x896x4x4x1x64, .f32⟩
  | 46 => ⟨S896x16x64, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_5 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_6 : Ref sig .tc := ⟨.hbm, 93, rfl⟩
abbrev main_v63 : Ref sig .tc := ⟨.hbm, 94, rfl⟩
abbrev main_v64 : Ref sig .tc := ⟨.hbm, 95, rfl⟩
abbrev main_c_7 : Ref sig .tc := ⟨.hbm, 96, rfl⟩
abbrev main_v65 : Ref sig .tc := ⟨.hbm, 97, rfl⟩
abbrev main_v66 : Ref sig .tc := ⟨.hbm, 98, rfl⟩
abbrev main_c_8 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_9 : Ref sig .tc := ⟨.hbm, 103, rfl⟩
abbrev main_call1_v0 : Ref sig .tc := ⟨.hbm, 104, rfl⟩
abbrev main_call1_v1 : Ref sig .tc := ⟨.hbm, 105, rfl⟩
abbrev main_v70 : Ref sig .tc := ⟨.hbm, 106, rfl⟩
abbrev main_c_10 : Ref sig .tc := ⟨.hbm, 107, rfl⟩
abbrev main_v71 : Ref sig .tc := ⟨.hbm, 108, rfl⟩
abbrev main_v72 : Ref sig .tc := ⟨.hbm, 109, rfl⟩
abbrev main_c_11 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_12 : Ref sig .tc := ⟨.hbm, 116, rfl⟩
abbrev main_v78 : Ref sig .tc := ⟨.hbm, 117, rfl⟩
abbrev main_v79 : Ref sig .tc := ⟨.hbm, 118, rfl⟩
abbrev main_c_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_14 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v87 : Ref sig .tc := ⟨.hbm, 131, rfl⟩
abbrev main_cst_15 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_16 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_17 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_18 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_19 : Ref sig .tc := ⟨.hbm, 157, rfl⟩
abbrev main_v109 : Ref sig .tc := ⟨.hbm, 158, rfl⟩
abbrev main_v110 : Ref sig .tc := ⟨.hbm, 159, rfl⟩
abbrev main_c_20 : Ref sig .tc := ⟨.hbm, 160, rfl⟩
abbrev main_v111 : Ref sig .tc := ⟨.hbm, 161, rfl⟩
abbrev main_v112 : Ref sig .tc := ⟨.hbm, 162, rfl⟩
abbrev main_c_21 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_22 : Ref sig .tc := ⟨.hbm, 167, rfl⟩
abbrev main_call3_v0 : Ref sig .tc := ⟨.hbm, 168, rfl⟩
abbrev main_call3_v1 : Ref sig .tc := ⟨.hbm, 169, rfl⟩
abbrev main_v116 : Ref sig .tc := ⟨.hbm, 170, rfl⟩
abbrev main_c_23 : Ref sig .tc := ⟨.hbm, 171, rfl⟩
abbrev main_v117 : Ref sig .tc := ⟨.hbm, 172, rfl⟩
abbrev main_v118 : Ref sig .tc := ⟨.hbm, 173, rfl⟩
abbrev main_c_24 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_c_25 : Ref sig .tc := ⟨.hbm, 180, rfl⟩
abbrev main_v124 : Ref sig .tc := ⟨.hbm, 181, rfl⟩
abbrev main_v125 : Ref sig .tc := ⟨.hbm, 182, rfl⟩
abbrev main_c_26 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_27 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_v133 : Ref sig .tc := ⟨.hbm, 195, rfl⟩
abbrev main_cst_28 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_29 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_c_30 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_c_31 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_c_32 : Ref sig .tc := ⟨.hbm, 221, rfl⟩
abbrev main_v155 : Ref sig .tc := ⟨.hbm, 222, rfl⟩
abbrev main_v156 : Ref sig .tc := ⟨.hbm, 223, rfl⟩
abbrev main_c_33 : Ref sig .tc := ⟨.hbm, 224, rfl⟩
abbrev main_v157 : Ref sig .tc := ⟨.hbm, 225, rfl⟩
abbrev main_v158 : Ref sig .tc := ⟨.hbm, 226, rfl⟩
abbrev main_c_34 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_c_35 : Ref sig .tc := ⟨.hbm, 231, rfl⟩
abbrev main_call5_v0 : Ref sig .tc := ⟨.hbm, 232, rfl⟩
abbrev main_call5_v1 : Ref sig .tc := ⟨.hbm, 233, rfl⟩
abbrev main_v162 : Ref sig .tc := ⟨.hbm, 234, rfl⟩
abbrev main_c_36 : Ref sig .tc := ⟨.hbm, 235, rfl⟩
abbrev main_v163 : Ref sig .tc := ⟨.hbm, 236, rfl⟩
abbrev main_v164 : Ref sig .tc := ⟨.hbm, 237, rfl⟩
abbrev main_c_37 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_c_38 : Ref sig .tc := ⟨.hbm, 244, rfl⟩
abbrev main_v170 : Ref sig .tc := ⟨.hbm, 245, rfl⟩
abbrev main_v171 : Ref sig .tc := ⟨.hbm, 246, rfl⟩
abbrev main_c_39 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_cst_40 : Ref sig .tc := ⟨.hbm, 255, rfl⟩
abbrev main_call6_v0 : Ref sig .tc := ⟨.hbm, 256, rfl⟩
abbrev main_call6_v1 : Ref sig .tc := ⟨.hbm, 257, rfl⟩
abbrev main_call6_v2 : Ref sig .tc := ⟨.hbm, 258, rfl⟩
abbrev main_v179 : Ref sig .tc := ⟨.hbm, 259, rfl⟩
abbrev main_cst_41 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_cst_42 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_cst_43 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_cst_44 : Ref sig .tc := ⟨.hbm, 290, rfl⟩
abbrev main_v207 : Ref sig .tc := ⟨.hbm, 291, rfl⟩
abbrev main_v208 : Ref sig .tc := ⟨.hbm, 292, rfl⟩
abbrev main_cst_45 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩

abbrev nD : Nat := 1
abbrev τ : Topo := Topo.v7x

variable {F : FTy → Type} [FloatOps F]
-- ==== Kernel2.lean ====
abbrev S8x2048x1024 : Shape := ⟨3, ![8, 2048, 1024]⟩
abbrev S128x4x8x64 : Shape := ⟨4, ![128, 4, 8, 64]⟩
abbrev S1x128x2048x8x64 : Shape := ⟨5, ![1, 128, 2048, 8, 64]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1x64 : Shape := ⟨2, ![1, 64]⟩
abbrev S128x128 : Shape := ⟨2, ![128, 128]⟩
abbrev S16x2048 : Shape := ⟨2, ![16, 2048]⟩
abbrev S1024 : Shape := ⟨1, ![1024]⟩
abbrev S1024x2560 : Shape := ⟨2, ![1024, 2560]⟩
abbrev S512 : Shape := ⟨1, ![512]⟩
abbrev S64 : Shape := ⟨1, ![64]⟩
abbrev S8x64 : Shape := ⟨2, ![8, 64]⟩
abbrev S_ : Shape := ⟨0, ![]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S128x4x512 : Shape := ⟨3, ![128, 4, 512]⟩
abbrev S128x2048x8x64 : Shape := ⟨4, ![128, 2048, 8, 64]⟩
abbrev S128x4x1x512 : Shape := ⟨4, ![128, 4, 1, 512]⟩
abbrev S128x4x3x512 : Shape := ⟨4, ![128, 4, 3, 512]⟩
abbrev S128x4x3x8x64 : Shape := ⟨5, ![128, 4, 3, 8, 64]⟩
abbrev S128x8x3x4x64 : Shape := ⟨5, ![128, 8, 3, 4, 64]⟩
abbrev S128x8x3x8x64 : Shape := ⟨5, ![128, 8, 3, 8, 64]⟩
abbrev S1024x3x8x64 : Shape := ⟨4, ![1024, 3, 8, 64]⟩
abbrev S128x8x64x2048 : Shape := ⟨4, ![128, 8, 64, 2048]⟩
abbrev S1024x64x2048 : Shape := ⟨3, ![1024, 64, 2048]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S16384x1024 : Shape := ⟨2, ![16384, 1024]⟩
abbrev S8x4x2048x128 : Shape := ⟨4, ![8, 4, 2048, 128]⟩
abbrev S8x512x2048 : Shape := ⟨3, ![8, 512, 2048]⟩
abbrev S16384x512 : Shape := ⟨2, ![16384, 512]⟩
abbrev S128x16x64 : Shape := ⟨3, ![128, 16, 64]⟩
abbrev S512x1024 : Shape := ⟨2, ![512, 1024]⟩
abbrev S4x3x8x64 : Shape := ⟨4, ![4, 3, 8, 64]⟩
abbrev S4x64x2048 : Shape := ⟨3, ![4, 64, 2048]⟩
abbrev S1x4x512x128 : Shape := ⟨4, ![1, 4, 512, 128]⟩
abbrev S1x512x512 : Shape := ⟨3, ![1, 512, 512]⟩
abbrev S4x16x64 : Shape := ⟨3, ![4, 16, 64]⟩
abbrev S4x16x2048 : Shape := ⟨3, ![4, 16, 2048]⟩
abbrev S16x1 : Shape := ⟨2, ![16, 1]⟩
abbrev S4x1x8x64 : Shape := ⟨4, ![4, 1, 8, 64]⟩
abbrev S4x8x64 : Shape := ⟨3, ![4, 8, 64]⟩
abbrev S1x8x64 : Shape := ⟨3, ![1, 8, 64]⟩
abbrev S1x64x2048 : Shape := ⟨3, ![1, 64, 2048]⟩
abbrev S64x2048 : Shape := ⟨2, ![64, 2048]⟩
abbrev S8x2048 : Shape := ⟨2, ![8, 2048]⟩
abbrev S1x16x2048 : Shape := ⟨3, ![1, 16, 2048]⟩
abbrev S512x1 : Shape := ⟨2, ![512, 1]⟩
abbrev S1024x512 : Shape := ⟨2, ![1024, 512]⟩
abbrev S16x64 : Shape := ⟨2, ![16, 64]⟩
abbrev S16 : Shape := ⟨1, ![16]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩
abbrev S512x128 : Shape := ⟨2, ![512, 128]⟩
abbrev S1x1x512x128 : Shape := ⟨4, ![1, 1, 512, 128]⟩
abbrev S1x16x64 : Shape := ⟨3, ![1, 16, 64]⟩

abbrev nBuf : Space → Nat
  | .hbm => 95
  | .vmem => 35
  | .smem => 0
  | _ => 0

abbrev bufTy : (tb : Table) → Fin (tcTables nBuf tb) → BufTy
  | .hbm, ⟨0, _⟩ => ⟨S8x2048x1024, .f32⟩
  | .hbm, ⟨1, _⟩ => ⟨S128x4x8x64, .f32⟩
  | .hbm, ⟨2, _⟩ => ⟨S128x4x8x64, .f32⟩
  | .hbm, ⟨3, _⟩ => ⟨S128x4x8x64, .f32⟩
  | .hbm, ⟨4, _⟩ => ⟨S1x128x2048x8x64, .f32⟩
  | .hbm, ⟨5, _⟩ => ⟨S1x128x2048x8x64, .f32⟩
  | .hbm, ⟨6, _⟩ => ⟨S1x1024, .f32⟩
  | .hbm, ⟨7, _⟩ => ⟨S1x1024x2560, .f32⟩
  | .hbm, ⟨8, _⟩ => ⟨S1x512, .f32⟩
  | .hbm, ⟨9, _⟩ => ⟨S1x512, .f32⟩
  | .hbm, ⟨10, _⟩ => ⟨S1x8x128x128, .f32⟩
  | .hbm, ⟨11, _⟩ => ⟨S1x8x128, .f32⟩
  | .hbm, ⟨12, _⟩ => ⟨S1x64, .f32⟩
  | .hbm, ⟨13, _⟩ => ⟨S1x64, .f32⟩
  | .hbm, ⟨14, _⟩ => ⟨S1x512, .f32⟩
  | .hbm, ⟨15, _⟩ => ⟨S128x128, .i1⟩
  | .hbm, ⟨16, _⟩ => ⟨S16x2048, .f32⟩
  | .hbm, ⟨17, _⟩ => ⟨S1024, .f32⟩
  | .hbm, ⟨18, _⟩ => ⟨S1024x2560, .f32⟩
  | .hbm, ⟨19, _⟩ => ⟨S512, .f32⟩
  | .hbm, ⟨20, _⟩ => ⟨S512, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S8x8, .i32⟩
  | .hbm, ⟨35, _⟩ => ⟨S8x8, .i32⟩
  | .hbm, ⟨36, _⟩ => ⟨S_, .i32⟩
  | .hbm, ⟨37, _⟩ => ⟨S8x8, .i32⟩
  | .hbm, ⟨38, _⟩ => ⟨S8x8, .i32⟩
  | .hbm, ⟨39, _⟩ => ⟨S8x8, .i1⟩
  | .hbm, ⟨40, _⟩ => ⟨S8x8, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S8x1x8x1, .f32⟩
  | .hbm, ⟨45, _⟩ => ⟨S1x64x1x64, .f32⟩
  | .hbm, ⟨46, _⟩ => ⟨S8x64x8x64, .f32⟩
  | .hbm, ⟨47, _⟩ => ⟨S8x64x8x64, .f32⟩
  | .hbm, ⟨48, _⟩ => ⟨S8x64x8x64, .f32⟩
  | .hbm, ⟨49, _⟩ => ⟨S512x512, .f32⟩
  | .hbm, ⟨50, _⟩ => ⟨S512x512, .bf16⟩
  | .hbm, ⟨51, _⟩ => ⟨S1x1024, .f32⟩
  | .hbm, ⟨52, _⟩ => ⟨S1024x2560, .bf16⟩
  | .hbm, ⟨53, _⟩ => ⟨S1x512, .f32⟩
  | .hbm, ⟨54, _⟩ => ⟨S1x512, .f32⟩
  | .hbm, ⟨55, _⟩ => ⟨S128x4x512, .f32⟩
  | .hbm, ⟨56, _⟩ => ⟨S128x4x512, .f32⟩
  | .hbm, ⟨57, _⟩ => ⟨S128x4x512, .f32⟩
  | .hbm, ⟨58, _⟩ => ⟨S128x2048x8x64, .f32⟩
  | .hbm, ⟨59, _⟩ => ⟨S128x2048x8x64, .f32⟩
  | .hbm, ⟨60, _⟩ => ⟨S128x4x1x512, .f32⟩
  | .hbm, ⟨61, _⟩ => ⟨S128x4x1x512, .f32⟩
  | .hbm, ⟨62, _⟩ => ⟨S128x4x1x512, .f32⟩
  | .hbm, ⟨63, _⟩ => ⟨S128x4x3x512, .f32⟩
  | .hbm, ⟨64, _⟩ => ⟨S128x4x3x8x64, .f32⟩
  | .hbm, ⟨65, _⟩ => ⟨S128x8x3x4x64, .f32⟩
  | .hbm, ⟨66, _⟩ => ⟨S_, .i32⟩
  | .hbm, ⟨67, _⟩ => ⟨S_, .f32⟩
  | .hbm, ⟨68, _⟩ => ⟨S128x8x3x8x64, .f32⟩
  | .hbm, ⟨69, _⟩ => ⟨S1024x3x8x64, .f32⟩
  | .hbm, ⟨70, _⟩ => ⟨S128x8x64x2048, .f32⟩
  | .hbm, ⟨71, _⟩ => ⟨S1024x64x2048, .f32⟩
  | .hbm, ⟨72, _⟩ => ⟨S128x8x64x2048, .f32⟩
  | .hbm, ⟨73, _⟩ => ⟨S1024x64x2048, .f32⟩
  | .hbm, ⟨74, _⟩ => ⟨S8x128x128, .f32⟩
  | .hbm, ⟨75, _⟩ => ⟨S8x128, .f32⟩
  | .hbm, ⟨76, _⟩ => ⟨S512, .f32⟩
  | .hbm, ⟨77, _⟩ => ⟨S_, .f32⟩
  | .hbm, ⟨78, _⟩ => ⟨S_, .f32⟩
  | .hbm, ⟨79, _⟩ => ⟨S8x128x128, .i1⟩
  | .hbm, ⟨80, _⟩ => ⟨S8x128x128, .f32⟩
  | .hbm, ⟨81, _⟩ => ⟨S8x128x128, .f32⟩
  | .hbm, ⟨82, _⟩ => ⟨S8x128x128, .bf16⟩
  | .hbm, ⟨83, _⟩ => ⟨S128x8, .f32⟩
  | .hbm, ⟨84, _⟩ => ⟨S128x8x64, .f32⟩
  | .hbm, ⟨85, _⟩ => ⟨S128x512, .f32⟩
  | .hbm, ⟨86, _⟩ => ⟨S16384x1024, .f32⟩
  | .hbm, ⟨87, _⟩ => ⟨S1x512, .f32⟩
  | .hbm, ⟨88, _⟩ => ⟨S8x4x2048x128, .f32⟩
  | .hbm, ⟨89, _⟩ => ⟨S8x4x2048x128, .f32⟩
  | .hbm, ⟨90, _⟩ => ⟨S8x4x2048x128, .f32⟩
  | .hbm, ⟨91, _⟩ => ⟨S8x512x2048, .f32⟩
  | .hbm, ⟨92, _⟩ => ⟨S8x512x2048, .f32⟩
  | .hbm, ⟨93, _⟩ => ⟨S16384x512, .bf16⟩
  | .hbm, ⟨94, _⟩ => ⟨S128x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S8x128x128, .bf16⟩
  | .local _ .vmem, ⟨10, _⟩ => ⟨S128x512, .f32⟩
  | .local _ .vmem, ⟨11, _⟩ => ⟨S1x512, .f32⟩
  | .local _ .vmem, ⟨12, _⟩ => ⟨S4x3x8x64, .f32⟩
  | .local _ .vmem, ⟨13, _⟩ => ⟨S4x3x8x64, .f32⟩
  | .local _ .vmem, ⟨14, _⟩ => ⟨S4x64x2048, .f32⟩
  | .local _ .vmem, ⟨15, _⟩ => ⟨S4x64x2048, .f32⟩
  | .local _ .vmem, ⟨16, _⟩ => ⟨S4x64x2048, .f32⟩
  | .local _ .vmem, ⟨17, _⟩ => ⟨S4x64x2048, .f32⟩
  | .local _ .vmem, ⟨18, _⟩ => ⟨S16x2048, .f32⟩
  | .local _ .vmem, ⟨19, _⟩ => ⟨S1x4x512x128, .f32⟩
  | .local _ .vmem, ⟨20, _⟩ => ⟨S1x4x512x128, .f32⟩
  | .local _ .vmem, ⟨21, _⟩ => ⟨S1x4x512x128, .f32⟩
  | .local _ .vmem, ⟨22, _⟩ => ⟨S1x4x512x128, .f32⟩
  | .local _ .vmem, ⟨23, _⟩ => ⟨S1x4x512x128, .f32⟩
  | .local _ .vmem, ⟨24, _⟩ => ⟨S1x4x512x128, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S512x512, .bf16⟩
  | .local _ .vmem, ⟨30, _⟩ => ⟨S512x512, .bf16⟩
  | .local _ .vmem, ⟨31, _⟩ => ⟨S4x16x64, .f32⟩
  | .local _ .vmem, ⟨32, _⟩ => ⟨S4x16x64, .f32⟩
  | .local _ .vmem, ⟨33, _⟩ => ⟨S4x16x2048, .f32⟩
  | .local _ .vmem, ⟨34, _⟩ => ⟨S4x16x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_3 : Ref sig .tc := ⟨.hbm, 66, rfl⟩
abbrev main_call1_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_4 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56_0 : Ref sig .tc := ⟨.hbm, 88, rfl⟩
abbrev main_v56_1 : Ref sig .tc := ⟨.hbm, 89, rfl⟩
abbrev main_v56_2 : Ref sig .tc := ⟨.hbm, 90, rfl⟩
abbrev main_v56_3 : Ref sig .tc := ⟨.hbm, 91, rfl⟩
abbrev main_v56_4 : Ref sig .tc := ⟨.hbm, 92, rfl⟩
abbrev main_v56_5 : Ref sig .tc := ⟨.hbm, 93, rfl⟩
abbrev main_v56_6 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 3 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x3x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x4x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x16x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S8x2048x1024 : Shape := ⟨3, ![8, 2048, 1024]⟩
abbrev S128x4x8x64 : Shape := ⟨4, ![128, 4, 8, 64]⟩
abbrev S1x128x2048x8x64 : Shape := ⟨5, ![1, 128, 2048, 8, 64]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1x64 : Shape := ⟨2, ![1, 64]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2560 : Shape := ⟨2, ![1024, 2560]⟩
abbrev S8x2048x2560 : Shape := ⟨3, ![8, 2048, 2560]⟩
abbrev S8x2048x512 : Shape := ⟨3, ![8, 2048, 512]⟩
abbrev S512 : Shape := ⟨1, ![512]⟩
abbrev S1x1x512 : Shape := ⟨3, ![1, 1, 512]⟩
abbrev S128x128 : Shape := ⟨2, ![128, 128]⟩
abbrev S8x128x128 : Shape := ⟨3, ![8, 128, 128]⟩
abbrev S8x16x128x8x64 : Shape := ⟨5, ![8, 16, 128, 8, 64]⟩
abbrev S8x8x16x64x128 : Shape := ⟨5, ![8, 8, 16, 64, 128]⟩
abbrev S8x128 : Shape := ⟨2, ![8, 128]⟩
abbrev S128x8 : Shape := ⟨2, ![128, 8]⟩
abbrev S1x1x128x8x1 : Shape := ⟨5, ![1, 1, 128, 8, 1]⟩
abbrev S16384x512 : Shape := ⟨2, ![16384, 512]⟩
abbrev S8x2048x8x64 : Shape := ⟨4, ![8, 2048, 8, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x4x128 : Shape := ⟨4, ![8, 2048, 4, 128]⟩
abbrev S8x4x2048x128 : Shape := ⟨4, ![8, 4, 2048, 128]⟩
abbrev S8x512x2048 : Shape := ⟨3, ![8, 512, 2048]⟩

abbrev nBuf : Space → Nat
  | .hbm => 198
  | .vmem => 0
  | .smem => 0
  | _ => 0

abbrev hbmTy0_0 (i : Nat) : BufTy := match i % 128 with
  | 0 => ⟨S8x2048x1024, .f32⟩
  | 1 => ⟨S128x4x8x64, .f32⟩
  | 2 => ⟨S128x4x8x64, .f32⟩
  | 3 => ⟨S128x4x8x64, .f32⟩
  | 4 => ⟨S1x128x2048x8x64, .f32⟩
  | 5 => ⟨S1x128x2048x8x64, .f32⟩
  | 6 => ⟨S1x1024, .f32⟩
  | 7 => ⟨S1x1024x2560, .f32⟩
  | 8 => ⟨S1x512, .f32⟩
  | 9 => ⟨S1x512, .f32⟩
  | 10 => ⟨S1x8x128x128, .f32⟩
  | 11 => ⟨S1x8x128, .f32⟩
  | 12 => ⟨S1x64, .f32⟩
  | 13 => ⟨S1x64, .f32⟩
  | 14 => ⟨S1x512, .f32⟩
  | 15 => ⟨S1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S1024x2560, .f32⟩
  | 33 => ⟨S8x2048x2560, .f32⟩
  | 34 => ⟨S8x2048x512, .f32⟩
  | 35 => ⟨S8x2048x512, .f32⟩
  | 36 => ⟨S8x2048x512, .f32⟩
  | 37 => ⟨S8x2048x512, .f32⟩
  | 38 => ⟨S8x2048x512, .f32⟩
  | 39 => ⟨S8x2048x512, .f32⟩
  | 40 => ⟨S8x2048x512, .f32⟩
  | 41 => ⟨S_, .f32⟩
  | 42 => ⟨S8x2048x512, .f32⟩
  | 43 => ⟨S8x2048x512, .f32⟩
  | 44 => ⟨S8x2048x512, .f32⟩
  | 45 => ⟨S_, .f32⟩
  | 46 => ⟨S8x2048x512, .f32⟩
  | 47 => ⟨S8x2048x512, .f32⟩
  | 48 => ⟨S8x2048x512, .f32⟩
  | 49 => ⟨S_, .f32⟩
  | 50 => ⟨S8x2048x512, .f32⟩
  | 51 => ⟨S8x2048x512, .f32⟩
  | 52 => ⟨S_, .f32⟩
  | 53 => ⟨S8x2048x512, .f32⟩
  | 54 => ⟨S8x2048x512, .f32⟩
  | 55 => ⟨S8x2048x512, .f32⟩
  | 56 => ⟨S8x2048x512, .f32⟩
  | 57 => ⟨S8x2048x512, .f32⟩
  | 58 => ⟨S_, .f32⟩
  | 59 => ⟨S8x2048x512, .f32⟩
  | 60 => ⟨S8x2048x512, .f32⟩
  | 61 => ⟨S8x2048x512, .f32⟩
  | 62 => ⟨S_, .f32⟩
  | 63 => ⟨S8x2048x512, .f32⟩
  | 64 => ⟨S8x2048x512, .f32⟩
  | 65 => ⟨S8x2048x512, .f32⟩
  | 66 => ⟨S_, .f32⟩
  | 67 => ⟨S8x2048x512, .f32⟩
  | 68 => ⟨S8x2048x512, .f32⟩
  | 69 => ⟨S_, .f32⟩
  | 70 => ⟨S8x2048x512, .f32⟩
  | 71 => ⟨S8x2048x512, .f32⟩
  | 72 => ⟨S8x2048x512, .f32⟩
  | 73 => ⟨S_, .f32⟩
  | 74 => ⟨S8x2048, .f32⟩
  | 75 => ⟨S8x2048x1, .f32⟩
  | 76 => ⟨S_, .f32⟩
  | 77 => ⟨S8x2048x1, .f32⟩
  | 78 => ⟨S8x2048x1, .f32⟩
  | 79 => ⟨S8x2048x512, .f32⟩
  | 80 => ⟨S8x2048x512, .f32⟩
  | 81 => ⟨S8x2048x512, .f32⟩
  | 82 => ⟨S_, .f32⟩
  | 83 => ⟨S8x2048, .f32⟩
  | 84 => ⟨S8x2048x1, .f32⟩
  | 85 => ⟨S_, .f32⟩
  | 86 => ⟨S8x2048x1, .f32⟩
  | 87 => ⟨S8x2048x1, .f32⟩
  | 88 => ⟨S_, .f32⟩
  | 89 => ⟨S8x2048x1, .f32⟩
  | 90 => ⟨S8x2048x1, .f32⟩
  | 91 => ⟨S8x2048x1, .f32⟩
  | 92 => ⟨S8x2048x512, .f32⟩
  | 93 => ⟨S8x2048x512, .f32⟩
  | 94 => ⟨S512, .f32⟩
  | 95 => ⟨S1x1x512, .f32⟩
  | 96 => ⟨S8x2048x512, .f32⟩
  | 97 => ⟨S8x2048x512, .f32⟩
  | 98 => ⟨S512, .f32⟩
  | 99 => ⟨S1x1x512, .f32⟩
  | 100 => ⟨S8x2048x512, .f32⟩
  | 101 => ⟨S8x2048x512, .f32⟩
  | 102 => ⟨S_, .i1⟩
  | 103 => ⟨S128x128, .i1⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .i1⟩
  | 111 => ⟨S128x128, .i1⟩
  | 112 => ⟨S128x128, .i1⟩
  | 113 => ⟨S8x128x128, .f32⟩
  | 114 => ⟨S_, .f32⟩
  | 115 => ⟨S_, .f32⟩
  | 116 => ⟨S8x128x128, .i1⟩
  | 117 => ⟨S8x128x128, .f32⟩
  | 118 => ⟨S8x128x128, .f32⟩
  | 119 => ⟨S8x16x128x8x64, .f32⟩
  | 120 => ⟨S8x8x16x64x128, .f32⟩
  | 121 => ⟨S8x16x128x8x64, .f32⟩
  | 122 => ⟨S8x128, .f32⟩
  | 123 => ⟨S128x8, .f32⟩
  | 124 => ⟨S1x1x128x8x1, .f32⟩
  | 125 => ⟨S8x16x128x8x64, .f32⟩
  | 126 => ⟨S8x16x128x8x64, .f32⟩
  | 127 => ⟨S8x2048x512, .f32⟩
  | _ => ⟨S8x2048x1024, .f32⟩

abbrev hbmTy0_1 (i : Nat) : BufTy := match i % 128 with
  | 0 => ⟨S8x2048x512, .f32⟩
  | 1 => ⟨S512, .f32⟩
  | 2 => ⟨S8x2048x512, .f32⟩
  | 3 => ⟨S_, .f32⟩
  | 4 => ⟨S8x2048, .f32⟩
  | 5 => ⟨S8x2048x1, .f32⟩
  | 6 => ⟨S_, .f32⟩
  | 7 => ⟨S8x2048x1, .f32⟩
  | 8 => ⟨S8x2048x1, .f32⟩
  | 9 => ⟨S_, .f32⟩
  | 10 => ⟨S8x2048x1, .f32⟩
  | 11 => ⟨S8x2048x1, .f32⟩
  | 12 => ⟨S8x2048x1, .f32⟩
  | 13 => ⟨S8x2048x512, .f32⟩
  | 14 => ⟨S8x2048x512, .f32⟩
  | 15 => ⟨S1x1x512, .f32⟩
  | 16 => ⟨S8x2048x512, .f32⟩
  | 17 => ⟨S8x2048x512, .f32⟩
  | 18 => ⟨S16384x512, .f32⟩
  | 19 => ⟨S8x2048x8x64, .f32⟩
  | 20 => ⟨S64, .f32⟩
  | 21 => ⟨S8x2048x8x64, .f32⟩
  | 22 => ⟨S_, .f32⟩
  | 23 => ⟨S8x2048x8, .f32⟩
  | 24 => ⟨S8x2048x8x1, .f32⟩
  | 25 => ⟨S_, .f32⟩
  | 26 => ⟨S8x2048x8x1, .f32⟩
  | 27 => ⟨S8x2048x8x1, .f32⟩
  | 28 => ⟨S_, .f32⟩
  | 29 => ⟨S8x2048x8x1, .f32⟩
  | 30 => ⟨S8x2048x8x1, .f32⟩
  | 31 => ⟨S8x2048x8x1, .f32⟩
  | 32 => ⟨S8x2048x8x64, .f32⟩
  | 33 => ⟨S8x2048x8x64, .f32⟩
  | 34 => ⟨S1x1x1x64, .f32⟩
  | 35 => ⟨S8x2048x8x64, .f32⟩
  | 36 => ⟨S8x2048x8x64, .f32⟩
  | 37 => ⟨S_, .f32⟩
  | 38 => ⟨S8x2048x8x64, .f32⟩
  | 39 => ⟨S8x2048x8x64, .f32⟩
  | 40 => ⟨S8x2048x8x64, .f32⟩
  | 41 => ⟨S64, .f32⟩
  | 42 => ⟨S8x2048x8x64, .f32⟩
  | 43 => ⟨S_, .f32⟩
  | 44 => ⟨S8x2048x8, .f32⟩
  | 45 => ⟨S8x2048x8x1, .f32⟩
  | 46 => ⟨S_, .f32⟩
  | 47 => ⟨S8x2048x8x1, .f32⟩
  | 48 => ⟨S8x2048x8x1, .f32⟩
  | 49 => ⟨S_, .f32⟩
  | 50 => ⟨S8x2048x8x1, .f32⟩
  | 51 => ⟨S8x2048x8x1, .f32⟩
  | 52 => ⟨S8x2048x8x1, .f32⟩
  | 53 => ⟨S8x2048x8x64, .f32⟩
  | 54 => ⟨S8x2048x8x64, .f32⟩
  | 55 => ⟨S1x1x1x64, .f32⟩
  | 56 => ⟨S8x2048x8x64, .f32⟩
  | 57 => ⟨S8x2048x8x64, .f32⟩
  | 58 => ⟨S8x2048x8x64, .f32⟩
  | 59 => ⟨S8x2048x4x128, .f32⟩
  | 60 => ⟨S8x4x2048x128, .f32⟩
  | 61 => ⟨S8x2048x4x128, .f32⟩
  | 62 => ⟨S8x4x2048x128, .f32⟩
  | 63 => ⟨S8x2048x4x128, .f32⟩
  | 64 => ⟨S8x4x2048x128, .f32⟩
  | 65 => ⟨S8x2048x512, .f32⟩
  | 66 => ⟨S8x512x2048, .f32⟩
  | 67 => ⟨S8x2048x512, .f32⟩
  | 68 => ⟨S8x512x2048, .f32⟩
  | 69 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c : Ref sig .tc := ⟨.hbm, 102, rfl⟩
abbrev main_v71 : Ref sig .tc := ⟨.hbm, 103, rfl⟩
abbrev main_call0_v0 : Ref sig .tc := ⟨.hbm, 104, rfl⟩
abbrev main_call0_c : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_c_0 : Ref sig .tc := ⟨.hbm, 110, rfl⟩
abbrev main_call0_v5 : Ref sig .tc := ⟨.hbm, 111, rfl⟩
abbrev main_v72 : Ref sig .tc := ⟨.hbm, 112, rfl⟩
abbrev main_v73 : Ref sig .tc := ⟨.hbm, 113, rfl⟩
abbrev main_cst_15 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_16 : Ref sig .tc := ⟨.hbm, 131, rfl⟩
abbrev main_v87 : Ref sig .tc := ⟨.hbm, 132, rfl⟩
abbrev main_v88 : Ref sig .tc := ⟨.hbm, 133, rfl⟩
abbrev main_cst_17 : Ref sig .tc := ⟨.hbm, 134, rfl⟩
abbrev main_v89 : Ref sig .tc := ⟨.hbm, 135, rfl⟩
abbrev main_v90 : Ref sig .tc := ⟨.hbm, 136, rfl⟩
abbrev main_cst_18 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_19 : Ref sig .tc := ⟨.hbm, 150, rfl⟩
abbrev main_v103 : Ref sig .tc := ⟨.hbm, 151, rfl⟩
abbrev main_v104 : Ref sig .tc := ⟨.hbm, 152, rfl⟩
abbrev main_cst_20 : Ref sig .tc := ⟨.hbm, 153, rfl⟩
abbrev main_v105 : Ref sig .tc := ⟨.hbm, 154, rfl⟩
abbrev main_v106 : Ref sig .tc := ⟨.hbm, 155, rfl⟩
abbrev main_cst_21 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_22 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_23 : Ref sig .tc := ⟨.hbm, 171, rfl⟩
abbrev main_v120 : Ref sig .tc := ⟨.hbm, 172, rfl⟩
abbrev main_v121 : Ref sig .tc := ⟨.hbm, 173, rfl⟩
abbrev main_cst_24 : Ref sig .tc := ⟨.hbm, 174, rfl⟩
abbrev main_v122 : Ref sig .tc := ⟨.hbm, 175, rfl⟩
abbrev main_v123 : Ref sig .tc := ⟨.hbm, 176, rfl⟩
abbrev main_cst_25 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩

abbrev nD : Nat := 1
abbrev τ : Topo := Topo.v7x

variable {F : FTy → Type} [FloatOps F]
-- ==== Kernel3.lean ====
abbrev S128x4x1024 : Shape := ⟨3, ![128, 4, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1x64 : Shape := ⟨2, ![1, 64]⟩
abbrev S8 : Shape := ⟨1, ![8]⟩
abbrev S8x1 : Shape := ⟨2, ![8, 1]⟩
abbrev S1024 : Shape := ⟨1, ![1024]⟩
abbrev S1024x2560 : Shape := ⟨2, ![1024, 2560]⟩
abbrev S512 : Shape := ⟨1, ![512]⟩
abbrev S64 : Shape := ⟨1, ![64]⟩
abbrev S8x64 : Shape := ⟨2, ![8, 64]⟩
abbrev S_ : Shape := ⟨0, ![]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S8x128x128 : Shape := ⟨3, ![8, 128, 128]⟩
abbrev S8x128 : Shape := ⟨2, ![8, 128]⟩
abbrev S8x4x4 : Shape := ⟨3, ![8, 4, 4]⟩
abbrev S8x2 : Shape := ⟨2, ![8, 2]⟩
abbrev S8x8x64 : Shape := ⟨3, ![8, 8, 64]⟩
abbrev S8x512 : Shape := ⟨2, ![8, 512]⟩
abbrev S1x8x512 : Shape := ⟨3, ![1, 8, 512]⟩
abbrev S4x8x512 : Shape := ⟨3, ![4, 8, 512]⟩
abbrev S512x1024 : Shape := ⟨2, ![512, 1024]⟩
abbrev S512x1 : Shape := ⟨2, ![512, 1]⟩
abbrev S1024x512 : Shape := ⟨2, ![1024, 512]⟩
abbrev S64x8x512 : Shape := ⟨3, ![64, 8, 512]⟩
abbrev S512x128 : Shape := ⟨2, ![512, 128]⟩
abbrev S1x128 : Shape := ⟨2, ![1, 128]⟩

abbrev nBuf : Space → Nat
  | .hbm => 175
  | .vmem => 16
  | .smem => 0
  | _ => 0

abbrev hbmTy0_0 (i : Nat) : BufTy := match i % 128 with
  | 0 => ⟨S128x4x1024, .f32⟩
  | 1 => ⟨S1x1024, .f32⟩
  | 2 => ⟨S1x1024x2560, .f32⟩
  | 3 => ⟨S1x512, .f32⟩
  | 4 => ⟨S1x512, .f32⟩
  | 5 => ⟨S1x8x128x128, .f32⟩
  | 6 => ⟨S1x8x128, .f32⟩
  | 7 => ⟨S1x64, .f32⟩
  | 8 => ⟨S1x64, .f32⟩
  | 9 => ⟨S1x512, .f32⟩
  | 10 => ⟨S8, .i32⟩
  | 11 => ⟨S8, .i1⟩
  | 12 => ⟨S8, .i32⟩
  | 13 => ⟨S8, .i1⟩
  | 14 => ⟨S8, .i1⟩
  | 15 => ⟨S8x1, .i1⟩
  | 16 => ⟨S8, .i1⟩
  | 17 => ⟨S8, .i32⟩
  | 18 => ⟨S8, .i1⟩
  | 19 => ⟨S8, .i1⟩
  | 20 => ⟨S8x1, .i1⟩
  | 21 => ⟨S8, .i1⟩
  | 22 => ⟨S8, .i32⟩
  | 23 => ⟨S8, .i1⟩
  | 24 => ⟨S8, .i1⟩
  | 25 => ⟨S8x1, .i1⟩
  | 26 => ⟨S8, .i1⟩
  | 27 => ⟨S8, .i32⟩
  | 28 => ⟨S8, .i1⟩
  | 29 => ⟨S8, .i1⟩
  | 30 => ⟨S8x1, .i1⟩
  | 31 => ⟨S8, .i1⟩
  | 32 => ⟨S1024, .f32⟩
  | 33 => ⟨S1024x2560, .f32⟩
  | 34 => ⟨S512, .f32⟩
  | 35 => ⟨S512, .f32⟩
  | 36 => ⟨S64, .f32⟩
  | 37 => ⟨S64, .f32⟩
  | 38 => ⟨S1x64, .f32⟩
  | 39 => ⟨S8x64, .f32⟩
  | 40 => ⟨S512, .f32⟩
  | 41 => ⟨S_, .f32⟩
  | 42 => ⟨S512, .f32⟩
  | 43 => ⟨S512, .f32⟩
  | 44 => ⟨S1x512, .f32⟩
  | 45 => ⟨S1x64, .f32⟩
  | 46 => ⟨S8x64, .f32⟩
  | 47 => ⟨S512, .f32⟩
  | 48 => ⟨S1x512, .f32⟩
  | 49 => ⟨S8x8, .i32⟩
  | 50 => ⟨S8x8, .i32⟩
  | 51 => ⟨S_, .i32⟩
  | 52 => ⟨S8x8, .i32⟩
  | 53 => ⟨S8x8, .i32⟩
  | 54 => ⟨S8x8, .i1⟩
  | 55 => ⟨S8x8, .f32⟩
  | 56 => ⟨S_, .f32⟩
  | 57 => ⟨S64x64, .f32⟩
  | 58 => ⟨S64x64, .f32⟩
  | 59 => ⟨S8x1x8x1, .f32⟩
  | 60 => ⟨S1x64x1x64, .f32⟩
  | 61 => ⟨S8x64x8x64, .f32⟩
  | 62 => ⟨S8x64x8x64, .f32⟩
  | 63 => ⟨S8x64x8x64, .f32⟩
  | 64 => ⟨S512x512, .f32⟩
  | 65 => ⟨S512x512, .bf16⟩
  | 66 => ⟨S1x1024, .f32⟩
  | 67 => ⟨S1024x2560, .bf16⟩
  | 68 => ⟨S1x512, .f32⟩
  | 69 => ⟨S1x512, .f32⟩
  | 70 => ⟨S8x128x128, .f32⟩
  | 71 => ⟨S8x128, .f32⟩
  | 72 => ⟨S512, .f32⟩
  | 73 => ⟨S8x4x4, .f32⟩
  | 74 => ⟨S_, .i32⟩
  | 75 => ⟨S8, .i32⟩
  | 76 => ⟨S8, .i32⟩
  | 77 => ⟨S8, .i32⟩
  | 78 => ⟨S_, .i32⟩
  | 79 => ⟨S8, .i32⟩
  | 80 => ⟨S8, .i32⟩
  | 81 => ⟨S8, .i32⟩
  | 82 => ⟨S8x1, .i32⟩
  | 83 => ⟨S8x1, .i32⟩
  | 84 => ⟨S8x2, .i32⟩
  | 85 => ⟨S8x8, .f32⟩
  | 86 => ⟨S8x8, .f32⟩
  | 87 => ⟨S_, .f32⟩
  | 88 => ⟨S_, .f32⟩
  | 89 => ⟨S8x8, .i1⟩
  | 90 => ⟨S8x8, .f32⟩
  | 91 => ⟨S8x8, .f32⟩
  | 92 => ⟨S8x8x64, .f32⟩
  | 93 => ⟨S8x512, .f32⟩
  | 94 => ⟨S_, .i32⟩
  | 95 => ⟨S8, .i32⟩
  | 96 => ⟨S8, .i32⟩
  | 97 => ⟨S8, .i32⟩
  | 98 => ⟨S_, .i32⟩
  | 99 => ⟨S8, .i32⟩
  | 100 => ⟨S8, .i32⟩
  | 101 => ⟨S8, .i32⟩
  | 102 => ⟨S8x1, .i32⟩
  | 103 => ⟨S8x1, .i32⟩
  | 104 => ⟨S8x2, .i32⟩
  | 105 => ⟨S8x8, .f32⟩
  | 106 => ⟨S8x8, .f32⟩
  | 107 => ⟨S_, .f32⟩
  | 108 => ⟨S_, .f32⟩
  | 109 => ⟨S8x8, .i1⟩
  | 110 => ⟨S8x8, .f32⟩
  | 111 => ⟨S8x8, .f32⟩
  | 112 => ⟨S8x8x64, .f32⟩
  | 113 => ⟨S8x512, .f32⟩
  | 114 => ⟨S_, .i32⟩
  | 115 => ⟨S8, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S8x1, .i32⟩
  | 123 => ⟨S8x1, .i32⟩
  | 124 => ⟨S8x2, .i32⟩
  | 125 => ⟨S8x8, .f32⟩
  | 126 => ⟨S8x8, .f32⟩
  | 127 => ⟨S_, .f32⟩
  | _ => ⟨S128x4x1024, .f32⟩

abbrev hbmTy0_1 (i : Nat) : BufTy := match i % 128 with
  | 0 => ⟨S_, .f32⟩
  | 1 => ⟨S8x8, .i1⟩
  | 2 => ⟨S8x8, .f32⟩
  | 3 => ⟨S8x8, .f32⟩
  | 4 => ⟨S8x8x64, .f32⟩
  | 5 => ⟨S8x512, .f32⟩
  | 6 => ⟨S_, .i32⟩
  | 7 => ⟨S8, .i32⟩
  | 8 => ⟨S8, .i32⟩
  | 9 => ⟨S8, .i32⟩
  | 10 => ⟨S_, .i32⟩
  | 11 => ⟨S8, .i32⟩
  | 12 => ⟨S8, .i32⟩
  | 13 => ⟨S8, .i32⟩
  | 14 => ⟨S8x1, .i32⟩
  | 15 => ⟨S8x1, .i32⟩
  | 16 => ⟨S8x2, .i32⟩
  | 17 => ⟨S8x8, .f32⟩
  | 18 => ⟨S8x8, .f32⟩
  | 19 => ⟨S_, .f32⟩
  | 20 => ⟨S_, .f32⟩
  | 21 => ⟨S8x8, .i1⟩
  | 22 => ⟨S8x8, .f32⟩
  | 23 => ⟨S8x8, .f32⟩
  | 24 => ⟨S8x8x64, .f32⟩
  | 25 => ⟨S8x512, .f32⟩
  | 26 => ⟨S1x8x512, .f32⟩
  | 27 => ⟨S1x8x512, .f32⟩
  | 28 => ⟨S1x8x512, .f32⟩
  | 29 => ⟨S1x8x512, .f32⟩
  | 30 => ⟨S4x8x512, .f32⟩
  | 31 => ⟨S_, .i32⟩
  | 32 => ⟨S8, .i32⟩
  | 33 => ⟨S8, .i32⟩
  | 34 => ⟨S8, .i32⟩
  | 35 => ⟨S8x1, .i32⟩
  | 36 => ⟨S8x8, .f32⟩
  | 37 => ⟨S8x8, .f32⟩
  | 38 => ⟨S8x8x64, .f32⟩
  | 39 => ⟨S8x512, .f32⟩
  | 40 => ⟨S512x1024, .f32⟩
  | 41 => ⟨S1x512, .f32⟩
  | 42 => ⟨S512x512, .f32⟩
  | 43 => ⟨S512x512, .f32⟩
  | 44 => ⟨S512x512, .f32⟩
  | 45 => ⟨S512x512, .f32⟩
  | 46 => ⟨S512x512, .bf16⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1x1024, .f32⟩
  | .local _ .vmem, ⟨2, _⟩ => ⟨S1024x2560, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S4x8x512, .f32⟩
  | .local _ .vmem, ⟨9, _⟩ => ⟨S8x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_v0 : Ref sig .tc := ⟨.hbm, 15, rfl⟩
abbrev main_c_4 : Ref sig .tc := ⟨.hbm, 16, rfl⟩
abbrev main_c_5 : Ref sig .tc := ⟨.hbm, 17, rfl⟩
abbrev main_c_6 : Ref sig .tc := ⟨.hbm, 18, rfl⟩
abbrev main_c_7 : Ref sig .tc := ⟨.hbm, 19, rfl⟩
abbrev main_v1 : Ref sig .tc := ⟨.hbm, 20, rfl⟩
abbrev main_c_8 : Ref sig .tc := ⟨.hbm, 21, rfl⟩
abbrev main_c_9 : Ref sig .tc := ⟨.hbm, 22, rfl⟩
abbrev main_c_10 : Ref sig .tc := ⟨.hbm, 23, rfl⟩
abbrev main_c_11 : Ref sig .tc := ⟨.hbm, 24, rfl⟩
abbrev main_v2 : Ref sig .tc := ⟨.hbm, 25, rfl⟩
abbrev main_c_12 : Ref sig .tc := ⟨.hbm, 26, rfl⟩
abbrev main_c_13 : Ref sig .tc := ⟨.hbm, 27, rfl⟩
abbrev main_c_14 : Ref sig .tc := ⟨.hbm, 28, rfl⟩
abbrev main_c_15 : Ref sig .tc := ⟨.hbm, 29, rfl⟩
abbrev main_v3 : Ref sig .tc := ⟨.hbm, 30, rfl⟩
abbrev main_c_16 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_17 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_18 : Ref sig .tc := ⟨.hbm, 56, rfl⟩
abbrev main_v26 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_19 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_20 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_21 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_22 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_23 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_24 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_25 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_26 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_27 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_28 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_c_29 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_30 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_31 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108_0 : Ref sig .tc := ⟨.hbm, 170, rfl⟩
abbrev main_v108_1 : Ref sig .tc := ⟨.hbm, 171, rfl⟩
abbrev main_v108_2 : Ref sig .tc := ⟨.hbm, 172, rfl⟩
abbrev main_v108_3 : Ref sig .tc := ⟨.hbm, 173, rfl⟩
abbrev main_v108_4 : Ref sig .tc := ⟨.hbm, 174, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S128x4x1024 : Shape := ⟨3, ![128, 4, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1x64 : Shape := ⟨2, ![1, 64]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2560 : Shape := ⟨2, ![1024, 2560]⟩
abbrev S128x4x2560 : Shape := ⟨3, ![128, 4, 2560]⟩
abbrev S128x4x512 : Shape := ⟨3, ![128, 4, 512]⟩
abbrev S512 : Shape := ⟨1, ![512]⟩
abbrev S1x1x512 : Shape := ⟨3, ![1, 1, 512]⟩
abbrev S128x4x8x64 : Shape := ⟨4, ![128, 4, 8, 64]⟩
abbrev S64 : Shape := ⟨1, ![64]⟩
abbrev S128x4x8 : Shape := ⟨3, ![128, 4, 8]⟩
abbrev S128x4x8x1 : Shape := ⟨4, ![128, 4, 8, 1]⟩
abbrev S1x1x1x64 : Shape := ⟨4, ![1, 1, 1, 64]⟩
abbrev S512x512 : Shape := ⟨2, ![512, 512]⟩

abbrev nBuf : Space → Nat
  | .hbm => 122
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x64, .f32⟩
  | .hbm, ⟨8, _⟩ => ⟨S1x64, .f32⟩
  | .hbm, ⟨9, _⟩ => ⟨S1x512, .f32⟩
  | .hbm, ⟨10, _⟩ => ⟨S1024, .f32⟩
  | .hbm, ⟨11, _⟩ => ⟨S128x4x1024, .f32⟩
  | .hbm, ⟨12, _⟩ => ⟨S_, .f32⟩
  | .hbm, ⟨13, _⟩ => ⟨S128x4, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S128x4x1, .f32⟩
  | .hbm, ⟨22, _⟩ => ⟨S128x4x1024, .f32⟩
  | .hbm, ⟨23, _⟩ => ⟨S128x4x1024, .f32⟩
  | .hbm, ⟨24, _⟩ => ⟨S1x1x1024, .f32⟩
  | .hbm, ⟨25, _⟩ => ⟨S128x4x1024, .f32⟩
  | .hbm, ⟨26, _⟩ => ⟨S128x4x1024, .f32⟩
  | .hbm, ⟨27, _⟩ => ⟨S1024x2560, .f32⟩
  | .hbm, ⟨28, _⟩ => ⟨S128x4x2560, .f32⟩
  | .hbm, ⟨29, _⟩ => ⟨S128x4x512, .f32⟩
  | .hbm, ⟨30, _⟩ => ⟨S128x4x512, .f32⟩
  | .hbm, ⟨31, _⟩ => ⟨S128x4x512, .f32⟩
  | .hbm, ⟨32, _⟩ => ⟨S128x4x512, .f32⟩
  | .hbm, ⟨33, _⟩ => ⟨S128x4x512, .f32⟩
  | .hbm, ⟨34, _⟩ => ⟨S128x4x512, .f32⟩
  | .hbm, ⟨35, _⟩ => ⟨S_, .f32⟩
  | .hbm, ⟨36, _⟩ => ⟨S128x4x512, .f32⟩
  | .hbm, ⟨37, _⟩ => ⟨S128x4x512, .f32⟩
  | .hbm, ⟨38, _⟩ => ⟨S128x4x512, .f32⟩
  | .hbm, ⟨39, _⟩ => ⟨S_, .f32⟩
  | .hbm, ⟨40, _⟩ => ⟨S128x4x512, .f32⟩
  | .hbm, ⟨41, _⟩ => ⟨S128x4x512, .f32⟩
  | .hbm, ⟨42, _⟩ => ⟨S128x4x512, .f32⟩
  | .hbm, ⟨43, _⟩ => ⟨S_, .f32⟩
  | .hbm, ⟨44, _⟩ => ⟨S128x4x512, .f32⟩
  | .hbm, ⟨45, _⟩ => ⟨S128x4x512, .f32⟩
  | .hbm, ⟨46, _⟩ => ⟨S_, .f32⟩
  | .hbm, ⟨47, _⟩ => ⟨S128x4x512, .f32⟩
  | .hbm, ⟨48, _⟩ => ⟨S128x4x512, .f32⟩
  | .hbm, ⟨49, _⟩ => ⟨S128x4x512, .f32⟩
  | .hbm, ⟨50, _⟩ => ⟨S_, .f32⟩
  | .hbm, ⟨51, _⟩ => ⟨S128x4, .f32⟩
  | .hbm, ⟨52, _⟩ => ⟨S128x4x1, .f32⟩
  | .hbm, ⟨53, _⟩ => ⟨S_, .f32⟩
  | .hbm, ⟨54, _⟩ => ⟨S128x4x1, .f32⟩
  | .hbm, ⟨55, _⟩ => ⟨S128x4x1, .f32⟩
  | .hbm, ⟨56, _⟩ => ⟨S128x4x512, .f32⟩
  | .hbm, ⟨57, _⟩ => ⟨S128x4x512, .f32⟩
  | .hbm, ⟨58, _⟩ => ⟨S128x4x512, .f32⟩
  | .hbm, ⟨59, _⟩ => ⟨S_, .f32⟩
  | .hbm, ⟨60, _⟩ => ⟨S128x4, .f32⟩
  | .hbm, ⟨61, _⟩ => ⟨S128x4x1, .f32⟩
  | .hbm, ⟨62, _⟩ => ⟨S_, .f32⟩
  | .hbm, ⟨63, _⟩ => ⟨S128x4x1, .f32⟩
  | .hbm, ⟨64, _⟩ => ⟨S128x4x1, .f32⟩
  | .hbm, ⟨65, _⟩ => ⟨S_, .f32⟩
  | .hbm, ⟨66, _⟩ => ⟨S128x4x1, .f32⟩
  | .hbm, ⟨67, _⟩ => ⟨S128x4x1, .f32⟩
  | .hbm, ⟨68, _⟩ => ⟨S128x4x1, .f32⟩
  | .hbm, ⟨69, _⟩ => ⟨S128x4x512, .f32⟩
  | .hbm, ⟨70, _⟩ => ⟨S128x4x512, .f32⟩
  | .hbm, ⟨71, _⟩ => ⟨S512, .f32⟩
  | .hbm, ⟨72, _⟩ => ⟨S1x1x512, .f32⟩
  | .hbm, ⟨73, _⟩ => ⟨S128x4x512, .f32⟩
  | .hbm, ⟨74, _⟩ => ⟨S128x4x512, .f32⟩
  | .hbm, ⟨75, _⟩ => ⟨S512, .f32⟩
  | .hbm, ⟨76, _⟩ => ⟨S1x1x512, .f32⟩
  | .hbm, ⟨77, _⟩ => ⟨S128x4x512, .f32⟩
  | .hbm, ⟨78, _⟩ => ⟨S128x4x512, .f32⟩
  | .hbm, ⟨79, _⟩ => ⟨S128x4x8x64, .f32⟩
  | .hbm, ⟨80, _⟩ => ⟨S64, .f32⟩
  | .hbm, ⟨81, _⟩ => ⟨S128x4x8x64, .f32⟩
  | .hbm, ⟨82, _⟩ => ⟨S_, .f32⟩
  | .hbm, ⟨83, _⟩ => ⟨S128x4x8, .f32⟩
  | .hbm, ⟨84, _⟩ => ⟨S128x4x8x1, .f32⟩
  | .hbm, ⟨85, _⟩ => ⟨S_, .f32⟩
  | .hbm, ⟨86, _⟩ => ⟨S128x4x8x1, .f32⟩
  | .hbm, ⟨87, _⟩ => ⟨S128x4x8x1, .f32⟩
  | .hbm, ⟨88, _⟩ => ⟨S_, .f32⟩
  | .hbm, ⟨89, _⟩ => ⟨S128x4x8x1, .f32⟩
  | .hbm, ⟨90, _⟩ => ⟨S128x4x8x1, .f32⟩
  | .hbm, ⟨91, _⟩ => ⟨S128x4x8x1, .f32⟩
  | .hbm, ⟨92, _⟩ => ⟨S128x4x8x64, .f32⟩
  | .hbm, ⟨93, _⟩ => ⟨S128x4x8x64, .f32⟩
  | .hbm, ⟨94, _⟩ => ⟨S1x1x1x64, .f32⟩
  | .hbm, ⟨95, _⟩ => ⟨S128x4x8x64, .f32⟩
  | .hbm, ⟨96, _⟩ => ⟨S128x4x8x64, .f32⟩
  | .hbm, ⟨97, _⟩ => ⟨S_, .f32⟩
  | .hbm, ⟨98, _⟩ => ⟨S128x4x8x64, .f32⟩
  | .hbm, ⟨99, _⟩ => ⟨S128x4x8x64, .f32⟩
  | .hbm, ⟨100, _⟩ => ⟨S512x512, .f32⟩
  | .hbm, ⟨101, _⟩ => ⟨S128x4x8x64, .f32⟩
  | .hbm, ⟨102, _⟩ => ⟨S64, .f32⟩
  | .hbm, ⟨103, _⟩ => ⟨S128x4x8x64, .f32⟩
  | .hbm, ⟨104, _⟩ => ⟨S_, .f32⟩
  | .hbm, ⟨105, _⟩ => ⟨S128x4x8, .f32⟩
  | .hbm, ⟨106, _⟩ => ⟨S128x4x8x1, .f32⟩
  | .hbm, ⟨107, _⟩ => ⟨S_, .f32⟩
  | .hbm, ⟨108, _⟩ => ⟨S128x4x8x1, .f32⟩
  | .hbm, ⟨109, _⟩ => ⟨S128x4x8x1, .f32⟩
  | .hbm, ⟨110, _⟩ => ⟨S_, .f32⟩
  | .hbm, ⟨111, _⟩ => ⟨S128x4x8x1, .f32⟩
  | .hbm, ⟨112, _⟩ => ⟨S128x4x8x1, .f32⟩
  | .hbm, ⟨113, _⟩ => ⟨S128x4x8x1, .f32⟩
  | .hbm, ⟨114, _⟩ => ⟨S128x4x8x64, .f32⟩
  | .hbm, ⟨115, _⟩ => ⟨S128x4x8x64, .f32⟩
  | .hbm, ⟨116, _⟩ => ⟨S1x1x1x64, .f32⟩
  | .hbm, ⟨117, _⟩ => ⟨S128x4x8x64, .f32⟩
  | .hbm, ⟨118, _⟩ => ⟨S128x4x8x64, .f32⟩
  | .hbm, ⟨119, _⟩ => ⟨S512x512, .f32⟩
  | .hbm, ⟨120, _⟩ => ⟨S512x512, .f32⟩
  | .hbm, ⟨121, _⟩ => ⟨S512x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Proof.RowSpec.lean ====
module

public import Idealize.ShloMosaic.Lib.Pointwise

/-! The finish of one token, as mathematics on rows of extended reals. -/

@[expose] public section

noncomputable section

namespace Cert.RowSpec

open Idealize.ShloMosaic

/-- The small constant under the roots. -/
def eps : EReal := Ideal.ofBits .f32 0x358637BD#32

/-- The reciprocal root of a row's mean square. -/
def rms {n : ℕ} (c : EReal) (f : Fin n → EReal) : EReal := Ideal.rsqrt (Ideal.div (∑ k, f k * f k) c + eps)

/-- A row normalized to mean square one and scaled entry by entry. -/
def norm {n : ℕ} (c : EReal) (f g : Fin n → EReal) (i : Fin n) : EReal := f i * rms c f * g i

/-- The number 512. -/
def c512 : EReal := Ideal.ofBits .f32 0x44000000#32
/-- The number 1024. -/
def c1024 : EReal := Ideal.ofBits .f32 0x44800000#32

/-- The residual after the output projection: the two mixers' rows through the two halves of the matrix. -/
def resid (x : Fin 1024 → EReal) (a b : Fin 512 → EReal) (w0 w1 : Fin 512 → Fin 1024 → EReal) (d : Fin 1024) : EReal :=
  x d + (∑ k, a k * w0 k d + ∑ k, b k * w1 k d)

/-- The gated activation of one hidden unit. -/
def act (h : Fin 1024 → EReal) (wg wu : Fin 1024 → Fin 2816 → EReal) (j : Fin 2816) : EReal :=
  (∑ k, h k * wg k j) * Ideal.logistic (∑ k, h k * wg k j) * ∑ k, h k * wu k j

/-- The feed-forward layer added to the residual. -/
def ffn (y g : Fin 1024 → EReal) (wg wu : Fin 1024 → Fin 2816 → EReal) (wd : Fin 2816 → Fin 1024 → EReal) (d : Fin 1024) : EReal :=
  y d + ∑ j, act (norm c1024 y g) wg wu j * wd j d

/-- One token's finish. -/
def finish (x : Fin 1024 → EReal) (a b g : Fin 512 → EReal) (w0 w1 : Fin 512 → Fin 1024 → EReal) (gf : Fin 1024 → EReal)
    (wg wu : Fin 1024 → Fin 2816 → EReal) (wd : Fin 2816 → Fin 1024 → EReal) (d : Fin 1024) : EReal :=
  ffn (resid x a (norm c512 b g) w0 w1) gf wg wu wd d

/-- The sum of a row of 512 from its four quarters. -/
theorem sum_quarters (f : Fin 512 → EReal) :
    ∑ k, f k = (((∑ k : Fin 128, f ⟨k.val, by omega⟩) + ∑ k : Fin 128, f ⟨128 + k.val, by omega⟩)
      + ∑ k : Fin 128, f ⟨256 + k.val, by omega⟩) + ∑ k : Fin 128, f ⟨384 + k.val, by omega⟩ := by
  rw [show (∑ k, f k) = ∑ k : Fin (128 + 128 + 128 + 128), f k from rfl, Fin.sum_univ_add, Fin.sum_univ_add, Fin.sum_univ_add]
  rfl

/-- The constant 512 as a number. -/
theorem c512_eq : c512 = ((512 : ℝ) : EReal) := by
  unfold c512
  simp [Ideal.ofBits, Ideal.ieee]
  rw [← EReal.coe_mul]
  norm_num

/-- Its reciprocal as a constant. -/
theorem inv512_eq : Ideal.ofBits .f32 0x3B000000#32 = ((1 / 512 : ℝ) : EReal) := by
  simp [Ideal.ofBits, Ideal.ieee]
  rw [← EReal.coe_mul]
  norm_num

/-- Dividing by 512 is multiplying with the reciprocal's constant. -/
theorem div_c512 (x : EReal) : Ideal.div x c512 = x * Ideal.ofBits .f32 0x3B000000#32 := by
  rw [c512_eq, inv512_eq, Ideal.div_coe (by norm_num : (512 : ℝ) ≠ 0)]

end Cert.RowSpec

end
-- ==== Proof.GateSpec.lean ====
module

public import proofs.«01_k».proof.Proof.RowSpec

/-! One token's projections, its normalised heads and its gate, as mathematics on rows of extended reals. -/

@[expose] public section

noncomputable section

namespace Cert.GateSpec

open Idealize.ShloMosaic Cert.RowSpec

/-- One column of the projection of a normalised row. -/
def proj (x g w : Fin 1024 → EReal) : EReal := ∑ k, norm c1024 x g k * w k

/-- The gelu by the hyperbolic tangent. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- The mean of a row of 512. -/
def mean (f : Fin 512 → EReal) : EReal := Ideal.div (∑ k, f k) c512

/-- A row with its mean taken off. -/
def centre (f : Fin 512 → EReal) (i : Fin 512) : EReal := f i - mean f

/-- The layer norm of a row. -/
def layer (f g b : Fin 512 → EReal) (i : Fin 512) : EReal :=
  centre f i * Ideal.rsqrt (mean (fun k => centre f k * centre f k) + eps) * g i + b i

/-- The number 64. -/
def c64 : EReal := Ideal.ofBits .f32 0x42800000#32

/-- The reciprocal root of the mean square of the head that entry `i` belongs to. -/
def headRms (f : Fin 512 → EReal) (i : Fin 512) : EReal :=
  Ideal.rsqrt (Ideal.div (∑ k : Fin 64, f ⟨i.val / 64 * 64 + k.val, by omega⟩ * f ⟨i.val / 64 * 64 + k.val, by omega⟩) c64 + eps)

/-- A row's heads normalised, at entry `i`, scaled by `g`. -/
def head (f : Fin 512 → EReal) (g : EReal) (i : Fin 512) : EReal := f i * headRms f i * g

/-- The gated row before its norm: position `p` of a chunk whose rows are `v`. -/
def gate (u : Fin 512 → EReal) (v : Fin 128 → Fin 512 → EReal) (w : Fin 8 → Fin 128 → EReal) (b : Fin 8 → EReal) (i : Fin 512) : EReal :=
  u i * ((∑ j, w ⟨i.val / 64, by omega⟩ j * v j i) + b ⟨i.val / 64, by omega⟩)

/-- Mixer A's row. -/
def mixer (u : Fin 512 → EReal) (v : Fin 128 → Fin 512 → EReal) (w : Fin 8 → Fin 128 → EReal) (b : Fin 8 → EReal) (g : Fin 512 → EReal) (i : Fin 512) : EReal :=
  norm c512 (gate u v w b) g i

/-- The constant 64 as a number. -/
theorem c64_eq : c64 = ((64 : ℝ) : EReal) := by
  unfold c64
  simp [Ideal.ofBits, Ideal.ieee]
  rw [← EReal.coe_mul]
  norm_num

/-- Its reciprocal as a constant. -/
theorem inv64_eq : Ideal.ofBits .f32 0x3C800000#32 = ((1 / 64 : ℝ) : EReal) := by
  simp [Ideal.ofBits, Ideal.ieee]
  rw [← EReal.coe_mul]
  norm_num

/-- Dividing by 64 is multiplying with the reciprocal's constant. -/
theorem div_c64 (x : EReal) : Ideal.div x c64 = x * Ideal.ofBits .f32 0x3C800000#32 := by
  rw [c64_eq, inv64_eq, Ideal.div_coe (by norm_num : (64 : ℝ) ≠ 0)]

/-- A finite sum times a number that is a real and at least zero. -/
theorem sum_mul_coe {n : ℕ} (f : Fin n → EReal) (c : ℝ) (hc : 0 ≤ c) : (∑ k, f k * (c : EReal)) = (∑ k, f k) * (c : EReal) := by
  induction n with
  | zero => simp
  | succ n ih =>
    rw [Fin.sum_univ_succ, Fin.sum_univ_succ, ih, EReal.right_distrib_of_nonneg_of_ne_top (EReal.coe_nonneg.mpr hc) (EReal.coe_ne_top c)]

/-- A row against a column of the matrix of blocks is the sum over the column's head times the blocks' entry. -/
theorem sum_block (s : Fin 512 → EReal) (i : Fin 512) (c : ℝ) (hc : 0 ≤ c) :
    (∑ k : Fin 512, s k * (if k.val / 64 = i.val / 64 then (c : EReal) else 0))
      = (∑ k : Fin 64, s ⟨i.val / 64 * 64 + k.val, by omega⟩) * (c : EReal) := by
  rw [← sum_mul_coe _ c hc]
  symm
  refine Finset.sum_of_injOn (fun k : Fin 64 => (⟨i.val / 64 * 64 + k.val, by omega⟩ : Fin 512)) ?_ ?_ ?_ ?_
  · intro a _ b _ h
    apply Fin.ext
    have := congrArg Fin.val h
    simp only at this
    omega
  · intro a _; simp
  · intro b _ h
    rw [if_neg, mul_zero]
    intro e
    apply h
    refine ⟨⟨b.val % 64, Nat.mod_lt _ (by norm_num)⟩, by simp, ?_⟩
    apply Fin.ext
    simp only
    omega
  · intro a _
    rw [if_pos]
    simp only
    omega

/-- The head's reciprocal root from the product with the matrix of blocks. -/
theorem headRms_block (f : Fin 512 → EReal) (i : Fin 512) :
    Ideal.rsqrt ((∑ k : Fin 512, f k * f k * (if k.val / 64 = i.val / 64 then Ideal.ofBits .f32 0x3C800000#32 else 0)) + eps) = headRms f i := by
  unfold headRms
  rw [div_c64, inv64_eq, sum_block (fun k => f k * f k) i _ (by norm_num)]

end Cert.GateSpec

end
-- ==== Proof.ProjSpec.lean ====
/- The projections' results, of the call's arguments, at an index. -/
module

public import proofs.«01_k».proof.Proof.GateSpec

@[expose] public section

noncomputable section

namespace Cert.ProjSpec

open Idealize.ShloMosaic

variable (x : Fin 8 → Fin 2048 → Fin 1024 → EReal) (g : Fin 1024 → EReal) (w : Fin 1024 → Fin 2560 → EReal)

/-- Entry `i` of projection `j` of position `l` of batch `b`. -/
def col (b : Fin 8) (l : Fin 2048) (j : Fin 5) (i : Fin 512) : EReal :=
  GateSpec.proj (x b l) g fun k => w k ⟨512 * j.val + i.val, by omega⟩

/-- Entry `i` of a position's normalised heads, from projection `j`; the gain is the same for every head. -/
def heads (gh : Fin 64 → EReal) (j : Fin 5) (b : Fin 8) (l : Fin 2048) (i : Fin 512) : EReal :=
  GateSpec.head (col x g w b l j) (gh ⟨i.val % 64, by omega⟩) i

/-- A position's row that the gate mixes. -/
def mixed (lg lb : Fin 512 → EReal) (b : Fin 8) (l : Fin 2048) (i : Fin 512) : EReal :=
  GateSpec.layer (fun i => GateSpec.gelu (col x g w b l 1 i)) lg lb i

/-- The gate's weights under the triangle. -/
def lower (ws : Fin 8 → Fin 128 → Fin 128 → EReal) (p : Fin 128) (h : Fin 8) (j : Fin 128) : EReal := if j.val ≤ p.val then ws h p j else 0

/-- Mixer A at a position: its chunk is the 128 positions around it. -/
def mixA (lg lb : Fin 512 → EReal) (ws : Fin 8 → Fin 128 → Fin 128 → EReal) (bs : Fin 8 → Fin 128 → EReal) (go : Fin 512 → EReal)
    (b : Fin 8) (l : Fin 2048) (i : Fin 512) : EReal :=
  GateSpec.mixer (fun i => GateSpec.gelu (col x g w b l 0 i)) (fun j => mixed x g w lg lb b ⟨l.val / 128 * 128 + j.val, by omega⟩)
    (lower ws ⟨l.val % 128, by omega⟩) (fun h => bs h ⟨l.val % 128, by omega⟩) go i

end Cert.ProjSpec

end
-- ==== Proof.ProjArrays.lean ====
/- The arrays on which the projections' call works, at an index: what the host operations before the call leave in its operands. -/
module

public import proofs.«01_k».proof.Proof.Gen.Kernel2Ideal.Frame.RunA
public import Idealize.ShloMosaic.Lib.Pointwise
public import Idealize.ShloMosaic.Lib.Pipeline.ValueKit
public import Idealize.ShloMosaic.Lib.Pipeline.ValueKit.Point

@[expose] public section

set_option maxRecDepth 16384

namespace Cert.ProjArrays

open Idealize.ShloMosaic Idealize.ShloMosaic.TcCoe Cert.Kernel2Ideal Cert.Kernel2Ideal.Gen

variable (m : (ℓ : Loc nD τ sig) → Buf (Elt Ideal) ℓ) (c : Dev nD)

/-- The rows of the input are those of `x_prompt`, batch after batch. -/
theorem x_rows (n : Fin 16384) (d : Fin 1024) :
    V m c main_v54 (ix2 n d) = m ((c : Thread nD τ).loc main_arg0) (ix3 ⟨n / 2048, by omega⟩ ⟨n % 2048, by omega⟩ d) := by
  dsimp only [V, hostOps0, hostOps0_1, hostOps0_2, hostOps0_3, hostOps0_4, hostOps0_5, hostOps0_6, List.flatten_cons, List.flatten_nil, List.cons_append, List.nil_append, List.append_nil]
  after_results
  pointwise

/-- The gain of the normalisation before the projections. -/
theorem gain_in (d : Fin 1024) :
    V m c main_v25 (ix2 0 d) = m ((c : Thread nD τ).loc main_arg6) (ix2 0 d) := by
  dsimp only [V, hostOps0, hostOps0_1, hostOps0_2, hostOps0_3, hostOps0_4, hostOps0_5, hostOps0_6, List.flatten_cons, List.flatten_nil, List.cons_append, List.nil_append, List.append_nil]
  after_results
  pointwise

/-- The projections. -/
theorem w_in (k : Fin 1024) (j : Fin 2560) :
    V m c main_v26 (ix2 k j) = m ((c : Thread nD τ).loc main_arg7) (ix3 0 k j) := by
  dsimp only [V, hostOps0, hostOps0_1, hostOps0_2, hostOps0_3, hostOps0_4, hostOps0_5, hostOps0_6, List.flatten_cons, List.flatten_nil, List.cons_append, List.nil_append, List.append_nil]
  after_results
  pointwise

/-- The gain of the layer norm. -/
theorem ln_g (d : Fin 512) :
    V m c main_v27 (ix2 0 d) = m ((c : Thread nD τ).loc main_arg8) (ix2 0 d) := by
  dsimp only [V, hostOps0, hostOps0_1, hostOps0_2, hostOps0_3, hostOps0_4, hostOps0_5, hostOps0_6, List.flatten_cons, List.flatten_nil, List.cons_append, List.nil_append, List.append_nil]
  after_results
  pointwise

/-- The shift of the layer norm. -/
theorem ln_b (d : Fin 512) :
    V m c main_v28 (ix2 0 d) = m ((c : Thread nD τ).loc main_arg9) (ix2 0 d) := by
  dsimp only [V, hostOps0, hostOps0_1, hostOps0_2, hostOps0_3, hostOps0_4, hostOps0_5, hostOps0_6, List.flatten_cons, List.flatten_nil, List.cons_append, List.nil_append, List.append_nil]
  after_results
  pointwise

/-- A number times the constant one eighth. -/
noncomputable def eighth (x : EReal) : EReal := x * Ideal.ofBits .f32 0x3E000000#32

/-- The gain of the queries, with the scores' scale in it. -/
theorem gain_q (d : Fin 512) :
    V m c main_v11 (ix2 0 d) = eighth (m ((c : Thread nD τ).loc main_arg12) (ix2 0 ⟨d.val % 64, by omega⟩)) := by
  dsimp only [V, hostOps0, hostOps0_1, hostOps0_2, hostOps0_3, hostOps0_4, hostOps0_5, hostOps0_6, List.flatten_cons, List.flatten_nil, List.cons_append, List.nil_append, List.append_nil]
  after_results
  pointwise
  rfl

/-- The gain of the keys. -/
theorem gain_k (d : Fin 512) :
    V m c main_v15 (ix2 0 d) = m ((c : Thread nD τ).loc main_arg13) (ix2 0 ⟨d.val % 64, by omega⟩) := by
  dsimp only [V, hostOps0, hostOps0_1, hostOps0_2, hostOps0_3, hostOps0_4, hostOps0_5, hostOps0_6, List.flatten_cons, List.flatten_nil, List.cons_append, List.nil_append, List.append_nil]
  after_results
  pointwise

/-- The gate's bias. -/
theorem bias (p : Fin 128) (i : Fin 512) :
    V m c main_v53 (ix2 p i) = m ((c : Thread nD τ).loc main_arg11) (ix3 0 ⟨i.val / 64, by omega⟩ p) := by
  dsimp only [V, hostOps0, hostOps0_1, hostOps0_2, hostOps0_3, hostOps0_4, hostOps0_5, hostOps0_6, List.flatten_cons, List.flatten_nil, List.cons_append, List.nil_append, List.append_nil]
  after_results
  pointwise

/-- The gain of mixer A. -/
theorem gain_out (d : Fin 512) :
    V m c main_v55 (ix2 0 d) = m ((c : Thread nD τ).loc main_arg14) (ix2 0 d) := by
  dsimp only [V, hostOps0, hostOps0_1, hostOps0_2, hostOps0_3, hostOps0_4, hostOps0_5, hostOps0_6, List.flatten_cons, List.flatten_nil, List.cons_append, List.nil_append, List.append_nil]
  after_results
  pointwise

/-- The gate's weights under the triangle. -/
noncomputable def weightsOf (w : FVec Ideal S1x8x128x128 .f32) : FVec Ideal S8x128x128 .bf16 :=
  truncf .bf16 (select (broadcastInDim S8x128x128 ![1, 2] bcast_S128x128_S8x128x128_1_2 (fun i => lit0 (S128x128.rowMajor i) : IVec S128x128 1))
    (shapeCast S8x128x128 w shapeCasts_S1x8x128x128_S8x128x128)
    (broadcastInDim S8x128x128 ![] bcast_S_S8x128x128 (constant (F := Ideal) S_ .f32 0x00000000#32))) bitsLt_bf16_f32

/-- What the host operations leave in the operand of the gate's weights. -/
theorem weights_eq : V m c main_v50 = weightsOf (m ((c : Thread nD τ).loc main_arg10)) := by
  dsimp only [V, hostOps0, hostOps0_1, hostOps0_2, hostOps0_3, hostOps0_4, hostOps0_5, hostOps0_6, List.flatten_cons, List.flatten_nil, List.cons_append, List.nil_append, List.append_nil]
  after_results
  rfl

/-- The gate's weights at an index: the table chooses. -/
theorem weights (h : Fin 8) (p j : Fin 128) :
    V m c main_v50 (ix3 h p j)
      = Scalar.select (lit0 (S128x128.rowMajor (ix2 p j))) (m ((c : Thread nD τ).loc main_arg10) (ix4 0 h p j) : EReal) (0 : EReal) := by
  rw [weights_eq]
  pointwise [weightsOf]

/-- The matrix of blocks. -/
noncomputable def blocksOf : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp (F := Ideal) .f32 (cmpi .eq (addi (iotaInDim S8x8 32 0) (broadcastInDim S8x8 ![] bcast_S_S8x8 (constantI S_ 32 0#32))) (iotaInDim S8x8 32 1)))))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant (F := Ideal) S_ .f32 0x3C800000#32)))))
    shapeCasts_S8x64x8x64_S512x512) bitsLt_bf16_f32

/-- What the host operations leave in the operand of the blocks. -/
theorem blocks_eq : V m c main_v24 = blocksOf := by
  dsimp only [V, hostOps0, hostOps0_1, hostOps0_2, hostOps0_3, hostOps0_4, hostOps0_5, hostOps0_6, List.flatten_cons, List.flatten_nil, List.cons_append, List.nil_append, List.append_nil]
  after_results
  rfl

/-- Whether two of eight numbers are equal, as a word. -/
theorem same_word : ∀ x y : Fin 8, IntOp.cmpi CmpIPredicate.eq (IntOp.addi (BitVec.ofNat 32 x.val) 0#32) (BitVec.ofNat 32 y.val) = if x.val = y.val then 1#1 else 0#1 := by
  decide +kernel

/-- The matrix of blocks at an index. -/
theorem blocksOf_at (a b : Fin 512) : blocksOf (ix2 a b) = (if a.val / 64 = b.val / 64 then Ideal.ofBits .f32 0x3C800000#32 else 0 : EReal) := by
  pointwise [blocksOf]
  have e := same_word ⟨a.val / 64, by omega⟩ ⟨b.val / 64, by omega⟩
  simp only at e
  rw [e]
  by_cases h : a.val / 64 = b.val / 64
  · rw [if_pos h, if_pos h]
    show (((1#1 : BitVec 1).toNat : ℝ) : EReal) * _ = _
    simp
  · rw [if_neg h, if_neg h]
    show (((0#1 : BitVec 1).toNat : ℝ) : EReal) * _ = _
    simp

/-- So is what the call reads. -/
theorem blocks (a b : Fin 512) :
    V m c main_v24 (ix2 a b) = (if a.val / 64 = b.val / 64 then Ideal.ofBits .f32 0x3C800000#32 else 0 : EReal) := by
  rw [blocks_eq]
  exact blocksOf_at a b

end Cert.ProjArrays
-- ==== Proof.ProjRun.lean ====
/- The run of the call that projects the prompt: what every window's buffer holds after the body, the body's triple at every point of the
   grid, and the whole launch. The program's text is the same over every float type, and so is its run. -/
module

public import proofs.«01_k».proof.Proof.Gen.Kernel2Ideal.Frame.RunA
public import Idealize.ShloMosaic.Lib.Claim

@[expose] public section

set_option maxRecDepth 16384

noncomputable section

namespace Cert.ProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The body's run at a point of the grid, on the blocks that the point sees. -/
abbrev at_ :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t)
    scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The stores into the buffer of window 15 reach all of it. -/
theorem covered15 (y : S1x4x512x128.Idx) : ∃ pc ∈ (at_ m c t).1, y ∈ pc.1.set :=
  View.cover_of_tiledL (at_ m c t).1 S1x1x512x128.size (by sl_kernel_rfl) y

/-- What the point leaves in the buffer of window 15. -/
def left15 : Vec F S1x4x512x128 .f32 := VO0_15.read (Elt F) (VO0_15.writes (Elt F) VO0_15.junk (at_ m c t).1)

/-- The stores into the buffer of window 16 reach all of it. -/
theorem covered16 (y : S1x4x512x128.Idx) : ∃ pc ∈ (at_ m c t).2.1, y ∈ pc.1.set :=
  View.cover_of_tiledL (at_ m c t).2.1 S1x1x512x128.size (by sl_kernel_rfl) y

/-- What the point leaves in the buffer of window 16. -/
def left16 : Vec F S1x4x512x128 .f32 := VO0_16.read (Elt F) (VO0_16.writes (Elt F) VO0_16.junk (at_ m c t).2.1)

/-- The stores into the buffer of window 17 reach all of it. -/
theorem covered17 (y : S1x4x512x128.Idx) : ∃ pc ∈ (at_ m c t).2.2.1, y ∈ pc.1.set :=
  View.cover_of_tiledL (at_ m c t).2.2.1 S1x1x512x128.size (by sl_kernel_rfl) y

/-- What the point leaves in the buffer of window 17. -/
def left17 : Vec F S1x4x512x128 .f32 := VO0_17.read (Elt F) (VO0_17.writes (Elt F) VO0_17.junk (at_ m c t).2.2.1)

/-- The stores into the buffer of window 18 reach all of it. -/
theorem covered18 (y : S1x512x512.Idx) : ∃ pc ∈ (at_ m c t).2.2.2.1, y ∈ pc.1.set :=
  View.cover_of_tiledL (at_ m c t).2.2.2.1 S1x512x512.size (by sl_kernel_rfl) y

/-- What the point leaves in the buffer of window 18. -/
def left18 : Vec F S1x512x512 .f32 := VO0_18.read (Elt F) (VO0_18.writes (Elt F) VO0_18.junk (at_ m c t).2.2.2.1)

/-- The stores into the buffer of window 19 reach all of it. -/
theorem covered19 (y : S1x512x512.Idx) : ∃ pc ∈ (at_ m c t).2.2.2.2.1, y ∈ pc.1.set :=
  View.cover_of_tiledL (at_ m c t).2.2.2.2.1 S1x512x512.size (by sl_kernel_rfl) y

/-- What the point leaves in the buffer of window 19. -/
def left19 : Vec F S1x512x512 .f32 := VO0_19.read (Elt F) (VO0_19.writes (Elt F) VO0_19.junk (at_ m c t).2.2.2.2.1)

/-- The stores into the buffer of window 20 reach all of it. -/
theorem covered20 (y : S512x512.Idx) : ∃ pc ∈ (at_ m c t).2.2.2.2.2.1, y ∈ pc.1.set :=
  View.cover_of_tiledL (at_ m c t).2.2.2.2.2.1 S128x128.size (by sl_kernel_rfl) y

/-- What the point leaves in the buffer of window 20. -/
def left20 : Vec F S512x512 .bf16 := VO0_20.read (Elt F) (VO0_20.writes (Elt F) VO0_20.junk (at_ m c t).2.2.2.2.2.1)

/-- The stores into the buffer of window 21 reach all of it. -/
theorem covered21 (y : S4x16x64.Idx) : ∃ pc ∈ (at_ m c t).2.2.2.2.2.2.1, y ∈ pc.1.set :=
  View.cover_of_tiledL (at_ m c t).2.2.2.2.2.2.1 S1x16x64.size (by sl_kernel_rfl) y

/-- What the point leaves in the buffer of window 21. -/
def left21 : Vec F S4x16x64 .f32 := VO0_21.read (Elt F) (VO0_21.writes (Elt F) VO0_21.junk (at_ m c t).2.2.2.2.2.2.1)

/-- The arrays as the call finds them, and what the body leaves in every window's buffer: an input keeps its block. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => left15 m c t
    | ⟨16, _⟩ => left16 m c t
    | ⟨17, _⟩ => left17 m c t
    | ⟨18, _⟩ => left18 m c t
    | ⟨19, _⟩ => left19 m c t
    | ⟨20, _⟩ => left20 m c t
    | ⟨21, _⟩ => left21 m c t
    | ⟨_ + 22, h⟩ => absurd h (Nat.not_lt.2 (Nat.le_add_left _ _))
  Φ _ := Pipeline.ΦA spec0 c
  q _ := fullShare
  owed _ := 0

theorem arrays (w : Fin cfg0.W) : (data m 0 c).A w = V m c (Pipeline.arrRef spec0 w) := by
  dsimp only [data]

theorem after0 : (data m 0 c).after 0 t = iblk m c 0 t := by dsimp only [data]
theorem after1 : (data m 0 c).after 1 t = iblk m c 1 t := by dsimp only [data]
theorem after2 : (data m 0 c).after 2 t = iblk m c 2 t := by dsimp only [data]
theorem after3 : (data m 0 c).after 3 t = iblk m c 3 t := by dsimp only [data]
theorem after4 : (data m 0 c).after 4 t = iblk m c 4 t := by dsimp only [data]
theorem after5 : (data m 0 c).after 5 t = iblk m c 5 t := by dsimp only [data]
theorem after6 : (data m 0 c).after 6 t = iblk m c 6 t := by dsimp only [data]
theorem after7 : (data m 0 c).after 7 t = iblk m c 7 t := by dsimp only [data]
theorem after8 : (data m 0 c).after 8 t = iblk m c 8 t := by dsimp only [data]
theorem after9 : (data m 0 c).after 9 t = iblk m c 9 t := by dsimp only [data]
theorem after10 : (data m 0 c).after 10 t = iblk m c 10 t := by dsimp only [data]
theorem after11 : (data m 0 c).after 11 t = iblk m c 11 t := by dsimp only [data]
theorem after12 : (data m 0 c).after 12 t = iblk m c 12 t := by dsimp only [data]
theorem after13 : (data m 0 c).after 13 t = iblk m c 13 t := by dsimp only [data]
theorem after14 : (data m 0 c).after 14 t = iblk m c 14 t := by dsimp only [data]
theorem after15 : (data m 0 c).after 15 t = left15 m c t := by dsimp only [data]
theorem after16 : (data m 0 c).after 16 t = left16 m c t := by dsimp only [data]
theorem after17 : (data m 0 c).after 17 t = left17 m c t := by dsimp only [data]
theorem after18 : (data m 0 c).after 18 t = left18 m c t := by dsimp only [data]
theorem after19 : (data m 0 c).after 19 t = left19 m c t := by dsimp only [data]
theorem after20 : (data m 0 c).after 20 t = left20 m c t := by dsimp only [data]
theorem after21 : (data m 0 c).after 21 t = left21 m c t := by dsimp only [data]
theorem before0 (d) : (data m 0 c).before 0 t d = iblk m c 0 t := before0_0_of m (data m 0 c) (arrays m c 0) (after0 m c) t d
theorem before1 (d) : (data m 0 c).before 1 t d = iblk m c 1 t := before0_1_of m (data m 0 c) (arrays m c 1) (after1 m c) t d
theorem before2 (d) : (data m 0 c).before 2 t d = iblk m c 2 t := before0_2_of m (data m 0 c) (arrays m c 2) (after2 m c) t d
theorem before3 (d) : (data m 0 c).before 3 t d = iblk m c 3 t := before0_3_of m (data m 0 c) (arrays m c 3) (after3 m c) t d
theorem before4 (d) : (data m 0 c).before 4 t d = iblk m c 4 t := before0_4_of m (data m 0 c) (arrays m c 4) (after4 m c) t d
theorem before5 (d) : (data m 0 c).before 5 t d = iblk m c 5 t := before0_5_of m (data m 0 c) (arrays m c 5) (after5 m c) t d
theorem before6 (d) : (data m 0 c).before 6 t d = iblk m c 6 t := before0_6_of m (data m 0 c) (arrays m c 6) (after6 m c) t d
theorem before7 (d) : (data m 0 c).before 7 t d = iblk m c 7 t := before0_7_of m (data m 0 c) (arrays m c 7) (after7 m c) t d
theorem before8 (d) : (data m 0 c).before 8 t d = iblk m c 8 t := before0_8_of m (data m 0 c) (arrays m c 8) (after8 m c) t d
theorem before9 (d) : (data m 0 c).before 9 t d = iblk m c 9 t := before0_9_of m (data m 0 c) (arrays m c 9) (after9 m c) t d
theorem before10 (d) : (data m 0 c).before 10 t d = iblk m c 10 t := before0_10_of m (data m 0 c) (arrays m c 10) (after10 m c) t d
theorem before11 (d) : (data m 0 c).before 11 t d = iblk m c 11 t := before0_11_of m (data m 0 c) (arrays m c 11) (after11 m c) t d
theorem before12 (d) : (data m 0 c).before 12 t d = iblk m c 12 t := before0_12_of m (data m 0 c) (arrays m c 12) (after12 m c) t d
theorem before13 (d) : (data m 0 c).before 13 t d = iblk m c 13 t := before0_13_of m (data m 0 c) (arrays m c 13) (after13 m c) t d
theorem before14 (d) : (data m 0 c).before 14 t d = iblk m c 14 t := before0_14_of m (data m 0 c) (arrays m c 14) (after14 m c) t d

/-- What the body is called with. -/
def given : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d))
    ∗ (∃ d, owns (c : Thread nD τ) (ms0_20 t) fullShare ((data m 0 c).before 20 t d))
    ∗ (∃ d, owns (c : Thread nD τ) (ms0_21 t) fullShare ((data m 0 c).before 21 t d)))

/-- What the body returns. -/
def returned : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t)
    ∗ owns (c : Thread nD τ) (ms0_10 t) fullShare ((data m 0 c).after 10 t)
    ∗ owns (c : Thread nD τ) (ms0_11 t) fullShare ((data m 0 c).after 11 t)
    ∗ owns (c : Thread nD τ) (ms0_12 t) fullShare ((data m 0 c).after 12 t)
    ∗ owns (c : Thread nD τ) (ms0_13 t) fullShare ((data m 0 c).after 13 t)
    ∗ owns (c : Thread nD τ) (ms0_14 t) fullShare ((data m 0 c).after 14 t)
    ∗ owns (c : Thread nD τ) (ms0_15 t) fullShare ((data m 0 c).after 15 t)
    ∗ owns (c : Thread nD τ) (ms0_16 t) fullShare ((data m 0 c).after 16 t)
    ∗ owns (c : Thread nD τ) (ms0_17 t) fullShare ((data m 0 c).after 17 t)
    ∗ owns (c : Thread nD τ) (ms0_18 t) fullShare ((data m 0 c).after 18 t)
    ∗ owns (c : Thread nD τ) (ms0_19 t) fullShare ((data m 0 c).after 19 t)
    ∗ owns (c : Thread nD τ) (ms0_20 t) fullShare ((data m 0 c).after 20 t)
    ∗ owns (c : Thread nD τ) (ms0_21 t) fullShare ((data m 0 c).after 21 t))

set_option maxHeartbeats 2400000 in -- one step for each of the twenty-two windows
/-- The body at a point: from what it is called with to what it returns. -/
theorem body : given m c t ⊢ wp frame (wpE (defs₀ (F := F)) Variants.none c none) Set.univ (bodyAt0 t) (fun _ => returned m c t) := by
  unfold given returned bodyAt0
  simp only [before0, before1, before2, before3, before4, before5, before6, before7, before8, before9, before10, before11, before12, before13, before14]
  rw [show (data m 0 c).Φ t.succ = (data m 0 c).Φ t.castSucc from rfl, show (data m 0 c).owesAt () t.succ = (data m 0 c).owesAt () t.castSucc from rfl,
    after0, after1, after2, after3, after4, after5, after6, after7, after8, after9, after10, after11, after12, after13, after14, after15, after16, after17, after18, after19, after20, after21,
    show (data m 0 c).Φ t.castSucc = Pipeline.ΦA spec0 c from rfl, PhiA0_eq]
  unfold left15 left16 left17 left18 left19 left20 left21
  iintro ⟨⟨⟨S0, S1⟩, G⟩, O, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩, ⟨%d10, B10⟩, ⟨%d11, B11⟩, ⟨%d12, B12⟩, ⟨%d13, B13⟩, ⟨%d14, B14⟩, ⟨%d15, B15⟩, ⟨%d16, B16⟩, ⟨%d17, B17⟩, ⟨%d18, B18⟩, ⟨%d19, B19⟩, ⟨%d20, B20⟩, ⟨%d21, B21⟩⟩
  iapply ((at_ m c t).2.2.2.2.2.2.2.2.2 Set.univ _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexists _; iexact B15
  isplitl [B16]; · iexists _; iexact B16
  isplitl [B17]; · iexists _; iexact B17
  isplitl [B18]; · iexists _; iexact B18
  isplitl [B19]; · iexists _; iexact B19
  isplitl [B20]; · iexists _; iexact B20
  isplitl [B21]; · iexists _; iexact B21
  isplitl [S0]; · iexact S0
  isplitl [S1]; · iexact S1
  iintro ⟨B0, B1, B2, B3, B4, B5, B6, B7, B8, B9, B10, B11, B12, B13, B14, ⟨%e15, B15⟩, ⟨%e16, B16⟩, ⟨%e17, B17⟩, ⟨%e18, B18⟩, ⟨%e19, B19⟩, ⟨%e20, B20⟩, ⟨%e21, B21⟩, ⟨%f0, S0⟩, ⟨%f1, S1⟩⟩
  isplitl [S0 S1 G]
  · isplitl [S0 S1]
    · isplitl [S0]
      · iexists _; unfold owns; iexists _; isplitr
        swap; · iexact S0
        ipureintro; rfl
      iexists _; unfold owns; iexists _; isplitr
      swap; · iexact S1
      ipureintro; rfl
    iexact G
  isplitl [O]; · iexact O
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]
  · unfold owns; iexists _; isplitr
    swap; · iexact B15
    ipureintro; exact View.read_writes_of_cover _ _ _ _ _ (covered15 m c t)
  isplitl [B16]
  · unfold owns; iexists _; isplitr
    swap; · iexact B16
    ipureintro; exact View.read_writes_of_cover _ _ _ _ _ (covered16 m c t)
  isplitl [B17]
  · unfold owns; iexists _; isplitr
    swap; · iexact B17
    ipureintro; exact View.read_writes_of_cover _ _ _ _ _ (covered17 m c t)
  isplitl [B18]
  · unfold owns; iexists _; isplitr
    swap; · iexact B18
    ipureintro; exact View.read_writes_of_cover _ _ _ _ _ (covered18 m c t)
  isplitl [B19]
  · unfold owns; iexists _; isplitr
    swap; · iexact B19
    ipureintro; exact View.read_writes_of_cover _ _ _ _ _ (covered19 m c t)
  isplitl [B20]
  · unfold owns; iexists _; isplitr
    swap; · iexact B20
    ipureintro; exact View.read_writes_of_cover _ _ _ _ _ (covered20 m c t)
  unfold owns; iexists _; isplitr
  swap; · iexact B21
  ipureintro; exact View.read_writes_of_cover _ _ _ _ _ (covered21 m c t)

theorem row : defs₀ (F := F) .tc cfg0.body (cfg0.bodyArgs t (cfg0.slots t)) = bodyAt0 t := by
  unfold defs₀; rw [Defs.onTc_tc]

set_option maxHeartbeats 800000 in -- the windows' conjunction is opened twice, twenty-two conjuncts each
/-- The body meets what the pipeline asks of it. -/
theorem obligation : BodyObligation (data (F := F) m 0 c) (defs₀ (F := F)) Variants.none () Set.univ := fun t => by
  rw [bigSep_W0, bigSep_W0, row]
  exact triple_restated (body m c t) rfl .rfl fun _ => .rfl

-- the implicit arguments are found from the statement through the unfolding of plain definitions
set_option backward.isDefEq.respectTransparency.types false in
/-- The launch, with every counter at zero after it. -/
theorem launched : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := arrays m) (hΦ := fun _ _ => rfl)

/-- After the run the arguments are as they were. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (data m) (arrays m) ((θ_run defs _ _).mono (fun _ h => h.1) (launched m ρ))

/-- After the run every counter is zero and the arguments are as they were. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (kept m ρ) ((θ_run defs _ _).mono (fun _ h => h.2) (launched m ρ))

/-- After the run the six arrays of the prompt hold what the points of the grid left, block by block. -/
theorem arrays_after : θ_run defs (onTc (τ := τ) (main (F := F))) ⟨m, fun _ => 0, ρ⟩ (fun r => ∀ c : Dev nD,
      r.2.mem ((c.tc : Thread nD τ).loc main_v56_0) = (data m 0 c).arrAt 15 cfg0.N
      ∧ r.2.mem ((c.tc : Thread nD τ).loc main_v56_1) = (data m 0 c).arrAt 16 cfg0.N
      ∧ r.2.mem ((c.tc : Thread nD τ).loc main_v56_2) = (data m 0 c).arrAt 17 cfg0.N
      ∧ r.2.mem ((c.tc : Thread nD τ).loc main_v56_3) = (data m 0 c).arrAt 18 cfg0.N
      ∧ r.2.mem ((c.tc : Thread nD τ).loc main_v56_4) = (data m 0 c).arrAt 19 cfg0.N
      ∧ r.2.mem ((c.tc : Thread nD τ).loc main_v56_5) = (data m 0 c).arrAt 20 cfg0.N) :=
  (θ_run defs _ _).mono (fun _ h c => ⟨(h.1 c).1 15, (h.1 c).1 16, (h.1 c).1 17, (h.1 c).1 18, (h.1 c).1 19, (h.1 c).1 20⟩) (launched m ρ)

/-- The six arrays and the arguments together. -/
theorem finished : θ_run defs (onTc (τ := τ) (main (F := F))) ⟨m, fun _ => 0, ρ⟩ (fun r => ∀ c : Dev nD,
      r.2.mem ((c.tc : Thread nD τ).loc main_v56_0) = (data m 0 c).arrAt 15 cfg0.N
      ∧ r.2.mem ((c.tc : Thread nD τ).loc main_v56_1) = (data m 0 c).arrAt 16 cfg0.N
      ∧ r.2.mem ((c.tc : Thread nD τ).loc main_v56_2) = (data m 0 c).arrAt 17 cfg0.N
      ∧ r.2.mem ((c.tc : Thread nD τ).loc main_v56_3) = (data m 0 c).arrAt 18 cfg0.N
      ∧ r.2.mem ((c.tc : Thread nD τ).loc main_v56_4) = (data m 0 c).arrAt 19 cfg0.N
      ∧ r.2.mem ((c.tc : Thread nD τ).loc main_v56_5) = (data m 0 c).arrAt 20 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h.1 c).1, (h.1 c).2.1, (h.1 c).2.2.1, (h.1 c).2.2.2.1, (h.1 c).2.2.2.2.1, (h.1 c).2.2.2.2.2, h.2 c⟩)
    (θ_run_and (arrays_after m ρ) (kept m ρ))

end Cert.ProjRun

end
-- ==== Proof.ProjBlocks.lean ====
/- What each window of the projections' grid shows of its array at a point of the grid. -/
module

public import proofs.«01_k».proof.Proof.ProjRun
public import Idealize.ShloMosaic.Lib.Pipeline.ValueKit

@[expose] public section

set_option maxRecDepth 16384

namespace Cert.ProjArrays

open Idealize.ShloMosaic Idealize.ShloMosaic.TcCoe Cert.Kernel2Ideal Cert.Kernel2Ideal.Gen

variable (m : (ℓ : Loc nD τ sig) → Buf (Elt Ideal) ℓ) (c : Dev nD)

/-- Which block of its array every window shows at every point of the grid. -/
theorem index_maps : ∀ t : Fin grid0.N,
    win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0]
    ∧ win0_10.index t = ![0, 0]
    ∧ win0_15.index t = ![t.val / 4, 0, t.val % 4, 0]
    ∧ win0_16.index t = ![t.val / 4, 0, t.val % 4, 0]
    ∧ win0_17.index t = ![t.val / 4, 0, t.val % 4, 0]
    ∧ win0_18.index t = ![t.val / 4, 0, t.val % 4]
    ∧ win0_19.index t = ![t.val / 4, 0, t.val % 4]
    ∧ win0_20.index t = ![t.val, 0] := by
  decide +kernel

/-- 512 rows of the input. -/
theorem blk_x (t : Fin cfg0.N) (r : Fin 512) (d : Fin 1024) (n : Fin 16384) (hn : n.val = t.val * 512 + r.val) :
    iblk m c 0 t (ix2 r d) = V m c main_v54 (ix2 n d) := by
  show V m c main_v54 (((cfg0.win 0).blk t).view.emb (ix2 r d)) = _
  have e := (index_maps t).1
  congr 1
  funext a; apply Fin.ext
  match a with
  | ⟨0, _⟩ => show win0_0.index t (0 : Fin 2) * 512 + 1 * r.val = n.val; rw [e]; simp; try omega
  | ⟨1, _⟩ => show win0_0.index t (1 : Fin 2) * 1024 + 1 * d.val = d.val; rw [e]; simp; try omega

/-- The whole gain. -/
theorem blk_gain_in (t : Fin cfg0.N) (z : Fin 1) (d : Fin 1024) :
    iblk m c 1 t (ix2 z d) = V m c main_v25 (ix2 z d) := by
  show V m c main_v25 (((cfg0.win 1).blk t).view.emb (ix2 z d)) = _
  have e := (index_maps t).2.1
  congr 1
  funext a; apply Fin.ext
  match a with
  | ⟨0, _⟩ => show win0_1.index t (0 : Fin 2) * 1 + 1 * z.val = z.val; rw [e]; simp; try omega
  | ⟨1, _⟩ => show win0_1.index t (1 : Fin 2) * 1024 + 1 * d.val = d.val; rw [e]; simp; try omega

/-- All five projections. -/
theorem blk_w_in (t : Fin cfg0.N) (k : Fin 1024) (j : Fin 2560) :
    iblk m c 2 t (ix2 k j) = V m c main_v26 (ix2 k j) := by
  show V m c main_v26 (((cfg0.win 2).blk t).view.emb (ix2 k j)) = _
  have e := (index_maps t).2.2.1
  congr 1
  funext a; apply Fin.ext
  match a with
  | ⟨0, _⟩ => show win0_2.index t (0 : Fin 2) * 1024 + 1 * k.val = k.val; rw [e]; simp; try omega
  | ⟨1, _⟩ => show win0_2.index t (1 : Fin 2) * 2560 + 1 * j.val = j.val; rw [e]; simp; try omega

/-- The whole gain. -/
theorem blk_ln_g (t : Fin cfg0.N) (z : Fin 1) (d : Fin 512) :
    iblk m c 3 t (ix2 z d) = V m c main_v27 (ix2 z d) := by
  show V m c main_v27 (((cfg0.win 3).blk t).view.emb (ix2 z d)) = _
  have e := (index_maps t).2.2.2.1
  congr 1
  funext a; apply Fin.ext
  match a with
  | ⟨0, _⟩ => show win0_3.index t (0 : Fin 2) * 1 + 1 * z.val = z.val; rw [e]; simp; try omega
  | ⟨1, _⟩ => show win0_3.index t (1 : Fin 2) * 512 + 1 * d.val = d.val; rw [e]; simp; try omega

/-- The whole shift. -/
theorem blk_ln_b (t : Fin cfg0.N) (z : Fin 1) (d : Fin 512) :
    iblk m c 4 t (ix2 z d) = V m c main_v28 (ix2 z d) := by
  show V m c main_v28 (((cfg0.win 4).blk t).view.emb (ix2 z d)) = _
  have e := (index_maps t).2.2.2.2.1
  congr 1
  funext a; apply Fin.ext
  match a with
  | ⟨0, _⟩ => show win0_4.index t (0 : Fin 2) * 1 + 1 * z.val = z.val; rw [e]; simp; try omega
  | ⟨1, _⟩ => show win0_4.index t (1 : Fin 2) * 512 + 1 * d.val = d.val; rw [e]; simp; try omega

/-- The whole gain. -/
theorem blk_gain_q (t : Fin cfg0.N) (z : Fin 1) (d : Fin 512) :
    iblk m c 5 t (ix2 z d) = V m c main_v11 (ix2 z d) := by
  show V m c main_v11 (((cfg0.win 5).blk t).view.emb (ix2 z d)) = _
  have e := (index_maps t).2.2.2.2.2.1
  congr 1
  funext a; apply Fin.ext
  match a with
  | ⟨0, _⟩ => show win0_5.index t (0 : Fin 2) * 1 + 1 * z.val = z.val; rw [e]; simp; try omega
  | ⟨1, _⟩ => show win0_5.index t (1 : Fin 2) * 512 + 1 * d.val = d.val; rw [e]; simp; try omega

/-- The whole gain. -/
theorem blk_gain_k (t : Fin cfg0.N) (z : Fin 1) (d : Fin 512) :
    iblk m c 6 t (ix2 z d) = V m c main_v15 (ix2 z d) := by
  show V m c main_v15 (((cfg0.win 6).blk t).view.emb (ix2 z d)) = _
  have e := (index_maps t).2.2.2.2.2.2.1
  congr 1
  funext a; apply Fin.ext
  match a with
  | ⟨0, _⟩ => show win0_6.index t (0 : Fin 2) * 1 + 1 * z.val = z.val; rw [e]; simp; try omega
  | ⟨1, _⟩ => show win0_6.index t (1 : Fin 2) * 512 + 1 * d.val = d.val; rw [e]; simp; try omega

/-- The whole matrix of blocks. -/
theorem blk_blocks (t : Fin cfg0.N) (r : Fin 512) (d : Fin 512) :
    iblk m c 7 t (ix2 r d) = V m c main_v24 (ix2 r d) := by
  show V m c main_v24 (((cfg0.win 7).blk t).view.emb (ix2 r d)) = _
  have e := (index_maps t).2.2.2.2.2.2.2.1
  congr 1
  funext a; apply Fin.ext
  match a with
  | ⟨0, _⟩ => show win0_7.index t (0 : Fin 2) * 512 + 1 * r.val = r.val; rw [e]; simp; try omega
  | ⟨1, _⟩ => show win0_7.index t (1 : Fin 2) * 512 + 1 * d.val = d.val; rw [e]; simp; try omega

/-- All eight matrices of the gate. -/
theorem blk_weights (t : Fin cfg0.N) (h : Fin 8) (p : Fin 128) (j : Fin 128) :
    iblk m c 8 t (ix3 h p j) = V m c main_v50 (ix3 h p j) := by
  show V m c main_v50 (((cfg0.win 8).blk t).view.emb (ix3 h p j)) = _
  have e := (index_maps t).2.2.2.2.2.2.2.2.1
  congr 1
  funext a; apply Fin.ext
  match a with
  | ⟨0, _⟩ => show win0_8.index t (0 : Fin 3) * 8 + 1 * h.val = h.val; rw [e]; simp; try omega
  | ⟨1, _⟩ => show win0_8.index t (1 : Fin 3) * 128 + 1 * p.val = p.val; rw [e]; simp; try omega
  | ⟨2, _⟩ => show win0_8.index t (2 : Fin 3) * 128 + 1 * j.val = j.val; rw [e]; simp; try omega

/-- The whole bias. -/
theorem blk_bias (t : Fin cfg0.N) (p : Fin 128) (i : Fin 512) :
    iblk m c 9 t (ix2 p i) = V m c main_v53 (ix2 p i) := by
  show V m c main_v53 (((cfg0.win 9).blk t).view.emb (ix2 p i)) = _
  have e := (index_maps t).2.2.2.2.2.2.2.2.2.1
  congr 1
  funext a; apply Fin.ext
  match a with
  | ⟨0, _⟩ => show win0_9.index t (0 : Fin 2) * 128 + 1 * p.val = p.val; rw [e]; simp; try omega
  | ⟨1, _⟩ => show win0_9.index t (1 : Fin 2) * 512 + 1 * i.val = i.val; rw [e]; simp; try omega

/-- The whole gain. -/
theorem blk_gain_out (t : Fin cfg0.N) (z : Fin 1) (d : Fin 512) :
    iblk m c 10 t (ix2 z d) = V m c main_v55 (ix2 z d) := by
  show V m c main_v55 (((cfg0.win 10).blk t).view.emb (ix2 z d)) = _
  have e := (index_maps t).2.2.2.2.2.2.2.2.2.2.1
  congr 1
  funext a; apply Fin.ext
  match a with
  | ⟨0, _⟩ => show win0_10.index t (0 : Fin 2) * 1 + 1 * z.val = z.val; rw [e]; simp; try omega
  | ⟨1, _⟩ => show win0_10.index t (1 : Fin 2) * 512 + 1 * d.val = d.val; rw [e]; simp; try omega

end Cert.ProjArrays
-- ==== Proof.GateTable.lean ====
/- The triangle of the gate's weights, a table of the program, read entry by entry. -/
module

public import proofs.«01_k».proof.Proof.Gen.Kernel2Ideal.Frame.RunA

@[expose] public section

set_option maxRecDepth 16384

noncomputable section

namespace Cert.ProjArrays

open Idealize.ShloMosaic Cert.Kernel2Ideal

/-- The table is on at and below the diagonal. -/
theorem triangle_entry : ∀ r j : Fin 128, lit0t (r.val * 128 + j.val) = if j.val ≤ r.val then 1#1 else 0#1 := by
  decide +kernel

end Cert.ProjArrays

end
-- ==== Proof.Feat.lean ====
module

public import proofs.«01_k».proof.Proof.Gen.Kernel2Ideal.Frame.RunA

/-! The prompt's projections, its two normalised heads' rows and mixer A as the kernel's body computes them: every store as a
    term of vector operations over what the body loads. -/

@[expose] public section

set_option maxRecDepth 16384

noncomputable section

namespace Cert.Kernel2Ideal.Feat

open Cert.Kernel2Ideal Cert.Kernel2Ideal.Gen Idealize.ShloMosaic Idealize.ShloMosaic.TcCoe

variable {F : FTy → Type} [FloatOps F]

/-- The input's rows, normalised and scaled. -/
def normed (x : Vec F S512x1024 .f32) (g : Vec F S1x1024 .f32) : FVec F S512x1024 .bf16 :=
  truncf .bf16 (mulf (mulf (shapeCast S512x1024 x shapeCasts_S512x1024_S512x1024) (broadcastTo S512x1024
      (rsqrt (addf (divf (shapeCast S512x1 (multiReduction .add [1] S512
        (mulf (shapeCast S512x1024 x shapeCasts_S512x1024_S512x1024) (shapeCast S512x1024 x shapeCasts_S512x1024_S512x1024))
        0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

/-- One of the five projections. -/
def proj (h : FVec F S512x1024 .bf16) (w : Vec F S1024x512 .bf16) : FVec F S512x512 .f32 :=
  matmul dot_S512x1024_S1024x512_S512x512_1_0_0_1_n_n none h (shapeCast S1024x512 w shapeCasts_S1024x512_S1024x512) (constant S512x512 .f32 0x00000000#32)

/-- The gelu of a block, by the hyperbolic tangent. -/
def gelu (z : FVec F S512x512 .f32) : FVec F S512x512 .f32 :=
  mulf z (mulf (broadcast S512x512 (Scalar.ofBits .f32 0x3F000000#32)) (addf (broadcast S512x512 (Scalar.ofBits .f32 0x3F800000#32))
    (tanh (mulf (broadcast S512x512 (Scalar.ofBits .f32 0x3F4C422A#32))
      (addf z (mulf (broadcast S512x512 (Scalar.ofBits .f32 0x3D372713#32)) (mulf z (mulf z z))))))))

/-- The mean of every row. -/
def meanRow (y : FVec F S512x512 .f32) : FVec F S512x1 .f32 :=
  divf (shapeCast S512x1 (multiReduction .add [1] S512 y 0x00000000#32 reduces_S512x512_S512 (.inl rfl) rfl) shapeCasts_S512_S512x1)
    (broadcast S512x1 (Scalar.ofBits .f32 0x44000000#32))

/-- A block with every row's mean taken off. -/
def centred (y : FVec F S512x512 .f32) : FVec F S512x512 .f32 := subf y (broadcastTo S512x512 (meanRow y) broadcasts_S512x1_S512x512)

/-- A centred block normalised, scaled and shifted. -/
def scaled (y : FVec F S512x512 .f32) (g b : Vec F S1x512 .f32) : FVec F S512x512 .f32 :=
  addf (mulf (mulf y (broadcastTo S512x512 (rsqrt (addf (meanRow (mulf y y)) (broadcast S512x1 (Scalar.ofBits .f32 0x358637BD#32)))) broadcasts_S512x1_S512x512))
    (broadcastTo S512x512 (shapeCast S1x512 g shapeCasts_S1x512_S1x512) broadcasts_S1x512_S512x512))
    (broadcastTo S512x512 (shapeCast S1x512 b shapeCasts_S1x512_S1x512) broadcasts_S1x512_S512x512)

/-- The heads of a block normalised and scaled; the mean squares come from a product with a matrix of blocks. -/
def headNorm (z : FVec F S512x512 .f32) (p : Vec F S512x512 .bf16) (g : Vec F S1x512 .f32) : FVec F S512x512 .f32 :=
  mulf (mulf z (rsqrt (addf (matmul dot_S512x512_S512x512_S512x512_1_0_0_1_n_n none (truncf .bf16 (mulf z z) bitsLt_bf16_f32)
      (shapeCast S512x512 p shapeCasts_S512x512_S512x512) (constant S512x512 .f32 0x00000000#32)) (broadcast S512x512 (Scalar.ofBits .f32 0x358637BD#32)))))
    (broadcastTo S512x512 (shapeCast S1x512 g shapeCasts_S1x512_S1x512) broadcasts_S1x512_S512x512)

theorem slicesP (s : Fin 4) : S512x512.Slices ![0, 128 * s.val] S512x128 := by
  revert s; decide

/-- Slab `s` of a block, as it is stored. -/
def slabOf (z : FVec F S512x512 .f32) (s : Fin 4) : FVec F S1x1x512x128 .f32 :=
  shapeCast S1x1x512x128 (extractStridedSlice S512x128 ![0, 128 * s.val] z (slicesP s)) shapeCasts_S512x128_S1x1x512x128

/-- A block with the positions last, as it is stored. -/
def flipped (z : FVec F S512x512 .f32) : FVec F S1x512x512 .f32 :=
  shapeCast S1x512x512 (transpose S512x512 [1, 0] z transposes_S512x512_p1_0_S512x512) shapeCasts_S512x512_S1x512x512

theorem inbSlab (s : Fin 4) (i : Fin 4) : (![0, s.val, 0, 0] : Fin 4 → ℕ) i + (![1, 1, 512, 128] : Fin 4 → ℕ) i ≤ (![1, 4, 512, 128] : Fin 4 → ℕ) i := by
  have := s.isLt
  fin_cases i <;> simp <;> omega

/-- The rectangle of slab `s` in a block of four slabs. -/
def rectSlab (s : Fin 4) : Rect S1x4x512x128 := Rect.unit ![0, s.val, 0, 0] S1x1x512x128.size (inbSlab s)

/-- The four stores of the slabs of a block, the last first. -/
def slabs (z : FVec F S512x512 .f32) : List (View.Piece (Elt F) S1x4x512x128 .f32) :=
  [3, 2, 1, 0].map fun s => ⟨rectSlab s, slabOf z s⟩

section
variable (arg1 : Memref sig .tc .vmem S512x1024 .f32) (harg1 : arg1.IsWhole) (arg2 : Memref sig .tc .vmem S1x1024 .f32) (harg2 : arg2.IsWhole)
  (arg3 : Memref sig .tc .vmem S1024x2560 .bf16) (harg3 : arg3.IsWhole)
  (arg4 : Memref sig .tc .vmem S1x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S512x512 .bf16) (harg8 : arg8.IsWhole)
  (x0 : Vec F S512x1024 .f32) (x1 : Vec F S1x1024 .f32) (x2 : Vec F S1024x2560 .bf16) (x3 : Vec F S1x512 .f32) (x4 : Vec F S1x512 .f32) (x5 : Vec F S1x512 .f32) (x6 : Vec F S1x512 .f32) (x7 : Vec F S512x512 .bf16)

theorem inbProj (j : Fin 5) (i : Fin 2) : (![0, 512 * j.val] : Fin 2 → ℕ) i + (![1024, 512] : Fin 2 → ℕ) i ≤ (![1024, 2560] : Fin 2 → ℕ) i := by
  have := j.isLt
  fin_cases i <;> simp <;> omega

/-- The columns of projection `j`. -/
def loadW (j : Fin 5) : Vec F S1024x512 .bf16 :=
  View.readAt (Elt F) arg3.view (Rect.unit (s := S1024x2560) ![0, 512 * j.val] S1024x512.size (inbProj j)).toLoadRect (harg3.unread x2)

/-- Projection `j` of what the body loads. -/
def z (j : Fin 5) : FVec F S512x512 .f32 :=
  proj (normed (View.readAt (Elt F) arg1.view (Rect.unit (s := S512x1024) ![0, 0] S512x1024.size inb_S512x1024_S512x1024_0_0).toLoadRect (harg1.unread x0))
    (View.readAt (Elt F) arg2.view (Rect.unit (s := S1x1024) ![0, 0] S1x1024.size inb_S1x1024_S1x1024_0_0).toLoadRect (harg2.unread x1)))
    (loadW arg3 harg3 x2 j)

/-- The gate's first factor. -/
def u : FVec F S512x512 .f32 := gelu (z arg1 harg1 arg2 harg2 arg3 harg3 x0 x1 x2 0)

/-- What the gate mixes over positions. -/
def vn : FVec F S512x512 .f32 :=
  scaled (centred (gelu (z arg1 harg1 arg2 harg2 arg3 harg3 x0 x1 x2 1)))
    (View.readAt (Elt F) arg4.view (Rect.unit (s := S1x512) ![0, 0] S1x512.size inb_S1x512_S1x512_0_0).toLoadRect (harg4.unread x3))
    (View.readAt (Elt F) arg5.view (Rect.unit (s := S1x512) ![0, 0] S1x512.size inb_S1x512_S1x512_0_0).toLoadRect (harg5.unread x4))

/-- The queries. -/
def q : FVec F S512x512 .f32 :=
  headNorm (z arg1 harg1 arg2 harg2 arg3 harg3 x0 x1 x2 2)
    (View.readAt (Elt F) arg8.view (Rect.unit (s := S512x512) ![0, 0] S512x512.size inb_S512x512_S512x512_0_0).toLoadRect (harg8.unread x7))
    (View.readAt (Elt F) arg6.view (Rect.unit (s := S1x512) ![0, 0] S1x512.size inb_S1x512_S1x512_0_0).toLoadRect (harg6.unread x5))

/-- The keys. -/
def k : FVec F S512x512 .f32 :=
  headNorm (z arg1 harg1 arg2 harg2 arg3 harg3 x0 x1 x2 3)
    (View.readAt (Elt F) arg8.view (Rect.unit (s := S512x512) ![0, 0] S512x512.size inb_S512x512_S512x512_0_0).toLoadRect (harg8.unread x7))
    (View.readAt (Elt F) arg7.view (Rect.unit (s := S1x512) ![0, 0] S1x512.size inb_S1x512_S1x512_0_0).toLoadRect (harg7.unread x6))

end

/-- The body's stores of the queries. -/
theorem pieces15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S4x3x8x64 .f32) (harg12 : arg12.IsWhole) (arg13 : Memref sig .tc .vmem S4x64x2048 .f32) (harg13 : arg13.IsWhole) (arg14 : Memref sig .tc .vmem S4x64x2048 .f32) (harg14 : arg14.IsWhole) (arg15 : Memref sig .tc .vmem S16x2048 .f32) (harg15 : arg15.IsWhole) (arg16 : Memref sig .tc .vmem S1x4x512x128 .f32) (harg16 : arg16.IsWhole) (arg17 : Memref sig .tc .vmem S1x4x512x128 .f32) (harg17 : arg17.IsWhole) (arg18 : Memref sig .tc .vmem S1x4x512x128 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S512x512 .bf16) (harg21 : arg21.IsWhole) (arg22 : Memref sig .tc .vmem S4x16x64 .f32) (harg22 : arg22.IsWhole) (arg23 : Memref sig .tc .vmem S4x16x2048 .f32) (harg23 : arg23.IsWhole) (arg24 : Memref sig .tc .vmem S4x16x2048 .bf16) (harg24 : arg24.IsWhole)
    (x0 : Vec F S512x1024 .f32) (x1 : Vec F S1x1024 .f32) (x2 : Vec F S1024x2560 .bf16) (x3 : Vec F S1x512 .f32) (x4 : Vec F S1x512 .f32) (x5 : Vec F S1x512 .f32) (x6 : Vec F S1x512 .f32) (x7 : Vec F S512x512 .bf16) (x8 : Vec F S8x128x128 .bf16) (x9 : Vec F S128x512 .f32) (x10 : Vec F S1x512 .f32) (x11 : Vec F S4x3x8x64 .f32) (x12 : Vec F S4x64x2048 .f32) (x13 : Vec F S4x64x2048 .f32) (x14 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).1
      = slabs (q arg1 harg1 arg2 harg2 arg3 harg3 arg6 harg6 arg8 harg8 x0 x1 x2 x5 x7) := by
  rfl

/-- The body's stores of the keys. -/
theorem pieces16 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S4x3x8x64 .f32) (harg12 : arg12.IsWhole) (arg13 : Memref sig .tc .vmem S4x64x2048 .f32) (harg13 : arg13.IsWhole) (arg14 : Memref sig .tc .vmem S4x64x2048 .f32) (harg14 : arg14.IsWhole) (arg15 : Memref sig .tc .vmem S16x2048 .f32) (harg15 : arg15.IsWhole) (arg16 : Memref sig .tc .vmem S1x4x512x128 .f32) (harg16 : arg16.IsWhole) (arg17 : Memref sig .tc .vmem S1x4x512x128 .f32) (harg17 : arg17.IsWhole) (arg18 : Memref sig .tc .vmem S1x4x512x128 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S512x512 .bf16) (harg21 : arg21.IsWhole) (arg22 : Memref sig .tc .vmem S4x16x64 .f32) (harg22 : arg22.IsWhole) (arg23 : Memref sig .tc .vmem S4x16x2048 .f32) (harg23 : arg23.IsWhole) (arg24 : Memref sig .tc .vmem S4x16x2048 .bf16) (harg24 : arg24.IsWhole)
    (x0 : Vec F S512x1024 .f32) (x1 : Vec F S1x1024 .f32) (x2 : Vec F S1024x2560 .bf16) (x3 : Vec F S1x512 .f32) (x4 : Vec F S1x512 .f32) (x5 : Vec F S1x512 .f32) (x6 : Vec F S1x512 .f32) (x7 : Vec F S512x512 .bf16) (x8 : Vec F S8x128x128 .bf16) (x9 : Vec F S128x512 .f32) (x10 : Vec F S1x512 .f32) (x11 : Vec F S4x3x8x64 .f32) (x12 : Vec F S4x64x2048 .f32) (x13 : Vec F S4x64x2048 .f32) (x14 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.1
      = slabs (k arg1 harg1 arg2 harg2 arg3 harg3 arg7 harg7 arg8 harg8 x0 x1 x2 x6 x7) := by
  rfl

/-- The body's stores of the values. -/
theorem pieces17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S4x3x8x64 .f32) (harg12 : arg12.IsWhole) (arg13 : Memref sig .tc .vmem S4x64x2048 .f32) (harg13 : arg13.IsWhole) (arg14 : Memref sig .tc .vmem S4x64x2048 .f32) (harg14 : arg14.IsWhole) (arg15 : Memref sig .tc .vmem S16x2048 .f32) (harg15 : arg15.IsWhole) (arg16 : Memref sig .tc .vmem S1x4x512x128 .f32) (harg16 : arg16.IsWhole) (arg17 : Memref sig .tc .vmem S1x4x512x128 .f32) (harg17 : arg17.IsWhole) (arg18 : Memref sig .tc .vmem S1x4x512x128 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S512x512 .bf16) (harg21 : arg21.IsWhole) (arg22 : Memref sig .tc .vmem S4x16x64 .f32) (harg22 : arg22.IsWhole) (arg23 : Memref sig .tc .vmem S4x16x2048 .f32) (harg23 : arg23.IsWhole) (arg24 : Memref sig .tc .vmem S4x16x2048 .bf16) (harg24 : arg24.IsWhole)
    (x0 : Vec F S512x1024 .f32) (x1 : Vec F S1x1024 .f32) (x2 : Vec F S1024x2560 .bf16) (x3 : Vec F S1x512 .f32) (x4 : Vec F S1x512 .f32) (x5 : Vec F S1x512 .f32) (x6 : Vec F S1x512 .f32) (x7 : Vec F S512x512 .bf16) (x8 : Vec F S8x128x128 .bf16) (x9 : Vec F S128x512 .f32) (x10 : Vec F S1x512 .f32) (x11 : Vec F S4x3x8x64 .f32) (x12 : Vec F S4x64x2048 .f32) (x13 : Vec F S4x64x2048 .f32) (x14 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1
      = slabs (z arg1 harg1 arg2 harg2 arg3 harg3 x0 x1 x2 4) := by
  rfl

/-- The body's store of the keys with the positions last. -/
theorem pieces18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S4x3x8x64 .f32) (harg12 : arg12.IsWhole) (arg13 : Memref sig .tc .vmem S4x64x2048 .f32) (harg13 : arg13.IsWhole) (arg14 : Memref sig .tc .vmem S4x64x2048 .f32) (harg14 : arg14.IsWhole) (arg15 : Memref sig .tc .vmem S16x2048 .f32) (harg15 : arg15.IsWhole) (arg16 : Memref sig .tc .vmem S1x4x512x128 .f32) (harg16 : arg16.IsWhole) (arg17 : Memref sig .tc .vmem S1x4x512x128 .f32) (harg17 : arg17.IsWhole) (arg18 : Memref sig .tc .vmem S1x4x512x128 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S512x512 .bf16) (harg21 : arg21.IsWhole) (arg22 : Memref sig .tc .vmem S4x16x64 .f32) (harg22 : arg22.IsWhole) (arg23 : Memref sig .tc .vmem S4x16x2048 .f32) (harg23 : arg23.IsWhole) (arg24 : Memref sig .tc .vmem S4x16x2048 .bf16) (harg24 : arg24.IsWhole)
    (x0 : Vec F S512x1024 .f32) (x1 : Vec F S1x1024 .f32) (x2 : Vec F S1024x2560 .bf16) (x3 : Vec F S1x512 .f32) (x4 : Vec F S1x512 .f32) (x5 : Vec F S1x512 .f32) (x6 : Vec F S1x512 .f32) (x7 : Vec F S512x512 .bf16) (x8 : Vec F S8x128x128 .bf16) (x9 : Vec F S128x512 .f32) (x10 : Vec F S1x512 .f32) (x11 : Vec F S4x3x8x64 .f32) (x12 : Vec F S4x64x2048 .f32) (x13 : Vec F S4x64x2048 .f32) (x14 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.1
      = [⟨Rect.unit (s := S1x512x512) ![0, 0, 0] S1x512x512.size inb_S1x512x512_S1x512x512_0_0_0, flipped (k arg1 harg1 arg2 harg2 arg3 harg3 arg7 harg7 arg8 harg8 x0 x1 x2 x6 x7)⟩] := by
  rfl

/-- The body's store of the values with the positions last. -/
theorem pieces19 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S4x3x8x64 .f32) (harg12 : arg12.IsWhole) (arg13 : Memref sig .tc .vmem S4x64x2048 .f32) (harg13 : arg13.IsWhole) (arg14 : Memref sig .tc .vmem S4x64x2048 .f32) (harg14 : arg14.IsWhole) (arg15 : Memref sig .tc .vmem S16x2048 .f32) (harg15 : arg15.IsWhole) (arg16 : Memref sig .tc .vmem S1x4x512x128 .f32) (harg16 : arg16.IsWhole) (arg17 : Memref sig .tc .vmem S1x4x512x128 .f32) (harg17 : arg17.IsWhole) (arg18 : Memref sig .tc .vmem S1x4x512x128 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S512x512 .bf16) (harg21 : arg21.IsWhole) (arg22 : Memref sig .tc .vmem S4x16x64 .f32) (harg22 : arg22.IsWhole) (arg23 : Memref sig .tc .vmem S4x16x2048 .f32) (harg23 : arg23.IsWhole) (arg24 : Memref sig .tc .vmem S4x16x2048 .bf16) (harg24 : arg24.IsWhole)
    (x0 : Vec F S512x1024 .f32) (x1 : Vec F S1x1024 .f32) (x2 : Vec F S1024x2560 .bf16) (x3 : Vec F S1x512 .f32) (x4 : Vec F S1x512 .f32) (x5 : Vec F S1x512 .f32) (x6 : Vec F S1x512 .f32) (x7 : Vec F S512x512 .bf16) (x8 : Vec F S8x128x128 .bf16) (x9 : Vec F S128x512 .f32) (x10 : Vec F S1x512 .f32) (x11 : Vec F S4x3x8x64 .f32) (x12 : Vec F S4x64x2048 .f32) (x13 : Vec F S4x64x2048 .f32) (x14 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.1
      = [⟨Rect.unit (s := S1x512x512) ![0, 0, 0] S1x512x512.size inb_S1x512x512_S1x512x512_0_0_0, flipped (z arg1 harg1 arg2 harg2 arg3 harg3 x0 x1 x2 4)⟩] := by
  rfl

end Cert.Kernel2Ideal.Feat

end
-- ==== Proof.Gated.lean ====
module

public import proofs.«01_k».proof.Proof.Feat

/-! Mixer A as the kernel's body computes it: sixteen stores, one per chunk of 128 positions and slab of 128 columns. -/

@[expose] public section

set_option maxRecDepth 16384

noncomputable section

namespace Cert.Kernel2Ideal.Feat

open Cert.Kernel2Ideal Cert.Kernel2Ideal.Gen Idealize.ShloMosaic Idealize.ShloMosaic.TcCoe

variable {F : FTy → Type} [FloatOps F]

theorem slicesC (c : Fin 4) : S512x512.Slices ![128 * c.val, 0] S128x512 := by
  revert c; decide
theorem slicesS (s : Fin 4) : S128x512.Slices ![0, 128 * s.val] S128x128 := by
  revert s; decide
theorem slicesU (c s : Fin 4) : S512x512.Slices ![128 * c.val, 128 * s.val] S128x128 := by
  revert c s; decide

/-- A slab of a chunk gated: the first 64 columns mixed by one matrix, the others by another. -/
def gated (u : FVec F S128x128 .f32) (v : FVec F S128x128 .bf16) (w0 w1 : Vec F S1x128x128 .bf16) (b : Vec F S128x128 .f32) : FVec F S128x128 .f32 :=
  mulf u (addf (select (cmpi .slt (iota .tc S128x128 32 [1] iota_S128x128_d1_w32) (broadcast S128x128 64#32))
    (matmul dot_S128x128_S128x128_S128x128_1_0_0_1_n_n none (shapeCast S128x128 w0 shapeCasts_S1x128x128_S128x128) v (constant S128x128 .f32 0x00000000#32))
    (matmul dot_S128x128_S128x128_S128x128_1_0_0_1_n_n none (shapeCast S128x128 w1 shapeCasts_S1x128x128_S128x128) v (constant S128x128 .f32 0x00000000#32)))
    (shapeCast S128x128 b shapeCasts_S128x128_S128x128))

/-- The sum of the squares of a slab's rows. -/
def slabSq (a : FVec F S128x128 .f32) : FVec F S128x1 .f32 :=
  shapeCast S128x1 (multiReduction .add [1] S128 (mulf a a) 0x00000000#32 reduces_S128x128_S128 (.inl rfl) rfl) shapeCasts_S128_S128x1

/-- The reciprocal root of the mean square over the four slabs. -/
def slabNorm (a : Fin 4 → FVec F S128x128 .f32) : FVec F S128x1 .f32 :=
  rsqrt (addf (mulf (addf (addf (addf (addf (broadcast S128x1 (Scalar.ofBits .f32 0x00000000#32)) (slabSq (a 0))) (slabSq (a 1))) (slabSq (a 2))) (slabSq (a 3)))
    (broadcast S128x1 (Scalar.ofBits .f32 0x3B000000#32))) (broadcast S128x1 (Scalar.ofBits .f32 0x358637BD#32)))

/-- A slab normalised and scaled. -/
def slabOut (a : FVec F S128x128 .f32) (r : FVec F S128x1 .f32) (g : Vec F S1x128 .f32) : FVec F S128x128 .bf16 :=
  truncf .bf16 (mulf (mulf a (broadcastTo S128x128 r broadcasts_S128x1_S128x128))
    (broadcastTo S128x128 (shapeCast S1x128 g shapeCasts_S1x128_S1x128) broadcasts_S1x128_S128x128)) bitsLt_bf16_f32

theorem inbA (c s : Fin 4) (i : Fin 2) : (![128 * c.val, 128 * s.val] : Fin 2 → ℕ) i + (![128, 128] : Fin 2 → ℕ) i ≤ (![512, 512] : Fin 2 → ℕ) i := by
  have := c.isLt
  have := s.isLt
  fin_cases i <;> simp <;> omega
theorem inbW (j : Fin 8) (i : Fin 3) : (![j.val, 0, 0] : Fin 3 → ℕ) i + (![1, 128, 128] : Fin 3 → ℕ) i ≤ (![8, 128, 128] : Fin 3 → ℕ) i := by
  have := j.isLt
  fin_cases i <;> simp <;> omega
theorem inbB (s : Fin 4) (i : Fin 2) : (![0, 128 * s.val] : Fin 2 → ℕ) i + (![128, 128] : Fin 2 → ℕ) i ≤ (![128, 512] : Fin 2 → ℕ) i := by
  have := s.isLt
  fin_cases i <;> simp <;> omega
theorem inbG (s : Fin 4) (i : Fin 2) : (![0, 128 * s.val] : Fin 2 → ℕ) i + (![1, 128] : Fin 2 → ℕ) i ≤ (![1, 512] : Fin 2 → ℕ) i := by
  have := s.isLt
  fin_cases i <;> simp <;> omega

/-- The rectangle of chunk `c` and slab `s`. -/
def rectA (c s : Fin 4) : Rect S512x512 := Rect.unit ![128 * c.val, 128 * s.val] S128x128.size (inbA c s)

/-- The chunks and slabs in the order of the list: the last stored first. -/
def orderA : List (Fin 4 × Fin 4) :=
  [(3, 3), (3, 2), (3, 1), (3, 0), (2, 3), (2, 2), (2, 1), (2, 0), (1, 3), (1, 2), (1, 1), (1, 0), (0, 3), (0, 2), (0, 1), (0, 0)]

section
variable (arg9 : Memref sig .tc .vmem S8x128x128 .bf16) (harg9 : arg9.IsWhole) (arg10 : Memref sig .tc .vmem S128x512 .f32) (harg10 : arg10.IsWhole)
  (arg11 : Memref sig .tc .vmem S1x512 .f32) (harg11 : arg11.IsWhole)
  (x8 : Vec F S8x128x128 .bf16) (x9 : Vec F S128x512 .f32) (x10 : Vec F S1x512 .f32) (u vn : FVec F S512x512 .f32)

/-- The gate's matrix of head `j`. -/
def loadWs (j : Fin 8) : Vec F S1x128x128 .bf16 :=
  View.readAt (Elt F) arg9.view (Rect.unit (s := S8x128x128) ![j.val, 0, 0] S1x128x128.size (inbW j)).toLoadRect (harg9.unread x8)
/-- The gate's bias for slab `s`. -/
def loadB (s : Fin 4) : Vec F S128x128 .f32 :=
  View.readAt (Elt F) arg10.view (Rect.unit (s := S128x512) ![0, 128 * s.val] S128x128.size (inbB s)).toLoadRect (harg10.unread x9)
/-- The gain for slab `s`. -/
def loadG (s : Fin 4) : Vec F S1x128 .f32 :=
  View.readAt (Elt F) arg11.view (Rect.unit (s := S1x512) ![0, 128 * s.val] S1x128.size (inbG s)).toLoadRect (harg11.unread x10)

/-- Slab `s` of chunk `c`, gated. -/
def chunk (c s : Fin 4) : FVec F S128x128 .f32 :=
  gated (extractStridedSlice S128x128 ![128 * c.val, 128 * s.val] u (slicesU c s))
    (extractStridedSlice S128x128 ![0, 128 * s.val] (truncf .bf16 (extractStridedSlice S128x512 ![128 * c.val, 0] vn (slicesC c)) bitsLt_bf16_f32) (slicesS s))
    (loadWs arg9 harg9 x8 ⟨2 * s.val, by omega⟩) (loadWs arg9 harg9 x8 ⟨2 * s.val + 1, by omega⟩) (loadB arg10 harg10 x9 s)

/-- What is stored for chunk `c` and slab `s`. -/
def storedA (c s : Fin 4) : FVec F S128x128 .bf16 :=
  slabOut (chunk arg9 harg9 arg10 harg10 x8 x9 u vn c s) (slabNorm (chunk arg9 harg9 arg10 harg10 x8 x9 u vn c)) (loadG arg11 harg11 x10 s)

/-- The sixteen stores. -/
def listA : List (View.Piece (Elt F) S512x512 .bf16) :=
  orderA.map fun cs => ⟨rectA cs.1 cs.2, storedA arg9 harg9 arg10 harg10 arg11 harg11 x8 x9 x10 u vn cs.1 cs.2⟩
end

/-- The body's stores of mixer A. -/
theorem pieces20 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S4x3x8x64 .f32) (harg12 : arg12.IsWhole) (arg13 : Memref sig .tc .vmem S4x64x2048 .f32) (harg13 : arg13.IsWhole) (arg14 : Memref sig .tc .vmem S4x64x2048 .f32) (harg14 : arg14.IsWhole) (arg15 : Memref sig .tc .vmem S16x2048 .f32) (harg15 : arg15.IsWhole) (arg16 : Memref sig .tc .vmem S1x4x512x128 .f32) (harg16 : arg16.IsWhole) (arg17 : Memref sig .tc .vmem S1x4x512x128 .f32) (harg17 : arg17.IsWhole) (arg18 : Memref sig .tc .vmem S1x4x512x128 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S512x512 .bf16) (harg21 : arg21.IsWhole) (arg22 : Memref sig .tc .vmem S4x16x64 .f32) (harg22 : arg22.IsWhole) (arg23 : Memref sig .tc .vmem S4x16x2048 .f32) (harg23 : arg23.IsWhole) (arg24 : Memref sig .tc .vmem S4x16x2048 .bf16) (harg24 : arg24.IsWhole)
    (x0 : Vec F S512x1024 .f32) (x1 : Vec F S1x1024 .f32) (x2 : Vec F S1024x2560 .bf16) (x3 : Vec F S1x512 .f32) (x4 : Vec F S1x512 .f32) (x5 : Vec F S1x512 .f32) (x6 : Vec F S1x512 .f32) (x7 : Vec F S512x512 .bf16) (x8 : Vec F S8x128x128 .bf16) (x9 : Vec F S128x512 .f32) (x10 : Vec F S1x512 .f32) (x11 : Vec F S4x3x8x64 .f32) (x12 : Vec F S4x64x2048 .f32) (x13 : Vec F S4x64x2048 .f32) (x14 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.1
      = listA arg9 harg9 arg10 harg10 arg11 harg11 x8 x9 x10 (u arg1 harg1 arg2 harg2 arg3 harg3 x0 x1 x2) (vn arg1 harg1 arg2 harg2 arg3 harg3 arg4 harg4 arg5 harg5 x0 x1 x2 x3 x4) := by
  rfl

end Cert.Kernel2Ideal.Feat

end
-- ==== Proof.FeatRow.lean ====
module

public import proofs.«01_k».proof.Proof.Gated
public import proofs.«01_k».proof.Proof.GateSpec

/-! The body's terms at a row and a column: the token's projections, heads and gate. -/

@[expose] public section

set_option maxRecDepth 16384

noncomputable section

namespace Cert.Kernel2Ideal.Feat

open Cert.Kernel2Ideal Cert.Kernel2Ideal.Gen Idealize.ShloMosaic Idealize.ShloMosaic.TcCoe

/-- What the projections read is the normalised row. -/
theorem normed_row (x : Vec Ideal S512x1024 .f32) (g : Vec Ideal S1x1024 .f32) (r : Fin 512) (d : Fin 1024) :
    normed x g (ix2 r d) = RowSpec.norm RowSpec.c1024 (fun d => x (ix2 r d)) (fun d => g (ix2 0 d)) d := by
  pointwise [normed]
  rfl

/-- A projection at an index. -/
theorem proj_row (h : FVec Ideal S512x1024 .bf16) (w : Vec Ideal S1024x512 .bf16) (r i : Fin 512) :
    proj h w (ix2 r i) = ∑ k : Fin 1024, h (ix2 r k) * w (ix2 k i) := by
  pointwise [proj]

/-- The gelu at an index. -/
theorem gelu_row (z : FVec Ideal S512x512 .f32) (r i : Fin 512) : gelu z (ix2 r i) = GateSpec.gelu (z (ix2 r i)) := by
  pointwise [gelu]
  rfl

/-- A row's mean. -/
theorem mean_row (y : FVec Ideal S512x512 .f32) (r : Fin 512) (z : Fin 1) : meanRow y (ix2 r z) = GateSpec.mean fun k => y (ix2 r k) := by
  pointwise [meanRow]
  rfl

/-- A centred row. -/
theorem centred_row (y : FVec Ideal S512x512 .f32) (r i : Fin 512) : centred y (ix2 r i) = GateSpec.centre (fun k => y (ix2 r k)) i := by
  unfold centred
  pointwise
  rw [mean_row]
  rfl

/-- The layer norm's row. -/
theorem scaled_row (y : FVec Ideal S512x512 .f32) (g b : Vec Ideal S1x512 .f32) (r i : Fin 512) :
    scaled (centred y) g b (ix2 r i) = GateSpec.layer (fun k => y (ix2 r k)) (fun k => g (ix2 0 k)) (fun k => b (ix2 0 k)) i := by
  unfold scaled
  generalize hy : centred y = yc
  generalize hm : meanRow (mulf yc yc) = mm
  pointwise
  rw [← hm, mean_row]
  pointwise
  rw [← hy]
  simp only [centred_row]
  rfl

/-- The normalised heads' row, the matrix being one of blocks. -/
theorem headNorm_row (z : FVec Ideal S512x512 .f32) (p : Vec Ideal S512x512 .bf16) (g : Vec Ideal S1x512 .f32) (r i : Fin 512)
    (hp : ∀ a b : Fin 512, p (ix2 a b) = if a.val / 64 = b.val / 64 then Ideal.ofBits .f32 0x3C800000#32 else 0) :
    headNorm z p g (ix2 r i) = GateSpec.head (fun k => z (ix2 r k)) (g (ix2 0 i)) i := by
  pointwise [headNorm]
  simp only [hp]
  unfold GateSpec.head
  rw [← GateSpec.headRms_block]
  rfl

/-- A slab at an index. -/
theorem slabOf_row (z : FVec Ideal S512x512 .f32) (s : Fin 4) (a b : Fin 1) (r : Fin 512) (k : Fin 128) :
    slabOf z s (ix4 a b r k) = z (ix2 r ⟨128 * s.val + k.val, by omega⟩) := by
  pointwise [slabOf]

/-- The block with the positions last, at an index. -/
theorem flipped_row (z : FVec Ideal S512x512 .f32) (a : Fin 1) (i r : Fin 512) : flipped z (ix3 a i r) = z (ix2 r i) := by
  pointwise [flipped]

end Cert.Kernel2Ideal.Feat

end
-- ==== Proof.GatedRow.lean ====
module

public import proofs.«01_k».proof.Proof.FeatRow

/-! Mixer A's stores at a row and a column. -/

@[expose] public section

set_option maxRecDepth 16384

noncomputable section

namespace Cert.Kernel2Ideal.Feat

open Cert.Kernel2Ideal Cert.Kernel2Ideal.Gen Idealize.ShloMosaic Idealize.ShloMosaic.TcCoe

/-- The word of the comparison of a column with 64. -/
theorem lane_word (k : Fin 128) : IntOp.cmpi CmpIPredicate.slt (BitVec.ofNat 32 k.val) 64#32 = if k.val < 64 then 1#1 else 0#1 := by
  revert k; decide +kernel

/-- A choice by whether a column is one of the first 64. -/
theorem lane_select {A : Type} (k : Fin 128) (x y : A) :
    Scalar.select (IntOp.cmpi CmpIPredicate.slt (BitVec.ofNat 32 k.val) 64#32) x y = if k.val < 64 then x else y := by
  rw [lane_word]
  by_cases h : k.val < 64
  · simp [h, Scalar.select]
  · simp [h, Scalar.select]

/-- A gated slab at an index. -/
theorem gated_row (u : FVec Ideal S128x128 .f32) (v : FVec Ideal S128x128 .bf16) (w0 w1 : Vec Ideal S1x128x128 .bf16) (b : Vec Ideal S128x128 .f32) (p k : Fin 128) :
    gated u v w0 w1 b (ix2 p k)
      = u (ix2 p k) * ((if k.val < 64 then ∑ j : Fin 128, w0 (ix3 0 p j) * v (ix2 j k) else ∑ j : Fin 128, w1 (ix3 0 p j) * v (ix2 j k)) + b (ix2 p k)) := by
  pointwise [gated]
  rw [lane_select]

/-- The reciprocal root over four slabs is that of the row of 512 they make up. -/
theorem slabNorm_row (a : Fin 4 → FVec Ideal S128x128 .f32) (p : Fin 128) (z : Fin 1) (f : Fin 512 → EReal)
    (h : ∀ (s : Fin 4) (k : Fin 128), a s (ix2 p k) = f ⟨128 * s.val + k.val, by omega⟩) :
    slabNorm a (ix2 p z) = RowSpec.rms RowSpec.c512 f := by
  have h0 : ∀ k : Fin 128, a 0 (ix2 p k) = f ⟨k.val, by omega⟩ := fun k => (h 0 k).trans (congrArg f (Fin.ext (by simp)))
  have h1 : ∀ k : Fin 128, a 1 (ix2 p k) = f ⟨128 + k.val, by omega⟩ := fun k => h 1 k
  have h2 : ∀ k : Fin 128, a 2 (ix2 p k) = f ⟨256 + k.val, by omega⟩ := fun k => h 2 k
  have h3 : ∀ k : Fin 128, a 3 (ix2 p k) = f ⟨384 + k.val, by omega⟩ := fun k => h 3 k
  pointwise [slabNorm, slabSq]
  rw [RowSpec.rms, RowSpec.div_c512, RowSpec.sum_quarters]
  simp only [h0, h1, h2, h3]
  rfl

/-- A normalised slab at an index. -/
theorem slabOut_row (a : FVec Ideal S128x128 .f32) (R : FVec Ideal S128x1 .f32) (g : Vec Ideal S1x128 .f32) (p k : Fin 128) :
    slabOut a R g (ix2 p k) = a (ix2 p k) * R (ix2 p 0) * g (ix2 0 k) := by
  pointwise [slabOut]

/-- A slab of a chunk, gated, at an index: the token's gate. -/
theorem gate_row (u vn : FVec Ideal S512x512 .f32) (c s : Fin 4) (w0 w1 : Vec Ideal S1x128x128 .bf16) (b : Vec Ideal S128x128 .f32) (p k : Fin 128)
    (w : Fin 8 → Fin 128 → EReal) (bb : Fin 8 → EReal)
    (h0 : ∀ j, w0 (ix3 0 p j) = w ⟨2 * s.val, by omega⟩ j) (h1 : ∀ j, w1 (ix3 0 p j) = w ⟨2 * s.val + 1, by omega⟩ j)
    (hb : b (ix2 p k) = bb ⟨(128 * s.val + k.val) / 64, by omega⟩) :
    gated (extractStridedSlice S128x128 ![128 * c.val, 128 * s.val] u (slicesU c s))
        (extractStridedSlice S128x128 ![0, 128 * s.val] (truncf .bf16 (extractStridedSlice S128x512 ![128 * c.val, 0] vn (slicesC c)) bitsLt_bf16_f32) (slicesS s))
        w0 w1 b (ix2 p k)
      = GateSpec.gate (fun i => u (ix2 ⟨128 * c.val + p.val, by omega⟩ i)) (fun j i => vn (ix2 ⟨128 * c.val + j.val, by omega⟩ i)) w bb
          ⟨128 * s.val + k.val, by omega⟩ := by
  rw [gated_row, hb]
  simp only [h0, h1]
  pointwise
  unfold GateSpec.gate
  by_cases hk : k.val < 64
  · rw [if_pos hk]
    have e : (⟨(128 * s.val + k.val) / 64, by omega⟩ : Fin 8) = ⟨2 * s.val, by omega⟩ := Fin.ext (by simp only; omega)
    simp only [e]
  · rw [if_neg hk]
    have e : (⟨(128 * s.val + k.val) / 64, by omega⟩ : Fin 8) = ⟨2 * s.val + 1, by omega⟩ := Fin.ext (by simp only; omega)
    simp only [e]

end Cert.Kernel2Ideal.Feat

end
-- ==== Proof.ProjPoint.lean ====
/- What a point of the projections' grid computes, of the call's arguments. -/
module

public import proofs.«01_k».proof.Proof.ProjSpec
public import proofs.«01_k».proof.Proof.ProjArrays
public import proofs.«01_k».proof.Proof.ProjBlocks
public import proofs.«01_k».proof.Proof.GateTable
public import proofs.«01_k».proof.Proof.GatedRow

@[expose] public section

set_option maxRecDepth 16384

noncomputable section

namespace Cert.ProjPoint

open Idealize.ShloMosaic Idealize.ShloMosaic.TcCoe Cert.Kernel2Ideal Cert.Kernel2Ideal.Gen

/-- The input, as numbers. -/
abbrev xOf (x : FVec Ideal S8x2048x1024 .f32) : Fin 8 → Fin 2048 → Fin 1024 → EReal := fun b l d => x (ix3 b l d)
/-- A row of numbers. -/
abbrev rowOf {n : ℕ} (g : FVec Ideal ⟨2, ![1, n]⟩ .f32) : Fin n → EReal := fun d => g (ix2 0 d)
/-- The projections, as numbers. -/
abbrev wOf (w : FVec Ideal S1x1024x2560 .f32) : Fin 1024 → Fin 2560 → EReal := fun k j => w (ix3 0 k j)

variable (m : (ℓ : Loc nD τ sig) → Buf (Elt Ideal) ℓ) (c : Dev nD) (t : Fin cfg0.N)

/-- The projections' column of the call's arguments. -/
abbrev colM := ProjSpec.col (xOf (m ((c : Thread nD τ).loc main_arg0))) (rowOf (m ((c : Thread nD τ).loc main_arg6))) (wOf (m ((c : Thread nD τ).loc main_arg7)))

/-- Projection `j` as the point computes it. -/
abbrev zAt := Feat.z (ms0_0 t) (hs0_0 t) (ms0_1 t) (hs0_1 t) (ms0_2 t) (hs0_2 t) (iblk m c 0 t) (iblk m c 1 t) (iblk m c 2 t)

/-- The input's block: 512 positions of one batch. -/
theorem x_at (r : Fin 512) (d : Fin 1024) (b : Fin 8) (hb : b.val = t.val / 4) (l : Fin 2048) (hl : l.val = t.val % 4 * 512 + r.val) :
    iblk m c 0 t (ix2 r d) = m ((c : Thread nD τ).loc main_arg0) (ix3 b l d) := by
  have ht : t.val < 32 := t.isLt
  refine (ProjArrays.blk_x m c t r d ⟨t.val * 512 + r.val, by omega⟩ rfl).trans ((ProjArrays.x_rows m c _ d).trans ?_)
  congr 2
  · exact Fin.ext (by simp only; omega)
  · exact Fin.ext (by simp only; omega)

/-- A projection's row. -/
theorem z_row (j : Fin 5) (r i : Fin 512) (b : Fin 8) (hb : b.val = t.val / 4) (l : Fin 2048) (hl : l.val = t.val % 4 * 512 + r.val) :
    zAt m c t j (ix2 r i) = colM m c b l j i := by
  unfold zAt Feat.z
  rw [Feat.proj_row]
  simp only [Feat.normed_row, Feat.loadW, View.readAt_eq_ld, Memref.IsWhole.read_unread]
  pointwise
  simp only [fun d => x_at m c t r d b hb l hl,
    fun d => (ProjArrays.blk_gain_in m c t 0 d).trans (ProjArrays.gain_in m c d),
    fun k j => (ProjArrays.blk_w_in m c t k j).trans (ProjArrays.w_in m c k j)]
  rfl

/-- The matrix of blocks at a point. -/
theorem blocks_at (a b : Fin 512) : iblk m c 7 t (ix2 a b) = (if a.val / 64 = b.val / 64 then Ideal.ofBits .f32 0x3C800000#32 else 0 : EReal) :=
  (ProjArrays.blk_blocks m c t a b).trans (ProjArrays.blocks m c a b)

/-- The keys as the point computes them. -/
abbrev kAt := Feat.k (ms0_0 t) (hs0_0 t) (ms0_1 t) (hs0_1 t) (ms0_2 t) (hs0_2 t) (ms0_6 t) (hs0_6 t) (ms0_7 t) (hs0_7 t)
  (iblk m c 0 t) (iblk m c 1 t) (iblk m c 2 t) (iblk m c 6 t) (iblk m c 7 t)

/-- The queries as the point computes them. -/
abbrev qAt := Feat.q (ms0_0 t) (hs0_0 t) (ms0_1 t) (hs0_1 t) (ms0_2 t) (hs0_2 t) (ms0_5 t) (hs0_5 t) (ms0_7 t) (hs0_7 t)
  (iblk m c 0 t) (iblk m c 1 t) (iblk m c 2 t) (iblk m c 5 t) (iblk m c 7 t)

/-- A key's row. -/
theorem k_row (r i : Fin 512) (b : Fin 8) (hb : b.val = t.val / 4) (l : Fin 2048) (hl : l.val = t.val % 4 * 512 + r.val) :
    kAt m c t (ix2 r i) = GateSpec.head (colM m c b l 3) (rowOf (n := 64) (m ((c : Thread nD τ).loc main_arg13)) ⟨i.val % 64, by omega⟩) i := by
  unfold kAt Feat.k
  simp only [View.readAt_eq_ld, Memref.IsWhole.read_unread]
  rw [Feat.headNorm_row _ _ _ _ _ fun a b => by pointwise; exact blocks_at m c t a b]
  pointwise
  simp only [fun i => z_row m c t 3 r i b hb l hl, fun d => (ProjArrays.blk_gain_k m c t 0 d).trans (ProjArrays.gain_k m c d)]

/-- A query's row. -/
theorem q_row (r i : Fin 512) (b : Fin 8) (hb : b.val = t.val / 4) (l : Fin 2048) (hl : l.val = t.val % 4 * 512 + r.val) :
    qAt m c t (ix2 r i) = GateSpec.head (colM m c b l 2)
      (ProjArrays.eighth (rowOf (n := 64) (m ((c : Thread nD τ).loc main_arg12)) ⟨i.val % 64, by omega⟩)) i := by
  unfold qAt Feat.q
  simp only [View.readAt_eq_ld, Memref.IsWhole.read_unread]
  rw [Feat.headNorm_row _ _ _ _ _ fun a b => by pointwise; exact blocks_at m c t a b]
  pointwise
  simp only [fun i => z_row m c t 2 r i b hb l hl, fun d => (ProjArrays.blk_gain_q m c t 0 d).trans (ProjArrays.gain_q m c d)]

/-- The gate's first factor as the point computes it. -/
abbrev uAt := Feat.u (ms0_0 t) (hs0_0 t) (ms0_1 t) (hs0_1 t) (ms0_2 t) (hs0_2 t) (iblk m c 0 t) (iblk m c 1 t) (iblk m c 2 t)

/-- What the gate mixes, as the point computes it. -/
abbrev vAt := Feat.vn (ms0_0 t) (hs0_0 t) (ms0_1 t) (hs0_1 t) (ms0_2 t) (hs0_2 t) (ms0_3 t) (hs0_3 t) (ms0_4 t) (hs0_4 t)
  (iblk m c 0 t) (iblk m c 1 t) (iblk m c 2 t) (iblk m c 3 t) (iblk m c 4 t)

/-- The first factor's row. -/
theorem u_row (r i : Fin 512) (b : Fin 8) (hb : b.val = t.val / 4) (l : Fin 2048) (hl : l.val = t.val % 4 * 512 + r.val) :
    uAt m c t (ix2 r i) = GateSpec.gelu (colM m c b l 0 i) := by
  unfold uAt Feat.u
  rw [Feat.gelu_row]
  exact congrArg _ (z_row m c t 0 r i b hb l hl)

/-- The mixed row. -/
theorem v_row (r i : Fin 512) (b : Fin 8) (hb : b.val = t.val / 4) (l : Fin 2048) (hl : l.val = t.val % 4 * 512 + r.val) :
    vAt m c t (ix2 r i) = ProjSpec.mixed (xOf (m ((c : Thread nD τ).loc main_arg0))) (rowOf (m ((c : Thread nD τ).loc main_arg6)))
      (wOf (m ((c : Thread nD τ).loc main_arg7))) (rowOf (n := 512) (m ((c : Thread nD τ).loc main_arg8))) (rowOf (n := 512) (m ((c : Thread nD τ).loc main_arg9))) b l i := by
  unfold vAt Feat.vn
  rw [Feat.scaled_row]
  simp only [Feat.gelu_row, View.readAt_eq_ld, Memref.IsWhole.read_unread]
  pointwise
  simp only [fun i => z_row m c t 1 r i b hb l hl, fun d => (ProjArrays.blk_ln_g m c t 0 d).trans (ProjArrays.ln_g m c d),
    fun d => (ProjArrays.blk_ln_b m c t 0 d).trans (ProjArrays.ln_b m c d)]
  rfl

/-- The gate's weights at a point. -/
theorem weights_at (h : Fin 8) (p j : Fin 128) :
    iblk m c 8 t (ix3 h p j) = ProjSpec.lower (fun h p j => m ((c : Thread nD τ).loc main_arg10) (ix4 0 h p j)) p h j := by
  rw [(ProjArrays.blk_weights m c t h p j).trans (ProjArrays.weights m c h p j)]
  have e : lit0 (S128x128.rowMajor (ix2 p j)) = if j.val ≤ p.val then 1#1 else 0#1 := by
    refine Eq.trans ?_ (ProjArrays.triangle_entry p j)
    show lit0t (S128x128.rowMajor (ix2 p j)).val = _
    rw [Shape.rowMajor_val_two]
    rfl
  rw [e]
  unfold ProjSpec.lower Scalar.select
  by_cases hj : j.val ≤ p.val <;> simp [hj]

/-- The gate of a position, of the call's arguments. -/
abbrev gateM (b : Fin 8) (l : Fin 2048) : Fin 512 → EReal :=
  GateSpec.gate (fun i => GateSpec.gelu (colM m c b l 0 i))
    (fun j => ProjSpec.mixed (xOf (m ((c : Thread nD τ).loc main_arg0))) (rowOf (m ((c : Thread nD τ).loc main_arg6)))
      (wOf (m ((c : Thread nD τ).loc main_arg7))) (rowOf (n := 512) (m ((c : Thread nD τ).loc main_arg8))) (rowOf (n := 512) (m ((c : Thread nD τ).loc main_arg9)))
      b ⟨l.val / 128 * 128 + j.val, by omega⟩)
    (ProjSpec.lower (fun h p j => m ((c : Thread nD τ).loc main_arg10) (ix4 0 h p j)) ⟨l.val % 128, by omega⟩)
    (fun h => m ((c : Thread nD τ).loc main_arg11) (ix3 0 h ⟨l.val % 128, by omega⟩))

/-- A slab of a chunk as the point computes it. -/
abbrev chunkAt := Feat.chunk (ms0_8 t) (hs0_8 t) (ms0_9 t) (hs0_9 t) (iblk m c 8 t) (iblk m c 9 t) (uAt m c t) (vAt m c t)

/-- A gated slab's row. -/
theorem chunk_row (g s : Fin 4) (p k : Fin 128) (b : Fin 8) (hb : b.val = t.val / 4) (l : Fin 2048) (hl : l.val = t.val % 4 * 512 + (128 * g.val + p.val)) :
    chunkAt m c t g s (ix2 p k) = gateM m c b l ⟨128 * s.val + k.val, by omega⟩ := by
  have hp : (⟨l.val % 128, by omega⟩ : Fin 128) = p := Fin.ext (by simp only; omega)
  unfold chunkAt Feat.chunk
  rw [Feat.gate_row (uAt m c t) (vAt m c t) g s _ _ _ p k
    (ProjSpec.lower (fun h p j => m ((c : Thread nD τ).loc main_arg10) (ix4 0 h p j)) p)
    (fun h => m ((c : Thread nD τ).loc main_arg11) (ix3 0 h p)) ?_ ?_ ?_]
  · unfold gateM
    rw [hp]
    congr 1
    · funext i
      exact u_row m c t _ i b hb l hl
    · funext j i
      exact v_row m c t _ i b hb _ (by simp only; omega)
  · intro j
    unfold Feat.loadWs
    simp only [View.readAt_eq_ld, Memref.IsWhole.read_unread]
    pointwise
    exact weights_at m c t _ p j
  · intro j
    unfold Feat.loadWs
    simp only [View.readAt_eq_ld, Memref.IsWhole.read_unread]
    pointwise
    exact weights_at m c t _ p j
  · unfold Feat.loadB
    simp only [View.readAt_eq_ld, Memref.IsWhole.read_unread]
    pointwise
    exact (ProjArrays.blk_bias m c t p _).trans (ProjArrays.bias m c p _)

/-- What the point stores of mixer A, by chunk and slab. -/
abbrev storedAt := Feat.storedA (ms0_8 t) (hs0_8 t) (ms0_9 t) (hs0_9 t) (ms0_10 t) (hs0_10 t) (iblk m c 8 t) (iblk m c 9 t) (iblk m c 10 t) (uAt m c t) (vAt m c t)

/-- A stored slab's row. -/
theorem stored_row (g s : Fin 4) (p k : Fin 128) (b : Fin 8) (hb : b.val = t.val / 4) (l : Fin 2048) (hl : l.val = t.val % 4 * 512 + (128 * g.val + p.val)) :
    storedAt m c t g s (ix2 p k)
      = RowSpec.norm RowSpec.c512 (gateM m c b l) (rowOf (n := 512) (m ((c : Thread nD τ).loc main_arg14))) ⟨128 * s.val + k.val, by omega⟩ := by
  unfold storedAt Feat.storedA
  have e := chunk_row m c t g s p k b hb l hl
  unfold chunkAt at e
  rw [Feat.slabOut_row, Feat.slabNorm_row _ p 0 (gateM m c b l) fun s k => chunk_row m c t g s p k b hb l hl, e]
  unfold Feat.loadG RowSpec.norm
  simp only [View.readAt_eq_ld, Memref.IsWhole.read_unread]
  pointwise
  exact congrArg _ ((ProjArrays.blk_gain_out m c t 0 _).trans (ProjArrays.gain_out m c _))

end Cert.ProjPoint

end
-- ==== Proof.ProjResult.lean ====
/- The six arrays of the prompt that the projections' call leaves, of the call's arguments. -/
module

public import proofs.«01_k».proof.Proof.ProjPoint

@[expose] public section

set_option maxRecDepth 16384

noncomputable section

namespace Cert.ProjResult

open Idealize.ShloMosaic Idealize.ShloMosaic.TcCoe Cert.Kernel2Ideal Cert.Kernel2Ideal.Gen Cert.ProjPoint

theorem embSlab (s : Fin 4) (r : Fin 512) (k : Fin 128) : (Feat.rectSlab s).emb (ix4 0 0 r k) = ix4 0 s r k := by
  funext a
  fin_cases a
  · exact Fin.ext (by show 0 + 1 * 0 = 0; omega)
  · exact Fin.ext (by show s.val + 1 * 0 = s.val; omega)
  · exact Fin.ext (by show 0 + 1 * r.val = r.val; omega)
  · exact Fin.ext (by show 0 + 1 * k.val = k.val; omega)

theorem mem_slabs (s : Fin 4) : s ∈ ([3, 2, 1, 0] : List (Fin 4)) := by revert s; decide

/-- What the four stores of a block's slabs leave. -/
theorem canonSlab (z : FVec Ideal S512x512 .f32) (s : Fin 4) (r : Fin 512) (k : Fin 128) :
    View.canon (Feat.slabs z) (ix4 0 s r k) = z (ix2 r ⟨128 * s.val + k.val, by omega⟩) := by
  let F : S1x4x512x128.Idx → EReal := fun y => z (ix2 (y 2) ⟨128 * (y 1).val + (y 3).val, by
    have h1 : (y 1).val < 4 := (y 1).isLt
    have h3 : (y 3).val < 128 := (y 3).isLt
    omega⟩)
  refine View.canon_apply_of_pieces (Val := Elt Ideal) (S := S1x4x512x128) (e := .f32) F _ ?_ (ix4 (0 : Fin 1) s r k) ?_
  · intro p hp x
    obtain ⟨s', _, rfl⟩ := List.mem_map.mp hp
    obtain ⟨r', k', rfl⟩ : ∃ (r' : Fin 512) (k' : Fin 128), x = ix4 0 0 r' k' :=
      ⟨x 2, x 3, by idx_vars x; rw [Subsingleton.elim x0 0, Subsingleton.elim x1 0]⟩
    refine (Feat.slabOf_row z s' 0 0 r' k').trans ?_
    show _ = F ((Feat.rectSlab s').emb (ix4 0 0 r' k'))
    rw [embSlab]
    rfl
  · refine ⟨_, List.mem_map.mpr ⟨s, mem_slabs s, rfl⟩, ?_⟩
    rw [← embSlab]
    exact LoadRect.idx_mem _ _

theorem embA (g s : Fin 4) (p k : Fin 128) :
    (Feat.rectA g s).emb (ix2 p k) = ix2 ⟨128 * g.val + p.val, by omega⟩ ⟨128 * s.val + k.val, by omega⟩ := by
  funext a
  fin_cases a
  · exact Fin.ext (by show 128 * g.val + 1 * p.val = 128 * g.val + p.val; omega)
  · exact Fin.ext (by show 128 * s.val + 1 * k.val = 128 * s.val + k.val; omega)

theorem mem_orderA (g s : Fin 4) : (g, s) ∈ Feat.orderA := by revert g s; decide

/-- What the sixteen stores of mixer A leave. -/
theorem canonA (f : Fin 4 → Fin 4 → FVec Ideal S128x128 .bf16) (g s : Fin 4) (p k : Fin 128) :
    View.canon (Feat.orderA.map fun cs => (⟨Feat.rectA cs.1 cs.2, f cs.1 cs.2⟩ : View.Piece (Elt Ideal) S512x512 .bf16))
        (ix2 ⟨128 * g.val + p.val, by omega⟩ ⟨128 * s.val + k.val, by omega⟩) = f g s (ix2 p k) := by
  let F : S512x512.Idx → EReal := fun y => f ⟨(y 0).val / 128, by have h : (y 0).val < 512 := (y 0).isLt; omega⟩
    ⟨(y 1).val / 128, by have h : (y 1).val < 512 := (y 1).isLt; omega⟩ (ix2 ⟨(y 0).val % 128, by omega⟩ ⟨(y 1).val % 128, by omega⟩)
  have key : ∀ (g s : Fin 4) (p k : Fin 128), F (ix2 ⟨128 * g.val + p.val, by omega⟩ ⟨128 * s.val + k.val, by omega⟩) = f g s (ix2 p k) := by
    intro g s p k
    show f ⟨(128 * g.val + p.val) / 128, _⟩ ⟨(128 * s.val + k.val) / 128, _⟩ (ix2 ⟨(128 * g.val + p.val) % 128, _⟩ ⟨(128 * s.val + k.val) % 128, _⟩) = _
    have e1 : ∀ (a : Fin 4) (b : Fin 128), (⟨(128 * a.val + b.val) / 128, by omega⟩ : Fin 4) = a := fun a b => Fin.ext (by simp only; omega)
    have e2 : ∀ (a : Fin 4) (b : Fin 128), (⟨(128 * a.val + b.val) % 128, by omega⟩ : Fin 128) = b := fun a b => Fin.ext (by simp only; omega)
    rw [e1, e1, e2, e2]
  refine (View.canon_apply_of_pieces F _ ?_ (ix2 ⟨128 * g.val + p.val, by omega⟩ ⟨128 * s.val + k.val, by omega⟩) ?_).trans (key g s p k)
  · intro pc hp x
    obtain ⟨⟨g', s'⟩, _, rfl⟩ := List.mem_map.mp hp
    obtain ⟨p', k', rfl⟩ : ∃ (p' k' : Fin 128), x = ix2 p' k' := ⟨x 0, x 1, by idx_vars x; rfl⟩
    show f g' s' (ix2 p' k') = F ((Feat.rectA g' s').emb (ix2 p' k'))
    rw [embA, key]
  · refine ⟨_, List.mem_map.mpr ⟨(g, s), mem_orderA g s, rfl⟩, ?_⟩
    show _ ∈ (Feat.rectA g s).set
    rw [← embA]
    exact LoadRect.idx_mem _ _

section
variable (x : FVec Ideal S8x2048x1024 .f32) (g : FVec Ideal S1x1024 .f32) (w : FVec Ideal S1x1024x2560 .f32)

/-- The values. -/
def values (b : Fin 8) (l : Fin 2048) (i : Fin 512) : EReal := ProjSpec.col (xOf x) (rowOf g) (wOf w) b l 4 i

/-- The keys. -/
def keys (gk : FVec Ideal S1x64 .f32) (b : Fin 8) (l : Fin 2048) (i : Fin 512) : EReal :=
  GateSpec.head (ProjSpec.col (xOf x) (rowOf g) (wOf w) b l 3) (rowOf (n := 64) gk ⟨i.val % 64, by omega⟩) i

/-- The queries. -/
def queries (gq : FVec Ideal S1x64 .f32) (b : Fin 8) (l : Fin 2048) (i : Fin 512) : EReal :=
  GateSpec.head (ProjSpec.col (xOf x) (rowOf g) (wOf w) b l 2) (ProjArrays.eighth (rowOf (n := 64) gq ⟨i.val % 64, by omega⟩)) i

/-- Mixer A. -/
def mixes (lg lb : FVec Ideal S1x512 .f32) (ws : FVec Ideal S1x8x128x128 .f32) (bs : FVec Ideal S1x8x128 .f32) (go : FVec Ideal S1x512 .f32)
    (b : Fin 8) (l : Fin 2048) (i : Fin 512) : EReal :=
  ProjSpec.mixA (xOf x) (rowOf g) (wOf w) (rowOf (n := 512) lg) (rowOf (n := 512) lb) (fun h p j => ws (ix4 0 h p j)) (fun h p => bs (ix3 0 h p)) (rowOf (n := 512) go) b l i

/-- An array of slabs from a position's row. -/
def inSlabs (f : Fin 8 → Fin 2048 → Fin 512 → EReal) (b : Fin 8) (s : Fin 4) (l : Fin 2048) (k : Fin 128) : EReal := f b l ⟨128 * s.val + k.val, by omega⟩
end

variable (m : (ℓ : Loc nD τ sig) → Buf (Elt Ideal) ℓ) (c : Dev nD)

/-- What a point leaves, at an index. -/
theorem point15 (t : Fin cfg0.N) (s : Fin 4) (r : Fin 512) (d : Fin 128) :
    ProjRun.left15 m c t (ix4 0 s r d) = qAt m c t (ix2 r ⟨128 * s.val + d.val, by omega⟩) := by
  unfold ProjRun.left15 ProjRun.at_
  rw [View.read_writes_junk_eq_canon, Feat.pieces15, canonSlab]

/-- What a point leaves, at an index. -/
theorem point16 (t : Fin cfg0.N) (s : Fin 4) (r : Fin 512) (d : Fin 128) :
    ProjRun.left16 m c t (ix4 0 s r d) = kAt m c t (ix2 r ⟨128 * s.val + d.val, by omega⟩) := by
  unfold ProjRun.left16 ProjRun.at_
  rw [View.read_writes_junk_eq_canon, Feat.pieces16, canonSlab]

/-- What a point leaves, at an index. -/
theorem point17 (t : Fin cfg0.N) (s : Fin 4) (r : Fin 512) (d : Fin 128) :
    ProjRun.left17 m c t (ix4 0 s r d) = zAt m c t 4 (ix2 r ⟨128 * s.val + d.val, by omega⟩) := by
  unfold ProjRun.left17 ProjRun.at_
  rw [View.read_writes_junk_eq_canon, Feat.pieces17, canonSlab]

/-- What a point leaves, at an index. -/
theorem point18 (t : Fin cfg0.N) (d r : Fin 512) : ProjRun.left18 m c t (ix3 0 d r) = kAt m c t (ix2 r d) := by
  unfold ProjRun.left18 ProjRun.at_
  rw [View.read_writes_junk_eq_canon, Feat.pieces18, View.canon_unit_zero (by decide), Feat.flipped_row]

/-- What a point leaves, at an index. -/
theorem point19 (t : Fin cfg0.N) (d r : Fin 512) : ProjRun.left19 m c t (ix3 0 d r) = zAt m c t 4 (ix2 r d) := by
  unfold ProjRun.left19 ProjRun.at_
  rw [View.read_writes_junk_eq_canon, Feat.pieces19, View.canon_unit_zero (by decide), Feat.flipped_row]

/-- What a point leaves, at an index. -/
theorem point20 (t : Fin cfg0.N) (g s : Fin 4) (p k : Fin 128) :
    ProjRun.left20 m c t (ix2 ⟨128 * g.val + p.val, by omega⟩ ⟨128 * s.val + k.val, by omega⟩) = storedAt m c t g s (ix2 p k) := by
  unfold ProjRun.left20 ProjRun.at_
  rw [View.read_writes_junk_eq_canon, Feat.pieces20]
  exact canonA _ g s p k

-- from here on a point is known by what it leaves at an index
attribute [local irreducible] ProjRun.left15 ProjRun.left16 ProjRun.left17 ProjRun.left18 ProjRun.left19 ProjRun.left20

/-- The queries, by slabs. -/
theorem result15 : (ProjRun.data m 0 c).arrAt 15 cfg0.N = fun i => inSlabs (queries (m ((c : Thread nD τ).loc main_arg0)) (m ((c : Thread nD τ).loc main_arg6)) (m ((c : Thread nD τ).loc main_arg7)) (m ((c : Thread nD τ).loc main_arg12))) (i 0) (i 1) (i 2) (i 3) := by
  refine (ProjRun.data m 0 c).arrAt_eq_of_covers 15 _ (by decide +kernel) fun t hf y => ?_
  rw [ProjRun.after15]
  have e := (ProjArrays.index_maps t).2.2.2.2.2.2.2.2.2.2.2.1
  obtain ⟨s, r, d, rfl⟩ : ∃ (s : Fin 4) (r : Fin 512) (d : Fin 128), y = ix4 0 s r d :=
    ⟨y 1, y 2, y 3, by idx_vars y; rw [Subsingleton.elim y0 0]⟩
  refine (point15 m c t s r d).trans ((q_row m c t r _ (((cfg0.win 15).blk t).view.emb (ix4 0 s r d) 0) ?_ (((cfg0.win 15).blk t).view.emb (ix4 0 s r d) 2) ?_).trans ?_)
  · show win0_15.index t (0 : Fin 4) * 1 + 1 * 0 = _
    rw [e]; simp
  · show win0_15.index t (2 : Fin 4) * 512 + 1 * r.val = _
    rw [e]; simp
  · refine congrArg (queries (m ((c : Thread nD τ).loc main_arg0)) (m ((c : Thread nD τ).loc main_arg6)) (m ((c : Thread nD τ).loc main_arg7)) (m ((c : Thread nD τ).loc main_arg12)) _ _) (Fin.ext ?_)
    show 128 * s.val + d.val = 128 * (win0_15.index t (1 : Fin 4) * 4 + 1 * s.val) + (win0_15.index t (3 : Fin 4) * 128 + 1 * d.val)
    rw [e]; simp

/-- The keys, by slabs. -/
theorem result16 : (ProjRun.data m 0 c).arrAt 16 cfg0.N = fun i => inSlabs (keys (m ((c : Thread nD τ).loc main_arg0)) (m ((c : Thread nD τ).loc main_arg6)) (m ((c : Thread nD τ).loc main_arg7)) (m ((c : Thread nD τ).loc main_arg13))) (i 0) (i 1) (i 2) (i 3) := by
  refine (ProjRun.data m 0 c).arrAt_eq_of_covers 16 _ (by decide +kernel) fun t hf y => ?_
  rw [ProjRun.after16]
  have e := (ProjArrays.index_maps t).2.2.2.2.2.2.2.2.2.2.2.2.1
  obtain ⟨s, r, d, rfl⟩ : ∃ (s : Fin 4) (r : Fin 512) (d : Fin 128), y = ix4 0 s r d :=
    ⟨y 1, y 2, y 3, by idx_vars y; rw [Subsingleton.elim y0 0]⟩
  refine (point16 m c t s r d).trans ((k_row m c t r _ (((cfg0.win 16).blk t).view.emb (ix4 0 s r d) 0) ?_ (((cfg0.win 16).blk t).view.emb (ix4 0 s r d) 2) ?_).trans ?_)
  · show win0_16.index t (0 : Fin 4) * 1 + 1 * 0 = _
    rw [e]; simp
  · show win0_16.index t (2 : Fin 4) * 512 + 1 * r.val = _
    rw [e]; simp
  · refine congrArg (keys (m ((c : Thread nD τ).loc main_arg0)) (m ((c : Thread nD τ).loc main_arg6)) (m ((c : Thread nD τ).loc main_arg7)) (m ((c : Thread nD τ).loc main_arg13)) _ _) (Fin.ext ?_)
    show 128 * s.val + d.val = 128 * (win0_16.index t (1 : Fin 4) * 4 + 1 * s.val) + (win0_16.index t (3 : Fin 4) * 128 + 1 * d.val)
    rw [e]; simp

/-- The values, by slabs. -/
theorem result17 : (ProjRun.data m 0 c).arrAt 17 cfg0.N = fun i => inSlabs (values (m ((c : Thread nD τ).loc main_arg0)) (m ((c : Thread nD τ).loc main_arg6)) (m ((c : Thread nD τ).loc main_arg7))) (i 0) (i 1) (i 2) (i 3) := by
  refine (ProjRun.data m 0 c).arrAt_eq_of_covers 17 _ (by decide +kernel) fun t hf y => ?_
  rw [ProjRun.after17]
  have e := (ProjArrays.index_maps t).2.2.2.2.2.2.2.2.2.2.2.2.2.1
  obtain ⟨s, r, d, rfl⟩ : ∃ (s : Fin 4) (r : Fin 512) (d : Fin 128), y = ix4 0 s r d :=
    ⟨y 1, y 2, y 3, by idx_vars y; rw [Subsingleton.elim y0 0]⟩
  refine (point17 m c t s r d).trans ((z_row m c t 4 r _ (((cfg0.win 17).blk t).view.emb (ix4 0 s r d) 0) ?_ (((cfg0.win 17).blk t).view.emb (ix4 0 s r d) 2) ?_).trans ?_)
  · show win0_17.index t (0 : Fin 4) * 1 + 1 * 0 = _
    rw [e]; simp
  · show win0_17.index t (2 : Fin 4) * 512 + 1 * r.val = _
    rw [e]; simp
  · refine congrArg (values (m ((c : Thread nD τ).loc main_arg0)) (m ((c : Thread nD τ).loc main_arg6)) (m ((c : Thread nD τ).loc main_arg7)) _ _) (Fin.ext ?_)
    show 128 * s.val + d.val = 128 * (win0_17.index t (1 : Fin 4) * 4 + 1 * s.val) + (win0_17.index t (3 : Fin 4) * 128 + 1 * d.val)
    rw [e]; simp

/-- The keys, positions last. -/
theorem result18 : (ProjRun.data m 0 c).arrAt 18 cfg0.N = fun i => keys (m ((c : Thread nD τ).loc main_arg0)) (m ((c : Thread nD τ).loc main_arg6)) (m ((c : Thread nD τ).loc main_arg7)) (m ((c : Thread nD τ).loc main_arg13)) (i 0) (i 2) (i 1) := by
  refine (ProjRun.data m 0 c).arrAt_eq_of_covers 18 _ (by decide +kernel) fun t hf y => ?_
  rw [ProjRun.after18]
  have e := (ProjArrays.index_maps t).2.2.2.2.2.2.2.2.2.2.2.2.2.2.1
  obtain ⟨d, r, rfl⟩ : ∃ (d r : Fin 512), y = ix3 0 d r := ⟨y 1, y 2, by idx_vars y; rw [Subsingleton.elim y0 0]⟩
  refine (point18 m c t d r).trans ((k_row m c t r _ (((cfg0.win 18).blk t).view.emb (ix3 0 d r) 0) ?_ (((cfg0.win 18).blk t).view.emb (ix3 0 d r) 2) ?_).trans ?_)
  · show win0_18.index t (0 : Fin 3) * 1 + 1 * 0 = _
    rw [e]; simp
  · show win0_18.index t (2 : Fin 3) * 512 + 1 * r.val = _
    rw [e]; simp
  · refine congrArg (keys (m ((c : Thread nD τ).loc main_arg0)) (m ((c : Thread nD τ).loc main_arg6)) (m ((c : Thread nD τ).loc main_arg7)) (m ((c : Thread nD τ).loc main_arg13)) _ _) (Fin.ext ?_)
    show d.val = win0_18.index t (1 : Fin 3) * 512 + 1 * d.val
    rw [e]; simp

/-- The values, positions last. -/
theorem result19 : (ProjRun.data m 0 c).arrAt 19 cfg0.N = fun i => values (m ((c : Thread nD τ).loc main_arg0)) (m ((c : Thread nD τ).loc main_arg6)) (m ((c : Thread nD τ).loc main_arg7)) (i 0) (i 2) (i 1) := by
  refine (ProjRun.data m 0 c).arrAt_eq_of_covers 19 _ (by decide +kernel) fun t hf y => ?_
  rw [ProjRun.after19]
  have e := (ProjArrays.index_maps t).2.2.2.2.2.2.2.2.2.2.2.2.2.2.2.1
  obtain ⟨d, r, rfl⟩ : ∃ (d r : Fin 512), y = ix3 0 d r := ⟨y 1, y 2, by idx_vars y; rw [Subsingleton.elim y0 0]⟩
  refine (point19 m c t d r).trans ((z_row m c t 4 r _ (((cfg0.win 19).blk t).view.emb (ix3 0 d r) 0) ?_ (((cfg0.win 19).blk t).view.emb (ix3 0 d r) 2) ?_).trans ?_)
  · show win0_19.index t (0 : Fin 3) * 1 + 1 * 0 = _
    rw [e]; simp
  · show win0_19.index t (2 : Fin 3) * 512 + 1 * r.val = _
    rw [e]; simp
  · refine congrArg (values (m ((c : Thread nD τ).loc main_arg0)) (m ((c : Thread nD τ).loc main_arg6)) (m ((c : Thread nD τ).loc main_arg7)) _ _) (Fin.ext ?_)
    show d.val = win0_19.index t (1 : Fin 3) * 512 + 1 * d.val
    rw [e]; simp

/-- Mixer A, token by token. -/
theorem result20 : (ProjRun.data m 0 c).arrAt 20 cfg0.N = fun i =>
    mixes (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14))
      ⟨(i 0).val / 2048, by have h : (i 0).val < 16384 := (i 0).isLt; omega⟩ ⟨(i 0).val % 2048, by omega⟩ (i 1) := by
  refine (ProjRun.data m 0 c).arrAt_eq_of_covers 20 _ (by decide +kernel) fun t hf y => ?_
  rw [ProjRun.after20]
  have e := (ProjArrays.index_maps t).2.2.2.2.2.2.2.2.2.2.2.2.2.2.2.2
  have ht : t.val < 32 := t.isLt
  obtain ⟨r, d, rfl⟩ : ∃ (r d : Fin 512), y = ix2 r d := ⟨y 0, y 1, by idx_vars y⟩
  have h0 : (((cfg0.win 20).blk t).view.emb (ix2 r d) 0).val = t.val * 512 + r.val := by
    show win0_20.index t (0 : Fin 2) * 512 + 1 * r.val = _
    rw [e]; simp
  have h1 : (((cfg0.win 20).blk t).view.emb (ix2 r d) 1).val = d.val := by
    show win0_20.index t (1 : Fin 2) * 512 + 1 * d.val = _
    rw [e]; simp
  obtain ⟨g, p, hr⟩ : ∃ (g : Fin 4) (p : Fin 128), r = ⟨128 * g.val + p.val, by omega⟩ :=
    ⟨⟨r.val / 128, by omega⟩, ⟨r.val % 128, by omega⟩, Fin.ext (by simp only; omega)⟩
  obtain ⟨s, k, hd⟩ : ∃ (s : Fin 4) (k : Fin 128), d = ⟨128 * s.val + k.val, by omega⟩ :=
    ⟨⟨d.val / 128, by omega⟩, ⟨d.val % 128, by omega⟩, Fin.ext (by simp only; omega)⟩
  have hrv := congrArg Fin.val hr
  simp only at hrv
  refine Eq.trans (b := storedAt m c t g s (ix2 p k)) ?_ ?_
  · have e' := point20 m c t g s p k
    rw [← hr, ← hd] at e'
    exact e'
  · refine (stored_row m c t g s p k ⟨(((cfg0.win 20).blk t).view.emb (ix2 r d) 0).val / 2048, by rw [h0]; omega⟩ ?_
      ⟨(((cfg0.win 20).blk t).view.emb (ix2 r d) 0).val % 2048, by omega⟩ ?_).trans ?_
    · simp only; rw [h0]; omega
    · simp only; rw [h0]; omega
    · exact congrArg (mixes (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) _ _) (Fin.ext ((congrArg Fin.val hd).symm.trans h1.symm))

end Cert.ProjResult

end
-- ==== Proof.FinishTerm.lean ====
module

public import proofs.«01_k».proof.Proof.Gen.KernelIdeal.Frame

/-! The finish of the prompt's tokens (output projection, residual and feed-forward layer) as the kernel's body computes it:
    its one store as a term of vector operations. -/

@[expose] public section

set_option maxRecDepth 16384

noncomputable section

namespace Cert.KernelIdeal.Finish

open Cert.KernelIdeal Cert.KernelIdeal.Gen Idealize.ShloMosaic Idealize.ShloMosaic.TcCoe

variable {F : FTy → Type} [FloatOps F] [Named F]

/-- One slab of the second mixer's output without its leading axes. -/
def slab (b : Vec F S1x1x256x128 .f32) : FVec F S256x128 .f32 := shapeCast S256x128 b shapeCasts_S1x1x256x128_S256x128

/-- The sum of the squares of a slab's rows. -/
def slabSq (b : Vec F S1x1x256x128 .f32) : FVec F S256x1 .f32 :=
  shapeCast S256x1 (multiReduction .add [1] S256 (mulf (slab b) (slab b)) 0x00000000#32 reduces_S256x128_S256 (.inl rfl) rfl) shapeCasts_S256_S256x1

/-- The reciprocal root of the mean square over the four slabs. -/
def slabNorm (b0 b1 b2 b3 : Vec F S1x1x256x128 .f32) : FVec F S256x1 .f32 :=
  rsqrt (addf (mulf (addf (addf (addf (addf (broadcast S256x1 (Scalar.ofBits .f32 0x00000000#32)) (slabSq b0)) (slabSq b1)) (slabSq b2)) (slabSq b3))
    (broadcast S256x1 (Scalar.ofBits .f32 0x3B000000#32))) (broadcast S256x1 (Scalar.ofBits .f32 0x358637BD#32)))

/-- A slab normalized and scaled. -/
def slabOut (b : Vec F S1x1x256x128 .f32) (r : FVec F S256x1 .f32) (g : Vec F S1x128 .f32) : FVec F S256x128 .bf16 :=
  truncf .bf16 (mulf (mulf (slab b) (broadcastTo S256x128 r broadcasts_S256x1_S256x128))
    (broadcastTo S256x128 (shapeCast S1x128 g shapeCasts_S1x128_S1x128) broadcasts_S1x128_S256x128)) bitsLt_bf16_f32

/-- The four slabs side by side. -/
def mixB (b0 b1 b2 b3 : Vec F S1x1x256x128 .f32) (g0 g1 g2 g3 : Vec F S1x128 .f32) : FVec F S256x512 .bf16 :=
  concatenate S256x512 1 [⟨S256x128, slabOut b0 (slabNorm b0 b1 b2 b3) g0⟩, ⟨S256x128, slabOut b1 (slabNorm b0 b1 b2 b3) g1⟩,
    ⟨S256x128, slabOut b2 (slabNorm b0 b1 b2 b3) g2⟩, ⟨S256x128, slabOut b3 (slabNorm b0 b1 b2 b3) g3⟩]
    concatenates_S256x128_S256x128_S256x128_S256x128_S256x512_d1

/-- A mixer's output through its half of the output projection. -/
def half (a : FVec F S256x512 .bf16) (w : Vec F S512x1024 .bf16) : FVec F S256x1024 .f32 :=
  matmul dot_S256x512_S512x1024_S256x1024_1_0_0_1_n_n none a (shapeCast S512x1024 w shapeCasts_S512x1024_S512x1024) (constant S256x1024 .f32 0x00000000#32)

/-- The residual after the output projection. -/
def resid (x : Vec F S256x1024 .f32) (a b : FVec F S256x512 .bf16) (w0 w1 : Vec F S512x1024 .bf16) : FVec F S256x1024 .f32 :=
  addf (addf (shapeCast S256x1024 x shapeCasts_S256x1024_S256x1024) (half a w0)) (half b w1)

/-- The reciprocal root of the mean square of the rows. -/
def rowNorm (y : FVec F S256x1024 .f32) : FVec F S256x1 .f32 :=
  rsqrt (addf (divf (shapeCast S256x1 (multiReduction .add [1] S256 (mulf y y) 0x00000000#32 reduces_S256x1024_S256 (.inl rfl) rfl) shapeCasts_S256_S256x1)
    (broadcast S256x1 (Scalar.ofBits .f32 0x44800000#32))) (broadcast S256x1 (Scalar.ofBits .f32 0x358637BD#32)))

/-- The normalized rows, scaled: what the feed-forward layer reads. -/
def normed (y : FVec F S256x1024 .f32) (g : Vec F S1x1024 .f32) : FVec F S256x1024 .bf16 :=
  truncf .bf16 (mulf (mulf y (broadcastTo S256x1024 (rowNorm y) broadcasts_S256x1_S256x1024))
    (broadcastTo S256x1024 (shapeCast S1x1024 g shapeCasts_S1x1024_S1x1024) broadcasts_S1x1024_S256x1024)) bitsLt_bf16_f32

/-- The product with one of the two wide weights. -/
def wide (h : FVec F S256x1024 .bf16) (w : Vec F S1024x2816 .bf16) : FVec F S256x2816 .f32 :=
  matmul dot_S256x1024_S1024x2816_S256x2816_1_0_0_1_n_n none h (shapeCast S1024x2816 w shapeCasts_S1024x2816_S1024x2816) (constant S256x2816 .f32 0x00000000#32)

/-- The gated activation. -/
def act (h : FVec F S256x1024 .bf16) (wg wu : Vec F S1024x2816 .bf16) : FVec F S256x2816 .bf16 :=
  truncf .bf16 (mulf (mulf (wide h wg) (logistic (wide h wg))) (wide h wu)) bitsLt_bf16_f32

/-- The feed-forward layer added to the residual. -/
def ffn (y : FVec F S256x1024 .f32) (g : Vec F S1x1024 .f32) (wg wu : Vec F S1024x2816 .bf16) (wd : Vec F S2816x1024 .bf16) : FVec F S256x1024 .f32 :=
  addf y (matmul dot_S256x2816_S2816x1024_S256x1024_1_0_0_1_n_n none (act (normed y g) wg wu)
    (shapeCast S2816x1024 wd shapeCasts_S2816x1024_S2816x1024) (constant S256x1024 .f32 0x00000000#32))

section
variable (arg1 : Memref sig .tc .vmem S256x1024 .f32) (harg1 : arg1.IsWhole) (arg2 : Memref sig .tc .vmem S256x512 .bf16) (harg2 : arg2.IsWhole)
  (arg3 : Memref sig .tc .vmem S1x4x256x128 .f32) (harg3 : arg3.IsWhole) (arg4 : Memref sig .tc .vmem S1x512 .f32) (harg4 : arg4.IsWhole)
  (arg5 : Memref sig .tc .vmem S1024x1024 .bf16) (harg5 : arg5.IsWhole)
  (x0 : Vec F S256x1024 .f32) (x1 : Vec F S256x512 .bf16) (x2 : Vec F S1x4x256x128 .f32) (x3 : Vec F S1x512 .f32) (x4 : Vec F S1024x1024 .bf16)

/-- The residual from the loads the body makes. -/
def loadResid : FVec F S256x1024 .f32 :=
  resid (View.readAt (Elt F) arg1.view (Rect.unit (s := S256x1024) ![0, 0] S256x1024.size inb_S256x1024_S256x1024_0_0).toLoadRect (harg1.unread x0))
    (View.readAt (Elt F) arg2.view (Rect.unit (s := S256x512) ![0, 0] S256x512.size inb_S256x512_S256x512_0_0).toLoadRect (harg2.unread x1))
    (mixB
      (View.readAt (Elt F) arg3.view (Rect.unit (s := S1x4x256x128) ![0, 0, 0, 0] S1x1x256x128.size inb_S1x4x256x128_S1x1x256x128_0_0_0_0).toLoadRect (harg3.unread x2))
      (View.readAt (Elt F) arg3.view (Rect.unit (s := S1x4x256x128) ![0, 1, 0, 0] S1x1x256x128.size inb_S1x4x256x128_S1x1x256x128_0_1_0_0).toLoadRect (harg3.unread x2))
      (View.readAt (Elt F) arg3.view (Rect.unit (s := S1x4x256x128) ![0, 2, 0, 0] S1x1x256x128.size inb_S1x4x256x128_S1x1x256x128_0_2_0_0).toLoadRect (harg3.unread x2))
      (View.readAt (Elt F) arg3.view (Rect.unit (s := S1x4x256x128) ![0, 3, 0, 0] S1x1x256x128.size inb_S1x4x256x128_S1x1x256x128_0_3_0_0).toLoadRect (harg3.unread x2))
      (View.readAt (Elt F) arg4.view (Rect.unit (s := S1x512) ![0, 0] S1x128.size inb_S1x512_S1x128_0_0).toLoadRect (harg4.unread x3))
      (View.readAt (Elt F) arg4.view (Rect.unit (s := S1x512) ![0, 128] S1x128.size inb_S1x512_S1x128_0_128).toLoadRect (harg4.unread x3))
      (View.readAt (Elt F) arg4.view (Rect.unit (s := S1x512) ![0, 256] S1x128.size inb_S1x512_S1x128_0_256).toLoadRect (harg4.unread x3))
      (View.readAt (Elt F) arg4.view (Rect.unit (s := S1x512) ![0, 384] S1x128.size inb_S1x512_S1x128_0_384).toLoadRect (harg4.unread x3)))
    (View.readAt (Elt F) arg5.view (Rect.unit (s := S1024x1024) ![0, 0] S512x1024.size inb_S1024x1024_S512x1024_0_0).toLoadRect (harg5.unread x4))
    (View.readAt (Elt F) arg5.view (Rect.unit (s := S1024x1024) ![512, 0] S512x1024.size inb_S1024x1024_S512x1024_512_0).toLoadRect (harg5.unread x4))
end

/-- The body's one store into the prompt's output. -/
theorem pieces13 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S1x4x256x128 .f32) (harg3 : arg3.IsWhole) (arg4 : Memref sig .tc .vmem S1x512 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S14x3x8x64 .f32) (harg10 : arg10.IsWhole) (arg11 : Memref sig .tc .vmem S14x64x2048 .f32) (harg11 : arg11.IsWhole) (arg12 : Memref sig .tc .vmem S14x64x2048 .f32) (harg12 : arg12.IsWhole) (arg13 : Memref sig .tc .vmem S16x2048 .f32) (harg13 : arg13.IsWhole) (arg14 : Memref sig .tc .vmem S256x1024 .f32) (harg14 : arg14.IsWhole) (arg15 : Memref sig .tc .vmem S14x16x64 .f32) (harg15 : arg15.IsWhole) (arg16 : Memref sig .tc .vmem S14x16x2048 .f32) (harg16 : arg16.IsWhole) (arg17 : Memref sig .tc .vmem S14x16x2048 .bf16) (harg17 : arg17.IsWhole)
    (x0 : Vec F S256x1024 .f32) (x1 : Vec F S256x512 .bf16) (x2 : Vec F S1x4x256x128 .f32) (x3 : Vec F S1x512 .f32) (x4 : Vec F S1024x1024 .bf16) (x5 : Vec F S1x1024 .f32) (x6 : Vec F S1024x2816 .bf16) (x7 : Vec F S1024x2816 .bf16) (x8 : Vec F S2816x1024 .bf16) (x9 : Vec F S14x3x8x64 .f32) (x10 : Vec F S14x64x2048 .f32) (x11 : Vec F S14x64x2048 .f32) (x12 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12).1
      = [⟨Rect.unit (s := S256x1024) ![0, 0] S256x1024.size inb_S256x1024_S256x1024_0_0,
          ffn (loadResid arg1 harg1 arg2 harg2 arg3 harg3 arg4 harg4 arg5 harg5 x0 x1 x2 x3 x4)
            (View.readAt (Elt F) arg6.view (Rect.unit (s := S1x1024) ![0, 0] S1x1024.size inb_S1x1024_S1x1024_0_0).toLoadRect (harg6.unread x5))
            (View.readAt (Elt F) arg7.view (Rect.unit (s := S1024x2816) ![0, 0] S1024x2816.size inb_S1024x2816_S1024x2816_0_0).toLoadRect (harg7.unread x6))
            (View.readAt (Elt F) arg8.view (Rect.unit (s := S1024x2816) ![0, 0] S1024x2816.size inb_S1024x2816_S1024x2816_0_0).toLoadRect (harg8.unread x7))
            (View.readAt (Elt F) arg9.view (Rect.unit (s := S2816x1024) ![0, 0] S2816x1024.size inb_S2816x1024_S2816x1024_0_0).toLoadRect (harg9.unread x8))⟩] := by
  rfl

end Cert.KernelIdeal.Finish

end
-- ==== Proof.FinishRow.lean ====
module

public import proofs.«01_k».proof.Proof.FinishTerm
public import proofs.«01_k».proof.Proof.RowSpec

/-! The finish's term at a row and a column: one token's finish of the rows of the loaded blocks. -/

@[expose] public section

set_option maxRecDepth 16384

noncomputable section

namespace Cert.KernelIdeal.Finish

open Cert.KernelIdeal Cert.KernelIdeal.Gen Idealize.ShloMosaic Idealize.ShloMosaic.TcCoe

/-- The reciprocal root over four slabs is that of the row of 512 they make up. -/
theorem slabNorm_row (b0 b1 b2 b3 : Vec Ideal S1x1x256x128 .f32) (r : Fin 256) (z : Fin 1) (f : Fin 512 → EReal)
    (h0 : ∀ k : Fin 128, b0 (ix4 0 0 r k) = f ⟨k.val, by omega⟩) (h1 : ∀ k : Fin 128, b1 (ix4 0 0 r k) = f ⟨128 + k.val, by omega⟩)
    (h2 : ∀ k : Fin 128, b2 (ix4 0 0 r k) = f ⟨256 + k.val, by omega⟩) (h3 : ∀ k : Fin 128, b3 (ix4 0 0 r k) = f ⟨384 + k.val, by omega⟩) :
    slabNorm b0 b1 b2 b3 (ix2 r z) = RowSpec.rms RowSpec.c512 f := by
  pointwise [slabNorm, slabSq, slab]
  rw [RowSpec.rms, RowSpec.div_c512, RowSpec.sum_quarters]
  simp only [h0, h1, h2, h3]
  rfl

/-- A normalized slab at an index. -/
theorem slabOut_apply (b : Vec Ideal S1x1x256x128 .f32) (R : FVec Ideal S256x1 .f32) (g : Vec Ideal S1x128 .f32) (r : Fin 256) (k : Fin 128) :
    slabOut b R g (ix2 r k) = b (ix4 0 0 r k) * R (ix2 r 0) * g (ix2 0 k) := by
  pointwise [slabOut, slab]

/-- The four slabs side by side are the normalized row. -/
theorem mixB_row (b0 b1 b2 b3 : Vec Ideal S1x1x256x128 .f32) (g0 g1 g2 g3 : Vec Ideal S1x128 .f32) (r : Fin 256) (f g : Fin 512 → EReal)
    (h0 : ∀ k : Fin 128, b0 (ix4 0 0 r k) = f ⟨k.val, by omega⟩) (h1 : ∀ k : Fin 128, b1 (ix4 0 0 r k) = f ⟨128 + k.val, by omega⟩)
    (h2 : ∀ k : Fin 128, b2 (ix4 0 0 r k) = f ⟨256 + k.val, by omega⟩) (h3 : ∀ k : Fin 128, b3 (ix4 0 0 r k) = f ⟨384 + k.val, by omega⟩)
    (e0 : ∀ k : Fin 128, g0 (ix2 0 k) = g ⟨k.val, by omega⟩) (e1 : ∀ k : Fin 128, g1 (ix2 0 k) = g ⟨128 + k.val, by omega⟩)
    (e2 : ∀ k : Fin 128, g2 (ix2 0 k) = g ⟨256 + k.val, by omega⟩) (e3 : ∀ k : Fin 128, g3 (ix2 0 k) = g ⟨384 + k.val, by omega⟩)
    (k : Fin 512) :
    mixB b0 b1 b2 b3 g0 g1 g2 g3 (ix2 r k) = RowSpec.norm RowSpec.c512 f g k := by
  unfold mixB
  generalize hR : slabNorm b0 b1 b2 b3 = R
  have hr : R (ix2 r 0) = RowSpec.rms RowSpec.c512 f := by rw [← hR, slabNorm_row b0 b1 b2 b3 r 0 f h0 h1 h2 h3]
  pointwise
  simp only [slabOut_apply, h0, h1, h2, h3, e0, e1, e2, e3, hr]
  unfold RowSpec.norm
  by_cases c1 : k.val < 128
  · rw [dif_pos c1]
  · rw [dif_neg c1]
    by_cases c2 : k.val - 128 < 128
    · rw [dif_pos c2, show (⟨128 + (k.val - 128), by omega⟩ : Fin 512) = k from Fin.ext (by simp; omega)]
    · rw [dif_neg c2]
      by_cases c3 : k.val - 128 - 128 < 128
      · rw [dif_pos c3, show (⟨256 + (k.val - 128 - 128), by omega⟩ : Fin 512) = k from Fin.ext (by simp; omega)]
      · rw [dif_neg c3, show (⟨384 + (k.val - 128 - 128 - 128), by omega⟩ : Fin 512) = k from Fin.ext (by simp; omega)]

/-- The residual's row. -/
theorem resid_row (x : Vec Ideal S256x1024 .f32) (a b : FVec Ideal S256x512 .bf16) (w0 w1 : Vec Ideal S512x1024 .bf16) (r : Fin 256) (d : Fin 1024) :
    resid x a b w0 w1 (ix2 r d) = RowSpec.resid (fun d => x (ix2 r d)) (fun k => a (ix2 r k)) (fun k => b (ix2 r k))
      (fun k d => w0 (ix2 k d)) (fun k d => w1 (ix2 k d)) d := by
  pointwise [resid, half]
  rw [RowSpec.resid, add_assoc]

/-- What the feed-forward layer reads is the normalized row. -/
theorem normed_row (y : FVec Ideal S256x1024 .f32) (g : Vec Ideal S1x1024 .f32) (r : Fin 256) (d : Fin 1024) :
    normed y g (ix2 r d) = RowSpec.norm RowSpec.c1024 (fun d => y (ix2 r d)) (fun d => g (ix2 0 d)) d := by
  pointwise [normed, rowNorm]
  rfl

/-- The activation's row. -/
theorem act_row (h : FVec Ideal S256x1024 .bf16) (wg wu : Vec Ideal S1024x2816 .bf16) (r : Fin 256) (j : Fin 2816) :
    act h wg wu (ix2 r j) = RowSpec.act (fun d => h (ix2 r d)) (fun k j => wg (ix2 k j)) (fun k j => wu (ix2 k j)) j := by
  pointwise [act, wide]
  rfl

/-- The feed-forward layer's row. -/
theorem ffn_row (y : FVec Ideal S256x1024 .f32) (g : Vec Ideal S1x1024 .f32) (wg wu : Vec Ideal S1024x2816 .bf16) (wd : Vec Ideal S2816x1024 .bf16)
    (r : Fin 256) (d : Fin 1024) :
    ffn y g wg wu wd (ix2 r d) = RowSpec.ffn (fun d => y (ix2 r d)) (fun d => g (ix2 0 d)) (fun k j => wg (ix2 k j)) (fun k j => wu (ix2 k j))
      (fun j d => wd (ix2 j d)) d := by
  pointwise [ffn]
  unfold RowSpec.ffn
  simp only [act_row, normed_row]

section
variable (arg1 : Memref sig .tc .vmem S256x1024 .f32) (harg1 : arg1.IsWhole) (arg2 : Memref sig .tc .vmem S256x512 .bf16) (harg2 : arg2.IsWhole)
  (arg3 : Memref sig .tc .vmem S1x4x256x128 .f32) (harg3 : arg3.IsWhole) (arg4 : Memref sig .tc .vmem S1x512 .f32) (harg4 : arg4.IsWhole)
  (arg5 : Memref sig .tc .vmem S1024x1024 .bf16) (harg5 : arg5.IsWhole)
  (x0 : Vec Ideal S256x1024 .f32) (x1 : Vec Ideal S256x512 .bf16) (x2 : Vec Ideal S1x4x256x128 .f32) (x3 : Vec Ideal S1x512 .f32) (x4 : Vec Ideal S1024x1024 .bf16)

/-- The residual of the loads is the residual of the blocks' rows. -/
theorem loadResid_row (r : Fin 256) (d : Fin 1024) :
    loadResid arg1 harg1 arg2 harg2 arg3 harg3 arg4 harg4 arg5 harg5 x0 x1 x2 x3 x4 (ix2 r d)
      = RowSpec.resid (fun d => x0 (ix2 r d)) (fun k => x1 (ix2 r k))
          (RowSpec.norm RowSpec.c512 (fun k : Fin 512 => x2 (ix4 0 ⟨k.val / 128, by omega⟩ r ⟨k.val % 128, by omega⟩)) (fun k => x3 (ix2 0 k)))
          (fun k d => x4 (ix2 ⟨k.val, by omega⟩ d)) (fun k d => x4 (ix2 ⟨512 + k.val, by omega⟩ d)) d := by
  unfold loadResid
  rw [resid_row]
  simp only [View.readAt_eq_ld, Memref.IsWhole.read_unread]
  congr 1
  · funext d; pointwise
  · funext k; pointwise
  · funext k
    refine mixB_row _ _ _ _ _ _ _ _ r _ _ ?_ ?_ ?_ ?_ ?_ ?_ ?_ ?_ k <;> intro k <;> pointwise
    all_goals refine congrArg x2 (congrArg₂ (fun a b => ix4 0 a r b) (Fin.ext ?_) (Fin.ext ?_)) <;> simp <;> omega
  · funext k d; pointwise
  · funext k d; pointwise
end

end Cert.KernelIdeal.Finish

end
-- ==== Proof.HostArrays.lean ====
/- The arrays on which the call works, at an index: what the host operations before the call leave in each of its
   operands, and what a window of the grid shows of them. -/
module

public import proofs.«01_k».proof.Proof.Gen.KernelIdeal.Value
public import Idealize.ShloMosaic.Lib.Pointwise
public import Idealize.ShloMosaic.Lib.Pipeline.ValueKit
public import Idealize.ShloMosaic.Lib.Pipeline.ValueKit.Point

@[expose] public section

set_option maxRecDepth 16384

namespace Cert.Arrays

open Idealize.ShloMosaic Idealize.ShloMosaic.TcCoe Cert.KernelIdeal Cert.KernelIdeal.Gen

variable (m : (ℓ : Loc nD τ sig) → Buf (Elt Ideal) ℓ) (c : Dev nD)

/-- The rows of the residual input are those of `x_prompt`, batch after batch. -/
theorem x_rows (n : Fin 16384) (d : Fin 1024) :
    V m c main_v23 (ix2 n d) = m ((c : Thread nD τ).loc main_arg0) (ix3 ⟨n / 2048, by omega⟩ ⟨n % 2048, by omega⟩ d) := by
  dsimp only [V, hostOps0, hostOps0_1, hostOps0_2, List.flatten_cons, List.flatten_nil, List.cons_append, List.nil_append, List.append_nil]
  after_results
  pointwise

/-- The gain of mixer B's normalisation. -/
theorem gain_b (d : Fin 512) :
    V m c main_v24 (ix2 0 d) = m ((c : Thread nD τ).loc main_arg8) (ix2 0 d) := by
  dsimp only [V, hostOps0, hostOps0_1, hostOps0_2, List.flatten_cons, List.flatten_nil, List.cons_append, List.nil_append, List.append_nil]
  after_results
  pointwise

/-- The output projection. -/
theorem w_o (n d : Fin 1024) :
    V m c main_v25 (ix2 n d) = m ((c : Thread nD τ).loc main_arg9) (ix3 0 n d) := by
  dsimp only [V, hostOps0, hostOps0_1, hostOps0_2, List.flatten_cons, List.flatten_nil, List.cons_append, List.nil_append, List.append_nil]
  after_results
  pointwise

/-- The gain of the normalisation before the feed-forward part. -/
theorem gain_ffn (d : Fin 1024) :
    V m c main_v26 (ix2 0 d) = m ((c : Thread nD τ).loc main_arg10) (ix2 0 d) := by
  dsimp only [V, hostOps0, hostOps0_1, hostOps0_2, List.flatten_cons, List.flatten_nil, List.cons_append, List.nil_append, List.append_nil]
  after_results
  pointwise

/-- The gate's weights. -/
theorem w_gate (n : Fin 1024) (d : Fin 2816) :
    V m c main_v27 (ix2 n d) = m ((c : Thread nD τ).loc main_arg11) (ix3 0 n d) := by
  dsimp only [V, hostOps0, hostOps0_1, hostOps0_2, List.flatten_cons, List.flatten_nil, List.cons_append, List.nil_append, List.append_nil]
  after_results
  pointwise

/-- The up projection's weights. -/
theorem w_up (n : Fin 1024) (d : Fin 2816) :
    V m c main_v28 (ix2 n d) = m ((c : Thread nD τ).loc main_arg12) (ix3 0 n d) := by
  dsimp only [V, hostOps0, hostOps0_1, hostOps0_2, List.flatten_cons, List.flatten_nil, List.cons_append, List.nil_append, List.append_nil]
  after_results
  pointwise

/-- The down projection's weights. -/
theorem w_down (n : Fin 2816) (d : Fin 1024) :
    V m c main_v29 (ix2 n d) = m ((c : Thread nD τ).loc main_arg13) (ix3 0 n d) := by
  dsimp only [V, hostOps0, hostOps0_1, hostOps0_2, List.flatten_cons, List.flatten_nil, List.cons_append, List.nil_append, List.append_nil]
  after_results
  pointwise

/-- The cached keys, one transposed matrix per sequence and head. -/
theorem keys (n : Fin 1024) (d : Fin 64) (l : Fin 2048) :
    V m c main_v20 (ix3 n d l) = m ((c : Thread nD τ).loc main_arg6) (ix5 0 ⟨n / 8, by omega⟩ l ⟨n % 8, by omega⟩ d) := by
  dsimp only [V, hostOps0, hostOps0_1, hostOps0_2, List.flatten_cons, List.flatten_nil, List.cons_append, List.nil_append, List.append_nil]
  after_results
  pointwise

/-- The cached values, one transposed matrix per sequence and head. -/
theorem values (n : Fin 1024) (d : Fin 64) (l : Fin 2048) :
    V m c main_v22 (ix3 n d l) = m ((c : Thread nD τ).loc main_arg7) (ix5 0 ⟨n / 8, by omega⟩ l ⟨n % 8, by omega⟩ d) := by
  dsimp only [V, hostOps0, hostOps0_1, hostOps0_2, List.flatten_cons, List.flatten_nil, List.cons_append, List.nil_append, List.append_nil]
  after_results
  pointwise

/-- The mask, a table of the program. -/
theorem mask (n : Fin 16) (l : Fin 2048) :
    V m c main_cst (ix2 n l) = (Ideal.ofBits FTy.f32 (lit0 (S16x2048.rowMajor (ix2 n l))) : EReal) := by
  dsimp only [V, hostOps0, hostOps0_1, hostOps0_2, List.flatten_cons, List.flatten_nil, List.cons_append, List.nil_append, List.append_nil]
  after_results
  rfl

/-- The new queries, keys and values, one matrix of eight rows per sequence and head; the last four rows are padding. -/
noncomputable def newRows (q k v : FVec Ideal S128x4x8x64 .f32) : FVec Ideal S1024x3x8x64 .f32 :=
  shapeCast S1024x3x8x64
    (pad S128x8x3x8x64 ![0, 0, 0, 0, 0] ![0, 0, 0, 4, 0] ![0, 0, 0, 0, 0]
      (transpose S128x8x3x4x64 [0, 3, 2, 1, 4]
        (shapeCast S128x4x3x8x64
          (concatenate S128x4x3x512 2
            [⟨S128x4x1x512, broadcastInDim S128x4x1x512 ![0, 1, 3] bcast_S128x4x512_S128x4x1x512_0_1_3 (shapeCast S128x4x512 q shapeCasts_S128x4x8x64_S128x4x512)⟩,
             ⟨S128x4x1x512, broadcastInDim S128x4x1x512 ![0, 1, 3] bcast_S128x4x512_S128x4x1x512_0_1_3 (shapeCast S128x4x512 k shapeCasts_S128x4x8x64_S128x4x512)⟩,
             ⟨S128x4x1x512, broadcastInDim S128x4x1x512 ![0, 1, 3] bcast_S128x4x512_S128x4x1x512_0_1_3 (shapeCast S128x4x512 v shapeCasts_S128x4x8x64_S128x4x512)⟩]
            concatenates_S128x4x1x512_S128x4x1x512_S128x4x1x512_S128x4x3x512_d2)
          shapeCasts_S128x4x3x512_S128x4x3x8x64)
        transposes_S128x4x3x8x64_S128x8x3x4x64_0_3_2_1_4)
      (sitofp (F := Ideal) .f32 (constantI S_ 32 0#32))
      pads_S128x8x3x4x64_S128x8x3x8x64_000_000_000_040_000 h_S_)
    shapeCasts_S128x8x3x8x64_S1024x3x8x64

/-- What the host operations leave in the operand of the new rows. -/
theorem new_eq : V m c main_v18 = newRows (m ((c : Thread nD τ).loc main_arg3)) (m ((c : Thread nD τ).loc main_arg4)) (m ((c : Thread nD τ).loc main_arg5)) := by
  dsimp only [V, hostOps0, hostOps0_1, hostOps0_2, List.flatten_cons, List.flatten_nil, List.cons_append, List.nil_append, List.append_nil]
  after_results
  rfl

/-- The new rows at an index: which of the three arrays, or the padding. -/
theorem newRows_apply (q k v : FVec Ideal S128x4x8x64 .f32) (n : Fin 1024) (p : Fin 3) (t : Fin 8) (d : Fin 64) :
    newRows q k v (ix4 n p t d)
      = if h : n.val / 8 < 128 ∧ n.val % 8 < 8 ∧ t.val < 4 then
          if h1 : p.val < 1 then q (ix4 ⟨n / 8, by omega⟩ ⟨t, h.2.2⟩ ⟨(n.val % 8 * 64 + d.val) / 64, by omega⟩ d)
          else if h2 : p.val - 1 < 1 then k (ix4 ⟨n / 8, by omega⟩ ⟨t, h.2.2⟩ ⟨(n.val % 8 * 64 + d.val) / 64, by omega⟩ d)
          else v (ix4 ⟨n / 8, by omega⟩ ⟨t, h.2.2⟩ ⟨(n.val % 8 * 64 + d.val) / 64, by omega⟩ d)
        else FloatOps.sitofp FTy.f32 (0#32 : BitVec 32) := by
  unfold newRows
  pointwise

/-- A head's place in a row of heads. -/
theorem head_of (n : ℕ) (d : Fin 64) (h : (n % 8 * 64 + d.val) / 64 < 8) : (⟨(n % 8 * 64 + d.val) / 64, h⟩ : Fin 8) = ⟨n % 8, by omega⟩ :=
  Fin.ext (show (n % 8 * 64 + d.val) / 64 = n % 8 by omega)

/-- The new queries. -/
theorem newRows_q (q k v : FVec Ideal S128x4x8x64 .f32) (n : Fin 1024) (t : Fin 8) (d : Fin 64) (h : t.val < 4) :
    newRows q k v (ix4 n 0 t d) = q (ix4 ⟨n / 8, by omega⟩ ⟨t, h⟩ ⟨n % 8, by omega⟩ d) := by
  rw [newRows_apply, dif_pos ⟨by omega, by omega, h⟩, dif_pos (by decide), head_of]

/-- The new keys. -/
theorem newRows_k (q k v : FVec Ideal S128x4x8x64 .f32) (n : Fin 1024) (t : Fin 8) (d : Fin 64) (h : t.val < 4) :
    newRows q k v (ix4 n 1 t d) = k (ix4 ⟨n / 8, by omega⟩ ⟨t, h⟩ ⟨n % 8, by omega⟩ d) := by
  rw [newRows_apply, dif_pos ⟨by omega, by omega, h⟩, dif_neg (by decide), dif_pos (by decide), head_of]

/-- The new values. -/
theorem newRows_v (q k v : FVec Ideal S128x4x8x64 .f32) (n : Fin 1024) (t : Fin 8) (d : Fin 64) (h : t.val < 4) :
    newRows q k v (ix4 n 2 t d) = v (ix4 ⟨n / 8, by omega⟩ ⟨t, h⟩ ⟨n % 8, by omega⟩ d) := by
  rw [newRows_apply, dif_pos ⟨by omega, by omega, h⟩, dif_neg (by decide), dif_neg (by decide), head_of]

/-- The rows of padding. -/
theorem newRows_pad (q k v : FVec Ideal S128x4x8x64 .f32) (n : Fin 1024) (p : Fin 3) (t : Fin 8) (d : Fin 64) (h : ¬ t.val < 4) :
    newRows q k v (ix4 n p t d) = (0 : EReal) := by
  rw [newRows_apply, dif_neg (fun h' => h h'.2.2)]
  show (((0#32 : BitVec 32).toInt : ℝ) : EReal) = 0
  simp

end Cert.Arrays
-- ==== Proof.Blocks.lean ====
/- What each window of the grid shows of its array at a point of the grid. -/
module

public import proofs.«01_k».proof.Proof.Gen.KernelIdeal.Value
public import Idealize.ShloMosaic.Lib.Pipeline.ValueKit

@[expose] public section

set_option maxRecDepth 16384

namespace Cert.Arrays

open Idealize.ShloMosaic Idealize.ShloMosaic.TcCoe Cert.KernelIdeal Cert.KernelIdeal.Gen

variable (m : (ℓ : Loc nD τ sig) → Buf (Elt Ideal) ℓ) (c : Dev nD)

/-- Which block of its array every window shows at every point of the grid. -/
theorem index_maps : ∀ t : Fin grid0.N,
    win0_0.index t = ![t.val, 0] ∧ win0_1.index t = ![t.val, 0] ∧ win0_2.index t = ![t.val / 8, 0, t.val % 8, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0, 0, 0]
    ∧ win0_10.index t = ![t.val, 0, 0] ∧ win0_11.index t = ![t.val, 0, 0] ∧ win0_12.index t = ![0, 0]
    ∧ win0_13.index t = ![t.val, 0] ∧ win0_14.index t = ![t.val, 0, 0] := by
  decide +kernel

/-- 256 rows of the residual input. -/
theorem blk_x (t : Fin cfg0.N) (r : Fin 256) (d : Fin 1024) (n : Fin 16384) (hn : n.val = t.val * 256 + r.val) :
    iblk m c 0 t (ix2 r d) = V m c main_v23 (ix2 n d) := by
  show V m c main_v23 (((cfg0.win 0).blk t).view.emb (ix2 r d)) = _
  have e := (index_maps t).1
  congr 1
  funext a; apply Fin.ext
  match a with
  | ⟨0, _⟩ => show win0_0.index t (0 : Fin 2) * 256 + 1 * r.val = n.val; rw [e]; simp; try omega
  | ⟨1, _⟩ => show win0_0.index t (1 : Fin 2) * 1024 + 1 * d.val = d.val; rw [e]; simp; try omega

/-- 256 rows of mixer A's output. -/
theorem blk_a (t : Fin cfg0.N) (r : Fin 256) (d : Fin 512) (n : Fin 16384) (hn : n.val = t.val * 256 + r.val) :
    iblk m c 1 t (ix2 r d) = V m c main_arg1 (ix2 n d) := by
  show V m c main_arg1 (((cfg0.win 1).blk t).view.emb (ix2 r d)) = _
  have e := (index_maps t).2.1
  congr 1
  funext a; apply Fin.ext
  match a with
  | ⟨0, _⟩ => show win0_1.index t (0 : Fin 2) * 256 + 1 * r.val = n.val; rw [e]; simp; try omega
  | ⟨1, _⟩ => show win0_1.index t (1 : Fin 2) * 512 + 1 * d.val = d.val; rw [e]; simp; try omega

/-- 256 positions of one batch of mixer B's output. -/
theorem blk_b (t : Fin cfg0.N) (z : Fin 1) (g : Fin 4) (r : Fin 256) (d : Fin 128) (b : Fin 8) (hb : b.val = t.val / 8) (l : Fin 2048) (hl : l.val = t.val % 8 * 256 + r.val) :
    iblk m c 2 t (ix4 z g r d) = V m c main_arg2 (ix4 b g l d) := by
  show V m c main_arg2 (((cfg0.win 2).blk t).view.emb (ix4 z g r d)) = _
  have e := (index_maps t).2.2.1
  congr 1
  funext a; apply Fin.ext
  match a with
  | ⟨0, _⟩ => show win0_2.index t (0 : Fin 4) * 1 + 1 * z.val = b.val; rw [e]; simp; try omega
  | ⟨1, _⟩ => show win0_2.index t (1 : Fin 4) * 4 + 1 * g.val = g.val; rw [e]; simp; try omega
  | ⟨2, _⟩ => show win0_2.index t (2 : Fin 4) * 256 + 1 * r.val = l.val; rw [e]; simp; try omega
  | ⟨3, _⟩ => show win0_2.index t (3 : Fin 4) * 128 + 1 * d.val = d.val; rw [e]; simp; try omega

/-- The whole gain. -/
theorem blk_gain_b (t : Fin cfg0.N) (z : Fin 1) (d : Fin 512) :
    iblk m c 3 t (ix2 z d) = V m c main_v24 (ix2 z d) := by
  show V m c main_v24 (((cfg0.win 3).blk t).view.emb (ix2 z d)) = _
  have e := (index_maps t).2.2.2.1
  congr 1
  funext a; apply Fin.ext
  match a with
  | ⟨0, _⟩ => show win0_3.index t (0 : Fin 2) * 1 + 1 * z.val = z.val; rw [e]; simp; try omega
  | ⟨1, _⟩ => show win0_3.index t (1 : Fin 2) * 512 + 1 * d.val = d.val; rw [e]; simp; try omega

/-- The whole output projection. -/
theorem blk_w_o (t : Fin cfg0.N) (n d : Fin 1024) :
    iblk m c 4 t (ix2 n d) = V m c main_v25 (ix2 n d) := by
  show V m c main_v25 (((cfg0.win 4).blk t).view.emb (ix2 n d)) = _
  have e := (index_maps t).2.2.2.2.1
  congr 1
  funext a; apply Fin.ext
  match a with
  | ⟨0, _⟩ => show win0_4.index t (0 : Fin 2) * 1024 + 1 * n.val = n.val; rw [e]; simp; try omega
  | ⟨1, _⟩ => show win0_4.index t (1 : Fin 2) * 1024 + 1 * d.val = d.val; rw [e]; simp; try omega

/-- The whole gain. -/
theorem blk_gain_ffn (t : Fin cfg0.N) (z : Fin 1) (d : Fin 1024) :
    iblk m c 5 t (ix2 z d) = V m c main_v26 (ix2 z d) := by
  show V m c main_v26 (((cfg0.win 5).blk t).view.emb (ix2 z d)) = _
  have e := (index_maps t).2.2.2.2.2.1
  congr 1
  funext a; apply Fin.ext
  match a with
  | ⟨0, _⟩ => show win0_5.index t (0 : Fin 2) * 1 + 1 * z.val = z.val; rw [e]; simp; try omega
  | ⟨1, _⟩ => show win0_5.index t (1 : Fin 2) * 1024 + 1 * d.val = d.val; rw [e]; simp; try omega

/-- The gate's whole weights. -/
theorem blk_w_gate (t : Fin cfg0.N) (n : Fin 1024) (d : Fin 2816) :
    iblk m c 6 t (ix2 n d) = V m c main_v27 (ix2 n d) := by
  show V m c main_v27 (((cfg0.win 6).blk t).view.emb (ix2 n d)) = _
  have e := (index_maps t).2.2.2.2.2.2.1
  congr 1
  funext a; apply Fin.ext
  match a with
  | ⟨0, _⟩ => show win0_6.index t (0 : Fin 2) * 1024 + 1 * n.val = n.val; rw [e]; simp; try omega
  | ⟨1, _⟩ => show win0_6.index t (1 : Fin 2) * 2816 + 1 * d.val = d.val; rw [e]; simp; try omega

/-- The up projection's whole weights. -/
theorem blk_w_up (t : Fin cfg0.N) (n : Fin 1024) (d : Fin 2816) :
    iblk m c 7 t (ix2 n d) = V m c main_v28 (ix2 n d) := by
  show V m c main_v28 (((cfg0.win 7).blk t).view.emb (ix2 n d)) = _
  have e := (index_maps t).2.2.2.2.2.2.2.1
  congr 1
  funext a; apply Fin.ext
  match a with
  | ⟨0, _⟩ => show win0_7.index t (0 : Fin 2) * 1024 + 1 * n.val = n.val; rw [e]; simp; try omega
  | ⟨1, _⟩ => show win0_7.index t (1 : Fin 2) * 2816 + 1 * d.val = d.val; rw [e]; simp; try omega

/-- The down projection's whole weights. -/
theorem blk_w_down (t : Fin cfg0.N) (n : Fin 2816) (d : Fin 1024) :
    iblk m c 8 t (ix2 n d) = V m c main_v29 (ix2 n d) := by
  show V m c main_v29 (((cfg0.win 8).blk t).view.emb (ix2 n d)) = _
  have e := (index_maps t).2.2.2.2.2.2.2.2.1
  congr 1
  funext a; apply Fin.ext
  match a with
  | ⟨0, _⟩ => show win0_8.index t (0 : Fin 2) * 2816 + 1 * n.val = n.val; rw [e]; simp; try omega
  | ⟨1, _⟩ => show win0_8.index t (1 : Fin 2) * 1024 + 1 * d.val = d.val; rw [e]; simp; try omega

/-- The whole mask. -/
theorem blk_mask (t : Fin cfg0.N) (n : Fin 16) (l : Fin 2048) :
    iblk m c 12 t (ix2 n l) = V m c main_cst (ix2 n l) := by
  show V m c main_cst (((cfg0.win 12).blk t).view.emb (ix2 n l)) = _
  have e := (index_maps t).2.2.2.2.2.2.2.2.2.2.2.2.1
  congr 1
  funext a; apply Fin.ext
  match a with
  | ⟨0, _⟩ => show win0_12.index t (0 : Fin 2) * 16 + 1 * n.val = n.val; rw [e]; simp; try omega
  | ⟨1, _⟩ => show win0_12.index t (1 : Fin 2) * 2048 + 1 * l.val = l.val; rw [e]; simp; try omega

/-- The new rows of 14 pairs of sequence and head. -/
theorem blk_new (t : Fin cfg0.N) (h : Fin 14) (p : Fin 3) (r : Fin 8) (d : Fin 64) (n : Fin 1024) (hn : n.val = t.val * 14 + h.val) :
    X0_9 m c t (ix4 h p r d) = V m c main_v18 (ix4 n p r d) := by
  unfold X0_9 Pipeline.Window.fill
  rw [dif_pos (moved0_9 t _)]
  show V m c main_v18 (((cfg0.win 9).blk t).view.emb _) = _
  have e := (index_maps t).2.2.2.2.2.2.2.2.2.1
  congr 1
  funext a; apply Fin.ext
  match a with
  | ⟨0, _⟩ => show win0_9.index t (0 : Fin 4) * 14 + 1 * h.val = n.val; rw [e]; simp; try omega
  | ⟨1, _⟩ => show win0_9.index t (1 : Fin 4) * 3 + 1 * p.val = p.val; rw [e]; simp; try omega
  | ⟨2, _⟩ => show win0_9.index t (2 : Fin 4) * 8 + 1 * r.val = r.val; rw [e]; simp; try omega
  | ⟨3, _⟩ => show win0_9.index t (3 : Fin 4) * 64 + 1 * d.val = d.val; rw [e]; simp; try omega

/-- The cached keys of 14 pairs. -/
theorem blk_keys (t : Fin cfg0.N) (h : Fin 14) (d : Fin 64) (l : Fin 2048) (n : Fin 1024) (hn : n.val = t.val * 14 + h.val) :
    X0_10 m c t (ix3 h d l) = V m c main_v20 (ix3 n d l) := by
  unfold X0_10 Pipeline.Window.fill
  rw [dif_pos (moved0_10 t _)]
  show V m c main_v20 (((cfg0.win 10).blk t).view.emb _) = _
  have e := (index_maps t).2.2.2.2.2.2.2.2.2.2.1
  congr 1
  funext a; apply Fin.ext
  match a with
  | ⟨0, _⟩ => show win0_10.index t (0 : Fin 3) * 14 + 1 * h.val = n.val; rw [e]; simp; try omega
  | ⟨1, _⟩ => show win0_10.index t (1 : Fin 3) * 64 + 1 * d.val = d.val; rw [e]; simp; try omega
  | ⟨2, _⟩ => show win0_10.index t (2 : Fin 3) * 2048 + 1 * l.val = l.val; rw [e]; simp; try omega

/-- The cached values of 14 pairs. -/
theorem blk_values (t : Fin cfg0.N) (h : Fin 14) (d : Fin 64) (l : Fin 2048) (n : Fin 1024) (hn : n.val = t.val * 14 + h.val) :
    X0_11 m c t (ix3 h d l) = V m c main_v22 (ix3 n d l) := by
  unfold X0_11 Pipeline.Window.fill
  rw [dif_pos (moved0_11 t _)]
  show V m c main_v22 (((cfg0.win 11).blk t).view.emb _) = _
  have e := (index_maps t).2.2.2.2.2.2.2.2.2.2.2.1
  congr 1
  funext a; apply Fin.ext
  match a with
  | ⟨0, _⟩ => show win0_11.index t (0 : Fin 3) * 14 + 1 * h.val = n.val; rw [e]; simp; try omega
  | ⟨1, _⟩ => show win0_11.index t (1 : Fin 3) * 64 + 1 * d.val = d.val; rw [e]; simp; try omega
  | ⟨2, _⟩ => show win0_11.index t (2 : Fin 3) * 2048 + 1 * l.val = l.val; rw [e]; simp; try omega

end Cert.Arrays
-- ==== Proof.FinishArray.lean ====
/- The first result of the call as an array: every row is one token's finish. -/
module

public import proofs.«01_k».proof.Proof.FinishRow
public import proofs.«01_k».proof.Proof.HostArrays
public import proofs.«01_k».proof.Proof.Blocks

@[expose] public section

set_option maxRecDepth 16384

noncomputable section

namespace Cert.FinishArray

open Idealize.ShloMosaic Idealize.ShloMosaic.TcCoe Cert.KernelIdeal Cert.KernelIdeal.Gen

/-- The prompt group's output at a token and an entry, of the call's arguments: token `n` is position `n % 2048` of batch `n / 2048`, and
    entry `k` of mixer B's row is entry `k % 128` of slab `k / 128`. -/
def yAt (x : FVec Ideal S8x2048x1024 .f32) (a : FVec Ideal S16384x512 .bf16) (b : FVec Ideal S8x4x2048x128 .f32) (gb : FVec Ideal S1x512 .f32)
    (wo : FVec Ideal S1x1024x1024 .f32) (gf : FVec Ideal S1x1024 .f32) (wg wu : FVec Ideal S1x1024x2816 .f32) (wd : FVec Ideal S1x2816x1024 .f32)
    (n : Fin 16384) (d : Fin 1024) : EReal :=
  RowSpec.finish (fun d => x (ix3 ⟨n / 2048, by omega⟩ ⟨n % 2048, by omega⟩ d)) (fun k => a (ix2 n k))
    (fun k => b (ix4 ⟨n / 2048, by omega⟩ ⟨k / 128, by omega⟩ ⟨n % 2048, by omega⟩ ⟨k % 128, by omega⟩)) (fun k => gb (ix2 0 k))
    (fun k d => wo (ix3 0 ⟨k, by omega⟩ d)) (fun k d => wo (ix3 0 ⟨512 + k, by omega⟩ d)) (fun d => gf (ix2 0 d))
    (fun k j => wg (ix3 0 k j)) (fun k j => wu (ix3 0 k j)) (fun j d => wd (ix3 0 j d)) d

variable (m : (ℓ : Loc nD τ sig) → Buf (Elt Ideal) ℓ) (c : Dev nD)

/-- What a point of the grid leaves in its block of the output, at an entry. -/
theorem point (t : Fin cfg0.N) (r : Fin 256) (d : Fin 1024) (n : Fin 16384) (hn : n.val = t.val * 256 + r.val) :
    (outsAt0 m c t).1 (ix2 r d)
      = yAt (m ((c : Thread nD τ).loc main_arg0)) (m ((c : Thread nD τ).loc main_arg1)) (m ((c : Thread nD τ).loc main_arg2))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) n d := by
  unfold outsAt0 out0_A_13
  dsimp only
  rw [View.read_writes_junk_eq_canon, Finish.pieces13, View.canon_unit_zero (by decide), Finish.ffn_row]
  simp only [Finish.loadResid_row, View.readAt_eq_ld, Memref.IsWhole.read_unread]
  have hb : (⟨n.val / 2048, by omega⟩ : Fin 8).val = t.val / 8 := by simp only; omega
  have hl : (⟨n.val % 2048, by omega⟩ : Fin 2048).val = t.val % 8 * 256 + r.val := by simp only; omega
  pointwise
  unfold yAt RowSpec.finish
  simp only [fun d => (Arrays.blk_x m c t r d n hn).trans (Arrays.x_rows m c n d),
    fun k => (Arrays.blk_a m c t r k n hn).trans (congrFun (V_main_arg1 m c) _),
    fun g k => (Arrays.blk_b m c t 0 g r k _ hb _ hl).trans (congrFun (V_main_arg2 m c) _),
    fun k => (Arrays.blk_gain_b m c t 0 k).trans (Arrays.gain_b m c k),
    fun k d => (Arrays.blk_w_o m c t k d).trans (Arrays.w_o m c k d),
    fun d => (Arrays.blk_gain_ffn m c t 0 d).trans (Arrays.gain_ffn m c d),
    fun k j => (Arrays.blk_w_gate m c t k j).trans (Arrays.w_gate m c k j),
    fun k j => (Arrays.blk_w_up m c t k j).trans (Arrays.w_up m c k j),
    fun j d => (Arrays.blk_w_down m c t j d).trans (Arrays.w_down m c j d)]

/-- The first result, whole. -/
theorem result : (dats m 0 c).arrAt 13 cfg0.N = fun i =>
      yAt (m ((c : Thread nD τ).loc main_arg0)) (m ((c : Thread nD τ).loc main_arg1)) (m ((c : Thread nD τ).loc main_arg2))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (i 0) (i 1) := by
  refine (dats m 0 c).arrAt_eq_of_covers 13 _ (by decide +kernel) fun t hf y => ?_
  rw [after0_13]
  have e := (Arrays.index_maps t).2.2.2.2.2.2.2.2.2.2.2.2.2.1
  obtain ⟨r, d, rfl⟩ : ∃ (r : Fin 256) (d : Fin 1024), y = ix2 r d := ⟨y 0, y 1, by idx_vars y⟩
  refine (point m c t r d (((cfg0.win 13).blk t).view.emb (ix2 r d) 0) ?_).trans (congrArg _ (Fin.ext ?_))
  · show win0_13.index t (0 : Fin 2) * 256 + 1 * r.val = _
    rw [e]; simp
  · show d.val = win0_13.index t (1 : Fin 2) * 1024 + 1 * d.val
    rw [e]; simp

end Cert.FinishArray

end
-- ==== Proof.FinishRef.lean ====
/- The first result of the reference: every row is one token's finish. -/
module

public import proofs.«01_k».proof.Proof.FinishArray
public import proofs.«01_k».proof.Proof.Gen.ReferenceIdeal.Read

@[expose] public section

set_option maxRecDepth 16384

noncomputable section

namespace Cert.FinishRef

open Idealize.ShloMosaic Cert.ReferenceIdeal Cert.ReferenceIdeal.Read

variable (x : FVec Ideal S8x2048x1024 .f32) (a : FVec Ideal S16384x512 .bf16) (b : FVec Ideal S8x4x2048x128 .f32) (gb : FVec Ideal S1x512 .f32)
    (wo : FVec Ideal S1x1024x1024 .f32) (gf : FVec Ideal S1x1024 .f32) (wg wu : FVec Ideal S1x1024x2816 .f32) (wd : FVec Ideal S1x2816x1024 .f32)

/-- The word of zero. -/
theorem zero_word : Ideal.ofBits .f32 0x00000000#32 = 0 := by simp [Ideal.ofBits, Ideal.ieee]

/-- The word of one. -/
theorem one_word : Ideal.ofBits .f32 0x3F800000#32 = 1 := by
  simp [Ideal.ofBits, Ideal.ieee]
  rw [← EReal.coe_mul]
  norm_num

/-- Mixer B's row, normalised. -/
theorem mixB (n : Fin 16384) (k : Fin 512) :
    val_main_v17 (F := Ideal) b gb (ix2 n k)
      = RowSpec.norm RowSpec.c512 (fun k : Fin 512 => b (ix4 ⟨n / 2048, by omega⟩ ⟨k / 128, by omega⟩ ⟨n % 2048, by omega⟩ ⟨k % 128, by omega⟩))
          (fun k => gb (ix2 0 k)) k := by
  pointwise [val_main_v17, val_main_v16, val_main_v15, val_main_v14, val_main_v13, val_main_v12, val_main_v11, val_main_v10, val_main_v9, val_main_v8,
    val_main_v7, val_main_v6, val_main_v5, val_main_v4, val_main_v1, val_main_v0, val_main_cst, val_main_cst_0, val_main_cst_1]
  unfold RowSpec.norm RowSpec.rms RowSpec.c512 RowSpec.eps
  simp only [zero_word, zero_add]

/-- The residual. -/
theorem resid (n : Fin 16384) (d : Fin 1024) :
    val_main_v21 (F := Ideal) x a b gb wo (ix2 n d)
      = RowSpec.resid (fun d => x (ix3 ⟨n / 2048, by omega⟩ ⟨n % 2048, by omega⟩ d)) (fun k => a (ix2 n k)) (fun k => val_main_v17 (F := Ideal) b gb (ix2 n k))
         (fun k d => wo (ix3 0 ⟨k, by omega⟩ d)) (fun k d => wo (ix3 0 ⟨512 + k, by omega⟩ d)) d := by
  pointwise [val_main_v21, val_main_v20, val_main_v19, val_main_v18, val_main_v3, val_main_v2]
  rfl

/-- The residual, normalised. -/
theorem normed (n : Fin 16384) (d : Fin 1024) :
    val_main_v35 (F := Ideal) x a b gb wo gf (ix2 n d)
      = RowSpec.norm RowSpec.c1024 (fun d => val_main_v21 (F := Ideal) x a b gb wo (ix2 n d)) (fun d => gf (ix2 0 d)) d := by
  pointwise [val_main_v35, val_main_v34, val_main_v33, val_main_v32, val_main_v31, val_main_v30, val_main_v29, val_main_v28, val_main_v27, val_main_v26,
    val_main_v25, val_main_v24, val_main_v23, val_main_v22, val_main_cst_2, val_main_cst_3, val_main_cst_4]
  unfold RowSpec.norm RowSpec.rms RowSpec.c1024 RowSpec.eps
  simp only [zero_word, zero_add]

/-- The activation. -/
theorem act (n : Fin 16384) (j : Fin 2816) :
    val_main_v41 (F := Ideal) x a b gb wo gf wg wu (ix2 n j)
      = RowSpec.act (fun d => val_main_v35 (F := Ideal) x a b gb wo gf (ix2 n d)) (fun k j => wg (ix3 0 k j)) (fun k j => wu (ix3 0 k j)) j := by
  pointwise [val_main_v41, val_main_v40, val_main_v39, val_main_v38, val_main_v37, val_main_v36, val_main_call0_v5, val_main_call0_v4, val_main_call0_v3, val_main_call0_v2, val_main_call0_v1, val_main_call0_v0, val_main_call0_cst, val_main_call0_cst_0]
  unfold RowSpec.act Ideal.logistic
  simp only [one_word]

/-- The output. -/
theorem out (n : Fin 16384) (d : Fin 1024) :
    val_main_v44 (F := Ideal) x a b gb wo gf wg wu wd (ix2 n d)
      = val_main_v21 (F := Ideal) x a b gb wo (ix2 n d) + ∑ j : Fin 2816, val_main_v41 (F := Ideal) x a b gb wo gf wg wu (ix2 n j) * wd (ix3 0 j d) := by
  pointwise [val_main_v44, val_main_v43, val_main_v42]

/-- The first result, whole. -/
theorem result : val_main_v44 (F := Ideal) x a b gb wo gf wg wu wd = fun i => FinishArray.yAt x a b gb wo gf wg wu wd (i 0) (i 1) := by
  funext i
  obtain ⟨n, d, rfl⟩ : ∃ (n : Fin 16384) (d : Fin 1024), i = ix2 n d := ⟨i 0, i 1, by idx_vars i⟩
  rw [out]
  simp only [act, normed, resid, mixB]
  rfl

end Cert.FinishRef

end
-- ==== Proof.ProjRef.lean ====
/- The results of the reference for the projections' call: every position's row. -/
module

public import proofs.«01_k».proof.Proof.ProjResult
public import proofs.«01_k».proof.Proof.FinishRef
public import proofs.«01_k».proof.Proof.Gen.Reference2Ideal.Read

@[expose] public section

set_option maxRecDepth 16384

noncomputable section

namespace Cert.ProjRef

open Idealize.ShloMosaic Cert.Reference2Ideal Cert.Reference2Ideal.Read
open Cert.FinishRef (zero_word one_word)
open Cert.ProjPoint (xOf rowOf wOf)

variable (x : FVec Ideal S8x2048x1024 .f32) (g : FVec Ideal S1x1024 .f32) (w : FVec Ideal S1x1024x2560 .f32)
    (lg lb : FVec Ideal S1x512 .f32) (ws : FVec Ideal S1x8x128x128 .f32) (bs : FVec Ideal S1x8x128 .f32) (gq gk : FVec Ideal S1x64 .f32) (go : FVec Ideal S1x512 .f32)

/-- The input's row, normalised. -/
theorem normed (b : Fin 8) (l : Fin 2048) (d : Fin 1024) :
    val_main_v13 (F := Ideal) x g (ix3 b l d) = RowSpec.norm RowSpec.c1024 (xOf x b l) (rowOf g) d := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold RowSpec.norm RowSpec.rms RowSpec.c1024 RowSpec.eps
  simp only [zero_word, zero_add]

/-- All the projections of a position. -/
theorem projected (b : Fin 8) (l : Fin 2048) (j : Fin 2560) :
    val_main_v15 (F := Ideal) x g w (ix3 b l j) = GateSpec.proj (xOf x b l) (rowOf g) (fun k => wOf w k j) := by
  pointwise [val_main_v15, val_main_v14]
  simp only [normed]
  rfl

/-- Projection 0. -/
theorem col0 (b : Fin 8) (l : Fin 2048) (i : Fin 512) : val_main_v16 (F := Ideal) x g w (ix3 b l i) = ProjSpec.col (xOf x) (rowOf g) (wOf w) b l 0 i := by
  pointwise [val_main_v16]
  rw [projected]
  unfold ProjSpec.col
  congr 1
  funext k
  congr 1
  exact Fin.ext (by simp)

/-- Projection 1. -/
theorem col1 (b : Fin 8) (l : Fin 2048) (i : Fin 512) : val_main_v17 (F := Ideal) x g w (ix3 b l i) = ProjSpec.col (xOf x) (rowOf g) (wOf w) b l 1 i := by
  pointwise [val_main_v17]
  rw [projected]
  unfold ProjSpec.col
  rfl

/-- Projection 2. -/
theorem col2 (b : Fin 8) (l : Fin 2048) (i : Fin 512) : val_main_v18 (F := Ideal) x g w (ix3 b l i) = ProjSpec.col (xOf x) (rowOf g) (wOf w) b l 2 i := by
  pointwise [val_main_v18]
  rw [projected]
  unfold ProjSpec.col
  rfl

/-- Projection 3. -/
theorem col3 (b : Fin 8) (l : Fin 2048) (i : Fin 512) : val_main_v19 (F := Ideal) x g w (ix3 b l i) = ProjSpec.col (xOf x) (rowOf g) (wOf w) b l 3 i := by
  pointwise [val_main_v19]
  rw [projected]
  unfold ProjSpec.col
  rfl

/-- Projection 4. -/
theorem col4 (b : Fin 8) (l : Fin 2048) (i : Fin 512) : val_main_v20 (F := Ideal) x g w (ix3 b l i) = ProjSpec.col (xOf x) (rowOf g) (wOf w) b l 4 i := by
  pointwise [val_main_v20]
  rw [projected]
  unfold ProjSpec.col
  rfl

/-- A gelu of the gate. -/
theorem gelu0 (b : Fin 8) (l : Fin 2048) (i : Fin 512) : val_main_v33 (F := Ideal) x g w (ix3 b l i) = GateSpec.gelu (val_main_v16 (F := Ideal) x g w (ix3 b l i)) := by
  pointwise [val_main_v33, val_main_v32, val_main_v31, val_main_v30, val_main_v29, val_main_v28, val_main_v27, val_main_v26, val_main_v25, val_main_v24, val_main_v23, val_main_v22, val_main_v21, val_main_cst_2, val_main_cst_3, val_main_cst_4, val_main_cst_5]
  unfold GateSpec.gelu
  rw [mul_comm (_ * _) (val_main_v16 (F := Ideal) x g w (ix3 b l i))]

/-- A gelu of the gate. -/
theorem gelu1 (b : Fin 8) (l : Fin 2048) (i : Fin 512) : val_main_v46 (F := Ideal) x g w (ix3 b l i) = GateSpec.gelu (val_main_v17 (F := Ideal) x g w (ix3 b l i)) := by
  pointwise [val_main_v46, val_main_v45, val_main_v44, val_main_v43, val_main_v42, val_main_v41, val_main_v40, val_main_v39, val_main_v38, val_main_v37, val_main_v36, val_main_v35, val_main_v34, val_main_cst_6, val_main_cst_7, val_main_cst_8, val_main_cst_9]
  unfold GateSpec.gelu
  rw [mul_comm (_ * _) (val_main_v17 (F := Ideal) x g w (ix3 b l i))]

/-- The layer norm's row. -/
theorem layered (b : Fin 8) (l : Fin 2048) (i : Fin 512) :
    val_main_v70 (F := Ideal) x g w lg lb (ix3 b l i)
      = GateSpec.layer (fun i => val_main_v46 (F := Ideal) x g w (ix3 b l i)) (rowOf (n := 512) lg) (rowOf (n := 512) lb) i := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_cst_10, val_main_cst_11, val_main_cst_12, val_main_cst_13, val_main_cst_14]
  unfold GateSpec.layer GateSpec.centre GateSpec.mean RowSpec.c512 RowSpec.eps
  simp only [zero_word, zero_add]

/-- The column of an entry of a slab, by heads. -/
theorem slab_column (s : Fin 4) (k : Fin 128) : (⟨(s.val * 2 + k.val / 64) * 64 + k.val % 64, by omega⟩ : Fin 512) = ⟨128 * s.val + k.val, by omega⟩ :=
  Fin.ext (by simp only; omega)

/-- The columns of an entry's head. -/
theorem slab_head (s : Fin 4) (k : Fin 128) (y : Fin 64) :
    (⟨(s.val * 2 + k.val / 64) * 64 + y.val, by omega⟩ : Fin 512) = ⟨(128 * s.val + k.val) / 64 * 64 + y.val, by omega⟩ :=
  Fin.ext (by simp only; omega)

/-- The entry's place in its head. -/
theorem slab_place (s : Fin 4) (k : Fin 128) : (⟨k.val % 64, by omega⟩ : Fin 64) = ⟨(128 * s.val + k.val) % 64, by omega⟩ :=
  Fin.ext (by simp only; omega)

/-- A key's row. -/
theorem keyed (b : Fin 8) (s : Fin 4) (l : Fin 2048) (k : Fin 128) :
    val_main_v136 (F := Ideal) x g w gk (ix4 b s l k)
      = GateSpec.head (fun i => val_main_v19 (F := Ideal) x g w (ix3 b l i)) (rowOf (n := 64) gk ⟨(128 * s.val + k.val) % 64, by omega⟩) ⟨128 * s.val + k.val, by omega⟩ := by
  pointwise [val_main_v136, val_main_v135, val_main_v131, val_main_v130, val_main_v129, val_main_v128, val_main_v127, val_main_v126, val_main_v125, val_main_v124, val_main_v123, val_main_v122, val_main_v121, val_main_v120, val_main_v119, val_main_v118, val_main_v117, val_main_cst_23, val_main_cst_24, val_main_cst_25]
  unfold GateSpec.head GateSpec.headRms GateSpec.c64 RowSpec.eps
  simp only [zero_word, zero_add, slab_column, slab_head, slab_place s k]

/-- A query's row. -/
theorem queried (b : Fin 8) (s : Fin 4) (l : Fin 2048) (k : Fin 128) :
    val_main_v134 (F := Ideal) x g w gq (ix4 b s l k)
      = GateSpec.head (fun i => val_main_v18 (F := Ideal) x g w (ix3 b l i)) (ProjArrays.eighth (rowOf (n := 64) gq ⟨(128 * s.val + k.val) % 64, by omega⟩)) ⟨128 * s.val + k.val, by omega⟩ := by
  pointwise [val_main_v134, val_main_v133, val_main_v116, val_main_v115, val_main_v114, val_main_v113, val_main_v112, val_main_v111, val_main_v110, val_main_v109, val_main_v108, val_main_v107, val_main_v106, val_main_v105, val_main_v104, val_main_v103, val_main_v102, val_main_v101, val_main_v100, val_main_cst_19, val_main_cst_20, val_main_cst_21, val_main_cst_22]
  unfold GateSpec.head GateSpec.headRms GateSpec.c64 RowSpec.eps
  simp only [zero_word, zero_add, slab_column, slab_head, slab_place s k]
  unfold ProjArrays.eighth
  rw [mul_assoc, mul_assoc]

/-- A key's row, positions last. -/
theorem keyed_last (b : Fin 8) (i : Fin 512) (l : Fin 2048) :
    val_main_v140 (F := Ideal) x g w gk (ix3 b i l)
      = GateSpec.head (fun i => val_main_v19 (F := Ideal) x g w (ix3 b l i)) (rowOf (n := 64) gk ⟨i.val % 64, by omega⟩) i := by
  pointwise [val_main_v140, val_main_v139, val_main_v131, val_main_v130, val_main_v129, val_main_v128, val_main_v127, val_main_v126, val_main_v125, val_main_v124, val_main_v123, val_main_v122, val_main_v121, val_main_v120, val_main_v119, val_main_v118, val_main_v117, val_main_cst_23, val_main_cst_24, val_main_cst_25]
  unfold GateSpec.head GateSpec.headRms GateSpec.c64 RowSpec.eps
  simp only [zero_word, zero_add]

/-- A value, by slabs. -/
theorem valued (b : Fin 8) (s : Fin 4) (l : Fin 2048) (k : Fin 128) :
    val_main_v138 (F := Ideal) x g w (ix4 b s l k) = val_main_v20 (F := Ideal) x g w (ix3 b l ⟨128 * s.val + k.val, by omega⟩) := by
  pointwise [val_main_v138, val_main_v137, val_main_v132]
  exact congrArg (fun i => val_main_v20 (F := Ideal) x g w (ix3 b l i)) (Fin.ext (by simp only; omega))

/-- A value, positions last. -/
theorem valued_last (b : Fin 8) (i : Fin 512) (l : Fin 2048) :
    val_main_v142 (F := Ideal) x g w (ix3 b i l) = val_main_v20 (F := Ideal) x g w (ix3 b l i) := by
  pointwise [val_main_v142, val_main_v141, val_main_v132]

/-- Whether a row of the triangle reaches a column, as a word. -/
theorem reach_word : ∀ p j : Fin 128, IntOp.cmpi CmpIPredicate.sge (BitVec.ofNat 32 p.val) (BitVec.ofNat 32 j.val) = if j.val ≤ p.val then 1#1 else 0#1 := by
  decide +kernel

/-- The gate's weights under the triangle. -/
theorem lowered (h : Fin 8) (p j : Fin 128) :
    val_main_v74 (F := Ideal) ws (ix3 h p j) = ProjSpec.lower (fun h p j => ws (ix4 0 h p j)) p h j := by
  pointwise [val_main_v74, val_main_v73, val_main_v72, val_main_v71, val_main_c, val_main_cst_15, val_main_call0_v0, val_main_call0_v1, val_main_call0_v2, val_main_call0_v3,
    val_main_call0_v4, val_main_call0_v5, val_main_call0_c, val_main_call0_c_0, val_main_call1_v0, val_main_call1_v1, val_main_call1_v2]
  have e : IntOp.addi (BitVec.ofNat 32 p.val) 0#32 = BitVec.ofNat 32 p.val := BitVec.add_zero _
  rw [e, reach_word]
  unfold ProjSpec.lower
  by_cases hj : j.val ≤ p.val
  · rw [if_pos hj, if_pos hj]
    rfl
  · rw [if_neg hj, if_neg hj]
    exact zero_word

/-- The gated row. -/
theorem gated (b : Fin 8) (l : Fin 2048) (i : Fin 512) :
    val_main_v84 (F := Ideal) x g w lg lb ws bs (ix3 b l i)
      = GateSpec.gate (fun i => val_main_v33 (F := Ideal) x g w (ix3 b l i)) (fun j i => val_main_v70 (F := Ideal) x g w lg lb (ix3 b ⟨l.val / 128 * 128 + j.val, by omega⟩ i))
          (fun h j => val_main_v74 (F := Ideal) ws (ix3 h ⟨l.val % 128, by omega⟩ j)) (fun h => bs (ix3 0 h ⟨l.val % 128, by omega⟩)) i := by
  pointwise [val_main_v84, val_main_v83, val_main_v82, val_main_v81, val_main_v80, val_main_v79, val_main_v78, val_main_v77, val_main_v76, val_main_v75]
  unfold GateSpec.gate
  simp only [mul_comm (val_main_v74 (F := Ideal) ws _)]

/-- Mixer A's row. -/
theorem mixer (n : Fin 16384) (i : Fin 512) :
    val_main_v143 (F := Ideal) x g w lg lb ws bs go (ix2 n i)
      = RowSpec.norm RowSpec.c512 (fun i => val_main_v84 (F := Ideal) x g w lg lb ws bs (ix3 ⟨n.val / 2048, by omega⟩ ⟨n.val % 2048, by omega⟩ i)) (rowOf (n := 512) go) i := by
  pointwise [val_main_v143, val_main_v99, val_main_v98, val_main_v97, val_main_v96, val_main_v95, val_main_v94, val_main_v93, val_main_v92, val_main_v91, val_main_v90, val_main_v89, val_main_v88, val_main_v87, val_main_v86, val_main_v85, val_main_cst_16, val_main_cst_17, val_main_cst_18]
  unfold RowSpec.norm RowSpec.rms RowSpec.c512 RowSpec.eps
  simp only [zero_word, zero_add]

/-- The queries, by slabs. -/
theorem result_134 : val_main_v134 (F := Ideal) x g w gq = fun i => ProjResult.inSlabs (ProjResult.queries x g w gq) (i 0) (i 1) (i 2) (i 3) := by
  funext i
  obtain ⟨b, s, l, k, rfl⟩ : ∃ (b : Fin 8) (s : Fin 4) (l : Fin 2048) (k : Fin 128), i = ix4 b s l k := ⟨i 0, i 1, i 2, i 3, by idx_vars i⟩
  rw [queried]
  simp only [col2]
  rfl

/-- The keys, by slabs. -/
theorem result_136 : val_main_v136 (F := Ideal) x g w gk = fun i => ProjResult.inSlabs (ProjResult.keys x g w gk) (i 0) (i 1) (i 2) (i 3) := by
  funext i
  obtain ⟨b, s, l, k, rfl⟩ : ∃ (b : Fin 8) (s : Fin 4) (l : Fin 2048) (k : Fin 128), i = ix4 b s l k := ⟨i 0, i 1, i 2, i 3, by idx_vars i⟩
  rw [keyed]
  simp only [col3]
  rfl

/-- The values, by slabs. -/
theorem result_138 : val_main_v138 (F := Ideal) x g w  = fun i => ProjResult.inSlabs (ProjResult.values x g w) (i 0) (i 1) (i 2) (i 3) := by
  funext i
  obtain ⟨b, s, l, k, rfl⟩ : ∃ (b : Fin 8) (s : Fin 4) (l : Fin 2048) (k : Fin 128), i = ix4 b s l k := ⟨i 0, i 1, i 2, i 3, by idx_vars i⟩
  rw [valued]
  simp only [col4]
  rfl

/-- The keys, positions last. -/
theorem result_140 : val_main_v140 (F := Ideal) x g w gk = fun i => ProjResult.keys x g w gk (i 0) (i 2) (i 1) := by
  funext i
  obtain ⟨b, k, l, rfl⟩ : ∃ (b : Fin 8) (k : Fin 512) (l : Fin 2048), i = ix3 b k l := ⟨i 0, i 1, i 2, by idx_vars i⟩
  rw [keyed_last]
  simp only [col3]
  rfl

/-- The values, positions last. -/
theorem result_142 : val_main_v142 (F := Ideal) x g w  = fun i => ProjResult.values x g w (i 0) (i 2) (i 1) := by
  funext i
  obtain ⟨b, k, l, rfl⟩ : ∃ (b : Fin 8) (k : Fin 512) (l : Fin 2048), i = ix3 b k l := ⟨i 0, i 1, i 2, by idx_vars i⟩
  rw [valued_last]
  simp only [col4]
  rfl

/-- Mixer A, token by token. -/
theorem result_143 : val_main_v143 (F := Ideal) x g w lg lb ws bs go = fun i => ProjResult.mixes x g w lg lb ws bs go
    ⟨(i 0).val / 2048, by have h : (i 0).val < 16384 := (i 0).isLt; omega⟩ ⟨(i 0).val % 2048, by omega⟩ (i 1) := by
  funext i
  obtain ⟨n, k, rfl⟩ : ∃ (n : Fin 16384) (k : Fin 512), i = ix2 n k := ⟨i 0, i 1, by idx_vars i⟩
  rw [mixer]
  have e : (fun i => val_main_v84 (F := Ideal) x g w lg lb ws bs (ix3 ⟨n.val / 2048, by omega⟩ ⟨n.val % 2048, by omega⟩ i))
      = fun i => GateSpec.gate _ _ _ _ i := funext fun i => gated x g w lg lb ws bs _ _ i
  rw [e]
  simp only [gelu0, layered, gelu1, lowered, col0, col1]
  rfl

end Cert.ProjRef

end
-- ==== Proof.ProjClaim.lean ====
/- The claims about the projections' call. -/
module

public import proofs.«01_k».proof.Defs
public import proofs.«01_k».proof.Proof.Gen.Kernel2
public import proofs.«01_k».proof.Proof.ProjRunWords
public import proofs.«01_k».proof.Proof.ProjRef

@[expose] public section

noncomputable section

namespace Cert.ProjClaim

open Idealize.ShloMosaic Idealize.SL.Sem

/-- The call leaves every semaphore at zero and its arguments unchanged. -/
theorem frame_ideal : Cert.quiescent_Kernel2Ideal (hKernel2Ideal := Cert.Kernel2Ideal.Gen.facts) := fun m ρ _ => ProjRun.quiescent m ρ

/-- So does the same text over words. -/
theorem frame_kernel : Cert.quiescent_Kernel2 (hKernel2 := Cert.Kernel2.Gen.facts) := fun m ρ _ => ProjRunWords.quiescent m ρ

/-- So does the reference. -/
theorem frame_reference : Cert.quiescent_Reference2Ideal (hReference2Ideal := Cert.Reference2Ideal.Gen.facts) := by
  intro m g _
  exact (θ_run _ _ _).mono (fun r h => ⟨fun c => (h c).2.2.2.2.2.2, sem_eq_zero_of_no_sems (by decide) r.2⟩) (Cert.Reference2Ideal.Value.run m g)

/-- Nothing is replaced in the ideal program. -/
theorem preserved : Cert.preserves_Kernel2_Kernel2Ideal := trivial

set_option maxHeartbeats 2000000 in -- six results, each unfolded from its buffers
/-- Kernel and reference end with the same values. -/
theorem equal : Cert.algebraic_Kernel2Ideal_Reference2Ideal (hKernel2Ideal := Cert.Kernel2Ideal.Gen.facts)
    (hReference2Ideal := Cert.Reference2Ideal.Gen.facts) := by
  intro m g m' g' _ agree
  refine ⟨fun c => (ProjRun.data m 0 c).arrAt 15 Cert.Kernel2Ideal.cfg0.N, fun c => (ProjRun.data m 0 c).arrAt 16 Cert.Kernel2Ideal.cfg0.N, fun c => (ProjRun.data m 0 c).arrAt 17 Cert.Kernel2Ideal.cfg0.N, fun c => (ProjRun.data m 0 c).arrAt 18 Cert.Kernel2Ideal.cfg0.N, fun c => (ProjRun.data m 0 c).arrAt 19 Cert.Kernel2Ideal.cfg0.N, fun c => (ProjRun.data m 0 c).arrAt 20 Cert.Kernel2Ideal.cfg0.N, ProjRun.finished m g, ?_⟩
  refine (θ_run _ _ _).mono (fun r h c => ⟨?_, ?_, ?_, ?_, ?_, ?_, (h c).2.2.2.2.2.2⟩) (Cert.Reference2Ideal.Value.run m' g')
  · obtain ⟨a0, a1, a2, a3, a4, a5, a6, a7, a8, a9, a10, a11, a12, a13, a14⟩ := agree c
    refine ((h c).1.trans (Cert.Reference2Ideal.Read.val_main_v134_eq _)).trans ?_
    show Cert.Reference2Ideal.Read.val_main_v134 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg12)) = _
    rw [a0, a6, a7, a12, ProjRef.result_134]
    exact (ProjResult.result15 m c).symm
  · obtain ⟨a0, a1, a2, a3, a4, a5, a6, a7, a8, a9, a10, a11, a12, a13, a14⟩ := agree c
    refine ((h c).2.1.trans (Cert.Reference2Ideal.Read.val_main_v136_eq _)).trans ?_
    show Cert.Reference2Ideal.Read.val_main_v136 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg13)) = _
    rw [a0, a6, a7, a13, ProjRef.result_136]
    exact (ProjResult.result16 m c).symm
  · obtain ⟨a0, a1, a2, a3, a4, a5, a6, a7, a8, a9, a10, a11, a12, a13, a14⟩ := agree c
    refine ((h c).2.2.1.trans (Cert.Reference2Ideal.Read.val_main_v138_eq _)).trans ?_
    show Cert.Reference2Ideal.Read.val_main_v138 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7)) = _
    rw [a0, a6, a7, ProjRef.result_138]
    exact (ProjResult.result17 m c).symm
  · obtain ⟨a0, a1, a2, a3, a4, a5, a6, a7, a8, a9, a10, a11, a12, a13, a14⟩ := agree c
    refine ((h c).2.2.2.1.trans (Cert.Reference2Ideal.Read.val_main_v140_eq _)).trans ?_
    show Cert.Reference2Ideal.Read.val_main_v140 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg13)) = _
    rw [a0, a6, a7, a13, ProjRef.result_140]
    exact (ProjResult.result18 m c).symm
  · obtain ⟨a0, a1, a2, a3, a4, a5, a6, a7, a8, a9, a10, a11, a12, a13, a14⟩ := agree c
    refine ((h c).2.2.2.2.1.trans (Cert.Reference2Ideal.Read.val_main_v142_eq _)).trans ?_
    show Cert.Reference2Ideal.Read.val_main_v142 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7)) = _
    rw [a0, a6, a7, ProjRef.result_142]
    exact (ProjResult.result19 m c).symm
  · obtain ⟨a0, a1, a2, a3, a4, a5, a6, a7, a8, a9, a10, a11, a12, a13, a14⟩ := agree c
    refine ((h c).2.2.2.2.2.1.trans (Cert.Reference2Ideal.Read.val_main_v143_eq _)).trans ?_
    show Cert.Reference2Ideal.Read.val_main_v143 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg14)) = _
    rw [a0, a6, a7, a8, a9, a10, a11, a14, ProjRef.result_143]
    exact (ProjResult.result20 m c).symm

end Cert.ProjClaim

end
-- ==== Proof.SampArrays.lean ====
/- The arrays on which the sample group's projections work, at an index: what the host operations before the call leave in its operands,
   and what the call's one point sees of them. -/
module

public import proofs.«01_k».proof.Proof.Gen.Kernel3Ideal.Frame
public import proofs.«01_k».proof.Proof.ProjArrays

@[expose] public section

set_option maxRecDepth 16384

namespace Cert.SampArrays

open Idealize.ShloMosaic Idealize.ShloMosaic.TcCoe Cert.Kernel3Ideal Cert.Kernel3Ideal.Gen

variable (m : (ℓ : Loc nD τ sig) → Buf (Elt Ideal) ℓ) (c : Dev nD)

/-- The rows of the input are the sample group's tokens, sequence after sequence. -/
theorem x_rows (n : Fin 512) (d : Fin 1024) :
    V m c main_v106 (ix2 n d) = m ((c : Thread nD τ).loc main_arg0) (ix3 ⟨n / 4, by omega⟩ ⟨n % 4, by omega⟩ d) := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  pointwise

/-- The gain of the normalisation before the projections. -/
theorem gain_in (d : Fin 1024) :
    V m c main_v29 (ix2 0 d) = m ((c : Thread nD τ).loc main_arg1) (ix2 0 d) := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  pointwise

/-- The projections. -/
theorem w_in (k : Fin 1024) (j : Fin 2560) :
    V m c main_v30 (ix2 k j) = m ((c : Thread nD τ).loc main_arg2) (ix3 0 k j) := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  pointwise

/-- The gain of the layer norm. -/
theorem ln_g (d : Fin 512) :
    V m c main_v31 (ix2 0 d) = m ((c : Thread nD τ).loc main_arg3) (ix2 0 d) := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  pointwise

/-- The shift of the layer norm. -/
theorem ln_b (d : Fin 512) :
    V m c main_v32 (ix2 0 d) = m ((c : Thread nD τ).loc main_arg4) (ix2 0 d) := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  pointwise

/-- The gain of the queries, with the scores' scale in it. -/
theorem gain_q (d : Fin 512) :
    V m c main_v15 (ix2 0 d) = ProjArrays.eighth (m ((c : Thread nD τ).loc main_arg7) (ix2 0 ⟨d.val % 64, by omega⟩)) := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  pointwise
  rfl

/-- The gain of the keys. -/
theorem gain_k (d : Fin 512) :
    V m c main_v19 (ix2 0 d) = m ((c : Thread nD τ).loc main_arg8) (ix2 0 ⟨d.val % 64, by omega⟩) := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  pointwise

/-- What the host operations leave in the operand of the blocks: the same table as in the prompt group's call. -/
theorem blocks_eq : V m c main_v28 = ProjArrays.blocksOf := by
  dsimp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  rfl

/-- The matrix of blocks at an index. -/
theorem blocks (a b : Fin 512) :
    V m c main_v28 (ix2 a b) = (if a.val / 64 = b.val / 64 then Ideal.ofBits .f32 0x3C800000#32 else 0 : EReal) := by
  rw [blocks_eq]
  exact ProjArrays.blocksOf_at a b

/-- Every window shows the first block of its array. -/
theorem index_maps : ∀ t : Fin grid0.N,
    win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_11.index t = ![0, 0] ∧ win0_12.index t = ![0, 0] ∧ win0_13.index t = ![0, 0] ∧ win0_14.index t = ![0, 0] := by
  decide +kernel

/-- The call's point sees the whole of operand 0. -/
theorem blk_x (t : Fin cfg0.N) (r : Fin 512) (d : Fin 1024) : iblk m c 0 t (ix2 r d) = V m c main_v106 (ix2 r d) := by
  show V m c main_v106 (((cfg0.win 0).blk t).view.emb (ix2 r d)) = _
  have e := (index_maps t).1
  congr 1
  funext a; apply Fin.ext
  match a with
  | ⟨0, _⟩ => show win0_0.index t (0 : Fin 2) * 512 + 1 * r.val = r.val; rw [e]; simp; try omega
  | ⟨1, _⟩ => show win0_0.index t (1 : Fin 2) * 1024 + 1 * d.val = d.val; rw [e]; simp; try omega

/-- The call's point sees the whole of operand 1. -/
theorem blk_gain_in (t : Fin cfg0.N) (r : Fin 1) (d : Fin 1024) : iblk m c 1 t (ix2 r d) = V m c main_v29 (ix2 r d) := by
  show V m c main_v29 (((cfg0.win 1).blk t).view.emb (ix2 r d)) = _
  have e := (index_maps t).2.1
  congr 1
  funext a; apply Fin.ext
  match a with
  | ⟨0, _⟩ => show win0_1.index t (0 : Fin 2) * 1 + 1 * r.val = r.val; rw [e]; simp; try omega
  | ⟨1, _⟩ => show win0_1.index t (1 : Fin 2) * 1024 + 1 * d.val = d.val; rw [e]; simp; try omega

/-- The call's point sees the whole of operand 2. -/
theorem blk_w_in (t : Fin cfg0.N) (r : Fin 1024) (d : Fin 2560) : iblk m c 2 t (ix2 r d) = V m c main_v30 (ix2 r d) := by
  show V m c main_v30 (((cfg0.win 2).blk t).view.emb (ix2 r d)) = _
  have e := (index_maps t).2.2.1
  congr 1
  funext a; apply Fin.ext
  match a with
  | ⟨0, _⟩ => show win0_2.index t (0 : Fin 2) * 1024 + 1 * r.val = r.val; rw [e]; simp; try omega
  | ⟨1, _⟩ => show win0_2.index t (1 : Fin 2) * 2560 + 1 * d.val = d.val; rw [e]; simp; try omega

/-- The call's point sees the whole of operand 3. -/
theorem blk_ln_g (t : Fin cfg0.N) (r : Fin 1) (d : Fin 512) : iblk m c 3 t (ix2 r d) = V m c main_v31 (ix2 r d) := by
  show V m c main_v31 (((cfg0.win 3).blk t).view.emb (ix2 r d)) = _
  have e := (index_maps t).2.2.2.1
  congr 1
  funext a; apply Fin.ext
  match a with
  | ⟨0, _⟩ => show win0_3.index t (0 : Fin 2) * 1 + 1 * r.val = r.val; rw [e]; simp; try omega
  | ⟨1, _⟩ => show win0_3.index t (1 : Fin 2) * 512 + 1 * d.val = d.val; rw [e]; simp; try omega

/-- The call's point sees the whole of operand 4. -/
theorem blk_ln_b (t : Fin cfg0.N) (r : Fin 1) (d : Fin 512) : iblk m c 4 t (ix2 r d) = V m c main_v32 (ix2 r d) := by
  show V m c main_v32 (((cfg0.win 4).blk t).view.emb (ix2 r d)) = _
  have e := (index_maps t).2.2.2.2.1
  congr 1
  funext a; apply Fin.ext
  match a with
  | ⟨0, _⟩ => show win0_4.index t (0 : Fin 2) * 1 + 1 * r.val = r.val; rw [e]; simp; try omega
  | ⟨1, _⟩ => show win0_4.index t (1 : Fin 2) * 512 + 1 * d.val = d.val; rw [e]; simp; try omega

/-- The call's point sees the whole of operand 5. -/
theorem blk_gain_q (t : Fin cfg0.N) (r : Fin 1) (d : Fin 512) : iblk m c 5 t (ix2 r d) = V m c main_v15 (ix2 r d) := by
  show V m c main_v15 (((cfg0.win 5).blk t).view.emb (ix2 r d)) = _
  have e := (index_maps t).2.2.2.2.2.1
  congr 1
  funext a; apply Fin.ext
  match a with
  | ⟨0, _⟩ => show win0_5.index t (0 : Fin 2) * 1 + 1 * r.val = r.val; rw [e]; simp; try omega
  | ⟨1, _⟩ => show win0_5.index t (1 : Fin 2) * 512 + 1 * d.val = d.val; rw [e]; simp; try omega

/-- The call's point sees the whole of operand 6. -/
theorem blk_gain_k (t : Fin cfg0.N) (r : Fin 1) (d : Fin 512) : iblk m c 6 t (ix2 r d) = V m c main_v19 (ix2 r d) := by
  show V m c main_v19 (((cfg0.win 6).blk t).view.emb (ix2 r d)) = _
  have e := (index_maps t).2.2.2.2.2.2.1
  congr 1
  funext a; apply Fin.ext
  match a with
  | ⟨0, _⟩ => show win0_6.index t (0 : Fin 2) * 1 + 1 * r.val = r.val; rw [e]; simp; try omega
  | ⟨1, _⟩ => show win0_6.index t (1 : Fin 2) * 512 + 1 * d.val = d.val; rw [e]; simp; try omega

/-- The call's point sees the whole of operand 7. -/
theorem blk_blocks (t : Fin cfg0.N) (r : Fin 512) (d : Fin 512) : iblk m c 7 t (ix2 r d) = V m c main_v28 (ix2 r d) := by
  show V m c main_v28 (((cfg0.win 7).blk t).view.emb (ix2 r d)) = _
  have e := (index_maps t).2.2.2.2.2.2.2.1
  congr 1
  funext a; apply Fin.ext
  match a with
  | ⟨0, _⟩ => show win0_7.index t (0 : Fin 2) * 512 + 1 * r.val = r.val; rw [e]; simp; try omega
  | ⟨1, _⟩ => show win0_7.index t (1 : Fin 2) * 512 + 1 * d.val = d.val; rw [e]; simp; try omega

end Cert.SampArrays
-- ==== Proof.SampRow.lean ====
/- What the one point of the sample group's projections computes, of the call's arguments: every token's row. The terms are those of the
   prompt group's call. -/
module

public import proofs.«01_k».proof.Proof.SampArrays
public import proofs.«01_k».proof.Proof.ProjSpec
public import proofs.«01_k».proof.Proof.FeatRow

@[expose] public section

set_option maxRecDepth 16384

noncomputable section

namespace Cert.SampRow

open Idealize.ShloMosaic Idealize.ShloMosaic.TcCoe Cert.Kernel3Ideal Cert.Kernel3Ideal.Gen

section
variable (x : FVec Ideal S128x4x1024 .f32) (g : FVec Ideal S1x1024 .f32) (w : FVec Ideal S1x1024x2560 .f32)

/-- Entry `i` of projection `j` of token `n`: sequence `n / 4`, position `n % 4`. -/
def col (n : Fin 512) (j : Fin 5) (i : Fin 512) : EReal :=
  GateSpec.proj (fun d => x (ix3 ⟨n.val / 4, by omega⟩ ⟨n.val % 4, by omega⟩ d)) (fun d => g (ix2 0 d)) fun k => w (ix3 0 k ⟨512 * j.val + i.val, by omega⟩)

/-- The queries. -/
def queries (gq : FVec Ideal S1x64 .f32) (n i : Fin 512) : EReal :=
  GateSpec.head (col x g w n 2) (ProjArrays.eighth (gq (ix2 0 ⟨i.val % 64, by omega⟩))) i

/-- The keys. -/
def keys (gk : FVec Ideal S1x64 .f32) (n i : Fin 512) : EReal := GateSpec.head (col x g w n 3) (gk (ix2 0 ⟨i.val % 64, by omega⟩)) i

/-- What the gate mixes. -/
def mixed (lg lb : FVec Ideal S1x512 .f32) (n i : Fin 512) : EReal :=
  GateSpec.layer (fun i => GateSpec.gelu (col x g w n 1 i)) (fun d => lg (ix2 0 d)) (fun d => lb (ix2 0 d)) i
end

variable (m : (ℓ : Loc nD τ sig) → Buf (Elt Ideal) ℓ) (c : Dev nD) (t : Fin cfg0.N)

/-- The projections' column of the call's arguments. -/
abbrev colM := col (m ((c : Thread nD τ).loc main_arg0)) (m ((c : Thread nD τ).loc main_arg1)) (m ((c : Thread nD τ).loc main_arg2))

/-- A projection as the point computes it, with the weights `wj`. -/
abbrev zAt (wj : Vec Ideal S1024x512 .bf16) : FVec Ideal S512x512 .f32 :=
  Cert.Kernel2Ideal.Feat.proj (Cert.Kernel2Ideal.Feat.normed (View.ld (iblk m c 0 t) r0_0) (View.ld (iblk m c 1 t) r0_1)) wj

/-- A projection's row. -/
theorem z_row (j : Fin 5) (wj : Vec Ideal S1024x512 .bf16)
    (hw : ∀ (k : Fin 1024) (i : Fin 512), wj (ix2 k i) = iblk m c 2 t (ix2 k ⟨512 * j.val + i.val, by omega⟩)) (r i : Fin 512) :
    zAt m c t wj (ix2 r i) = colM m c r j i := by
  unfold zAt
  rw [Cert.Kernel2Ideal.Feat.proj_row]
  simp only [Cert.Kernel2Ideal.Feat.normed_row, hw]
  pointwise
  simp only [fun d => (SampArrays.blk_x m c t r d).trans (SampArrays.x_rows m c r d),
    fun d => (SampArrays.blk_gain_in m c t 0 d).trans (SampArrays.gain_in m c d),
    fun k j => (SampArrays.blk_w_in m c t k j).trans (SampArrays.w_in m c k j)]
  rfl

/-- The four projections that the results come from. -/
theorem z1 (r i : Fin 512) : zAt m c t (View.ld (iblk m c 2 t) r0_3) (ix2 r i) = colM m c r 1 i :=
  z_row m c t 1 _ (fun k i => by pointwise) r i
theorem z2 (r i : Fin 512) : zAt m c t (View.ld (iblk m c 2 t) r0_4) (ix2 r i) = colM m c r 2 i :=
  z_row m c t 2 _ (fun k i => by pointwise) r i
theorem z3 (r i : Fin 512) : zAt m c t (View.ld (iblk m c 2 t) r0_5) (ix2 r i) = colM m c r 3 i :=
  z_row m c t 3 _ (fun k i => by pointwise) r i
theorem z4 (r i : Fin 512) : zAt m c t (View.ld (iblk m c 2 t) r0_6) (ix2 r i) = colM m c r 4 i :=
  z_row m c t 4 _ (fun k i => by pointwise) r i

/-- The matrix of blocks at the point. -/
theorem blocks_at (a b : Fin 512) : View.ld (iblk m c 7 t) r0_8 (ix2 a b) = (if a.val / 64 = b.val / 64 then Ideal.ofBits .f32 0x3C800000#32 else 0 : EReal) := by
  pointwise
  exact (SampArrays.blk_blocks m c t a b).trans (SampArrays.blocks m c a b)

/-- The queries' buffer after the body. -/
theorem point11 (r i : Fin 512) : (dats m 0 c).after 11 t (ix2 r i)
    = queries (m ((c : Thread nD τ).loc main_arg0)) (m ((c : Thread nD τ).loc main_arg1)) (m ((c : Thread nD τ).loc main_arg2)) (m ((c : Thread nD τ).loc main_arg7)) r i := by
  rw [after0_11]
  unfold out0_11
  rw [View.canon_unit_zero (by decide)]
  show Cert.Kernel2Ideal.Feat.headNorm (zAt m c t (View.ld (iblk m c 2 t) r0_4)) (View.ld (iblk m c 7 t) r0_8) (View.ld (iblk m c 5 t) r0_7) (ix2 r i) = _
  rw [Cert.Kernel2Ideal.Feat.headNorm_row _ _ _ _ _ (blocks_at m c t)]
  pointwise
  simp only [z2, fun d => (SampArrays.blk_gain_q m c t 0 d).trans (SampArrays.gain_q m c d)]
  rfl

/-- The keys' buffer after the body. -/
theorem point12 (r i : Fin 512) : (dats m 0 c).after 12 t (ix2 r i)
    = keys (m ((c : Thread nD τ).loc main_arg0)) (m ((c : Thread nD τ).loc main_arg1)) (m ((c : Thread nD τ).loc main_arg2)) (m ((c : Thread nD τ).loc main_arg8)) r i := by
  rw [after0_12]
  unfold out0_12
  rw [View.canon_unit_zero (by decide)]
  show Cert.Kernel2Ideal.Feat.headNorm (zAt m c t (View.ld (iblk m c 2 t) r0_5)) (View.ld (iblk m c 7 t) r0_8) (View.ld (iblk m c 6 t) r0_7) (ix2 r i) = _
  rw [Cert.Kernel2Ideal.Feat.headNorm_row _ _ _ _ _ (blocks_at m c t)]
  pointwise
  simp only [z3, fun d => (SampArrays.blk_gain_k m c t 0 d).trans (SampArrays.gain_k m c d)]
  rfl

/-- The values' buffer after the body. -/
theorem point13 (r i : Fin 512) : (dats m 0 c).after 13 t (ix2 r i) = colM m c r 4 i := by
  rw [after0_13]
  unfold out0_13
  rw [View.canon_unit_zero (by decide)]
  exact z4 m c t r i

/-- The buffer of what the gate mixes, after the body. -/
theorem point14 (r i : Fin 512) : (dats m 0 c).after 14 t (ix2 r i)
    = mixed (m ((c : Thread nD τ).loc main_arg0)) (m ((c : Thread nD τ).loc main_arg1)) (m ((c : Thread nD τ).loc main_arg2))
      (m ((c : Thread nD τ).loc main_arg3)) (m ((c : Thread nD τ).loc main_arg4)) r i := by
  rw [after0_14]
  unfold out0_14
  rw [View.canon_unit_zero (by decide)]
  show Cert.Kernel2Ideal.Feat.scaled (Cert.Kernel2Ideal.Feat.centred (Cert.Kernel2Ideal.Feat.gelu (zAt m c t (View.ld (iblk m c 2 t) r0_3))))
    (View.ld (iblk m c 3 t) r0_7) (View.ld (iblk m c 4 t) r0_7) (ix2 r i) = _
  rw [Cert.Kernel2Ideal.Feat.scaled_row]
  simp only [Cert.Kernel2Ideal.Feat.gelu_row, z1]
  pointwise
  simp only [fun d => (SampArrays.blk_ln_g m c t 0 d).trans (SampArrays.ln_g m c d),
    fun d => (SampArrays.blk_ln_b m c t 0 d).trans (SampArrays.ln_b m c d)]
  rfl

end Cert.SampRow

end
-- ==== Proof.SampResult.lean ====
/- The four arrays of the sample group's projections after the run. -/
module

public import proofs.«01_k».proof.Proof.SampRow
public import proofs.«01_k».proof.Proof.Gen.Kernel3Ideal.Value

@[expose] public section

set_option maxRecDepth 16384

noncomputable section

namespace Cert.SampResult

open Idealize.ShloMosaic Idealize.ShloMosaic.TcCoe Cert.Kernel3Ideal Cert.Kernel3Ideal.Gen SampRow

variable (m : (ℓ : Loc nD τ sig) → Buf (Elt Ideal) ℓ) (c : Dev nD)

/-- The block of every result's window is its whole array. -/
theorem emb11 (t : Fin cfg0.N) (r i : Fin 512) : ((cfg0.win 11).blk t).view.emb (ix2 r i) = (ix2 r i : S512x512.Idx) := by
  have e := (SampArrays.index_maps t).2.2.2.2.2.2.2.2.1
  funext a; apply Fin.ext
  match a with
  | ⟨0, _⟩ => show win0_11.index t (0 : Fin 2) * 512 + 1 * r.val = r.val; rw [e]; simp
  | ⟨1, _⟩ => show win0_11.index t (1 : Fin 2) * 512 + 1 * i.val = i.val; rw [e]; simp
theorem emb12 (t : Fin cfg0.N) (r i : Fin 512) : ((cfg0.win 12).blk t).view.emb (ix2 r i) = (ix2 r i : S512x512.Idx) := by
  have e := (SampArrays.index_maps t).2.2.2.2.2.2.2.2.2.1
  funext a; apply Fin.ext
  match a with
  | ⟨0, _⟩ => show win0_12.index t (0 : Fin 2) * 512 + 1 * r.val = r.val; rw [e]; simp
  | ⟨1, _⟩ => show win0_12.index t (1 : Fin 2) * 512 + 1 * i.val = i.val; rw [e]; simp
theorem emb13 (t : Fin cfg0.N) (r i : Fin 512) : ((cfg0.win 13).blk t).view.emb (ix2 r i) = (ix2 r i : S512x512.Idx) := by
  have e := (SampArrays.index_maps t).2.2.2.2.2.2.2.2.2.2.1
  funext a; apply Fin.ext
  match a with
  | ⟨0, _⟩ => show win0_13.index t (0 : Fin 2) * 512 + 1 * r.val = r.val; rw [e]; simp
  | ⟨1, _⟩ => show win0_13.index t (1 : Fin 2) * 512 + 1 * i.val = i.val; rw [e]; simp
theorem emb14 (t : Fin cfg0.N) (r i : Fin 512) : ((cfg0.win 14).blk t).view.emb (ix2 r i) = (ix2 r i : S512x512.Idx) := by
  have e := (SampArrays.index_maps t).2.2.2.2.2.2.2.2.2.2.2
  funext a; apply Fin.ext
  match a with
  | ⟨0, _⟩ => show win0_14.index t (0 : Fin 2) * 512 + 1 * r.val = r.val; rw [e]; simp
  | ⟨1, _⟩ => show win0_14.index t (1 : Fin 2) * 512 + 1 * i.val = i.val; rw [e]; simp

/-- The queries. -/
theorem result11 : (dats m 0 c).arrAt 11 cfg0.N = fun i => queries (m ((c : Thread nD τ).loc main_arg0)) (m ((c : Thread nD τ).loc main_arg1)) (m ((c : Thread nD τ).loc main_arg2)) (m ((c : Thread nD τ).loc main_arg7)) (i 0) (i 1) := by
  refine (dats m 0 c).arrAt_eq_of_covers 11 _ (by decide +kernel) fun t hf y => ?_
  obtain ⟨r, i, rfl⟩ : ∃ (r i : Fin 512), y = ix2 r i := ⟨y 0, y 1, by idx_vars y⟩
  rw [emb11 t r i]
  exact point11 m c t r i

/-- The keys. -/
theorem result12 : (dats m 0 c).arrAt 12 cfg0.N = fun i => keys (m ((c : Thread nD τ).loc main_arg0)) (m ((c : Thread nD τ).loc main_arg1)) (m ((c : Thread nD τ).loc main_arg2)) (m ((c : Thread nD τ).loc main_arg8)) (i 0) (i 1) := by
  refine (dats m 0 c).arrAt_eq_of_covers 12 _ (by decide +kernel) fun t hf y => ?_
  obtain ⟨r, i, rfl⟩ : ∃ (r i : Fin 512), y = ix2 r i := ⟨y 0, y 1, by idx_vars y⟩
  rw [emb12 t r i]
  exact point12 m c t r i

/-- The values. -/
theorem result13 : (dats m 0 c).arrAt 13 cfg0.N = fun i => col (m ((c : Thread nD τ).loc main_arg0)) (m ((c : Thread nD τ).loc main_arg1)) (m ((c : Thread nD τ).loc main_arg2)) (i 0) 4 (i 1) := by
  refine (dats m 0 c).arrAt_eq_of_covers 13 _ (by decide +kernel) fun t hf y => ?_
  obtain ⟨r, i, rfl⟩ : ∃ (r i : Fin 512), y = ix2 r i := ⟨y 0, y 1, by idx_vars y⟩
  rw [emb13 t r i]
  exact point13 m c t r i

/-- What the gate mixes. -/
theorem result14 : (dats m 0 c).arrAt 14 cfg0.N = fun i => mixed (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 14 _ (by decide +kernel) fun t hf y => ?_
  obtain ⟨r, i, rfl⟩ : ∃ (r i : Fin 512), y = ix2 r i := ⟨y 0, y 1, by idx_vars y⟩
  rw [emb14 t r i]
  exact point14 m c t r i

end Cert.SampResult

end
-- ==== Proof.SampRef.lean ====
/- The results of the reference for the sample group's projections: every token's row. -/
module

public import proofs.«01_k».proof.Proof.SampResult
public import proofs.«01_k».proof.Proof.FinishRef
public import proofs.«01_k».proof.Proof.ProjRef
public import proofs.«01_k».proof.Proof.Gen.Reference3Ideal.Read

@[expose] public section

set_option maxRecDepth 16384

noncomputable section

namespace Cert.SampRef

open Idealize.ShloMosaic Cert.Reference3Ideal Cert.Reference3Ideal.Read SampRow
open Cert.FinishRef (zero_word one_word)

variable (x : FVec Ideal S128x4x1024 .f32) (g : FVec Ideal S1x1024 .f32) (w : FVec Ideal S1x1024x2560 .f32)
    (lg lb : FVec Ideal S1x512 .f32) (gq gk : FVec Ideal S1x64 .f32)

/-- Entry `i` of projection `j` of a sequence's position. -/
def colAt (b : Fin 128) (p : Fin 4) (j : Fin 5) (i : Fin 512) : EReal :=
  GateSpec.proj (fun d => x (ix3 b p d)) (fun d => g (ix2 0 d)) fun k => w (ix3 0 k ⟨512 * j.val + i.val, by omega⟩)

/-- The input's row, normalised. -/
theorem normed (b : Fin 128) (p : Fin 4) (d : Fin 1024) :
    val_main_v13 (F := Ideal) x g (ix3 b p d) = RowSpec.norm RowSpec.c1024 (fun d => x (ix3 b p d)) (fun d => g (ix2 0 d)) d := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold RowSpec.norm RowSpec.rms RowSpec.c1024 RowSpec.eps
  simp only [zero_word, zero_add]

/-- All the projections of a token. -/
theorem projected (b : Fin 128) (p : Fin 4) (j : Fin 2560) :
    val_main_v15 (F := Ideal) x g w (ix3 b p j) = GateSpec.proj (fun d => x (ix3 b p d)) (fun d => g (ix2 0 d)) (fun k => w (ix3 0 k j)) := by
  pointwise [val_main_v15, val_main_v14]
  simp only [normed]
  rfl

/-- The four projections that the results come from. -/
theorem col1 (b : Fin 128) (p : Fin 4) (i : Fin 512) : val_main_v16 (F := Ideal) x g w (ix3 b p i) = colAt x g w b p 1 i := by
  pointwise [val_main_v16]
  rw [projected]
  rfl
theorem col2 (b : Fin 128) (p : Fin 4) (i : Fin 512) : val_main_v17 (F := Ideal) x g w (ix3 b p i) = colAt x g w b p 2 i := by
  pointwise [val_main_v17]
  rw [projected]
  rfl
theorem col3 (b : Fin 128) (p : Fin 4) (i : Fin 512) : val_main_v18 (F := Ideal) x g w (ix3 b p i) = colAt x g w b p 3 i := by
  pointwise [val_main_v18]
  rw [projected]
  rfl
theorem col4 (b : Fin 128) (p : Fin 4) (i : Fin 512) : val_main_v19 (F := Ideal) x g w (ix3 b p i) = colAt x g w b p 4 i := by
  pointwise [val_main_v19]
  rw [projected]
  rfl

/-- The gelu of the gate's second half. -/
theorem gelus (b : Fin 128) (p : Fin 4) (i : Fin 512) : val_main_v32 (F := Ideal) x g w (ix3 b p i) = GateSpec.gelu (val_main_v16 (F := Ideal) x g w (ix3 b p i)) := by
  pointwise [val_main_v32, val_main_v31, val_main_v30, val_main_v29, val_main_v28, val_main_v27, val_main_v26, val_main_v25, val_main_v24, val_main_v23, val_main_v22, val_main_v21, val_main_v20, val_main_cst_2, val_main_cst_3, val_main_cst_4, val_main_cst_5]
  unfold GateSpec.gelu
  rw [mul_comm (_ * _) (val_main_v16 (F := Ideal) x g w (ix3 b p i))]

/-- The layer norm's row. -/
theorem layered (b : Fin 128) (p : Fin 4) (i : Fin 512) :
    val_main_v56 (F := Ideal) x g w lg lb (ix3 b p i)
      = GateSpec.layer (fun i => val_main_v32 (F := Ideal) x g w (ix3 b p i)) (fun d => lg (ix2 0 d)) (fun d => lb (ix2 0 d)) i := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_6, val_main_cst_7, val_main_cst_8, val_main_cst_9, val_main_cst_10]
  unfold GateSpec.layer GateSpec.centre GateSpec.mean RowSpec.c512 RowSpec.eps
  simp only [zero_word, zero_add]

/-- A token's queries. -/
theorem queried (n i : Fin 512) :
    val_main_v74 (F := Ideal) x g w gq (ix2 n i)
      = GateSpec.head (fun i => val_main_v17 (F := Ideal) x g w (ix3 ⟨n.val / 4, by omega⟩ ⟨n.val % 4, by omega⟩ i))
        (ProjArrays.eighth (gq (ix2 0 ⟨i.val % 64, by omega⟩))) i := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_cst_11, val_main_cst_12, val_main_cst_13, val_main_cst_14]
  unfold GateSpec.head GateSpec.headRms GateSpec.c64 RowSpec.eps
  simp only [zero_word, zero_add]
  unfold ProjArrays.eighth
  rw [mul_assoc, mul_assoc]

/-- A token's keys. -/
theorem keyed (n i : Fin 512) :
    val_main_v90 (F := Ideal) x g w gk (ix2 n i)
      = GateSpec.head (fun i => val_main_v18 (F := Ideal) x g w (ix3 ⟨n.val / 4, by omega⟩ ⟨n.val % 4, by omega⟩ i)) (gk (ix2 0 ⟨i.val % 64, by omega⟩)) i := by
  pointwise [val_main_v90, val_main_v89, val_main_v88, val_main_v87, val_main_v86, val_main_v85, val_main_v84, val_main_v83, val_main_v82, val_main_v81, val_main_v80, val_main_v79, val_main_v78, val_main_v77, val_main_v76, val_main_v75, val_main_cst_15, val_main_cst_16, val_main_cst_17]
  unfold GateSpec.head GateSpec.headRms GateSpec.c64 RowSpec.eps
  simp only [zero_word, zero_add]

/-- The queries. -/
theorem result_74 : val_main_v74 (F := Ideal) x g w gq = fun i => queries x g w gq (i 0) (i 1) := by
  funext i
  obtain ⟨n, k, rfl⟩ : ∃ (n k : Fin 512), i = ix2 n k := ⟨i 0, i 1, by idx_vars i⟩
  rw [queried]
  simp only [col2]
  rfl

/-- The keys. -/
theorem result_90 : val_main_v90 (F := Ideal) x g w gk = fun i => keys x g w gk (i 0) (i 1) := by
  funext i
  obtain ⟨n, k, rfl⟩ : ∃ (n k : Fin 512), i = ix2 n k := ⟨i 0, i 1, by idx_vars i⟩
  rw [keyed]
  simp only [col3]
  rfl

/-- The values. -/
theorem result_91 : val_main_v91 (F := Ideal) x g w  = fun i => col x g w (i 0) 4 (i 1) := by
  funext i
  obtain ⟨n, k, rfl⟩ : ∃ (n k : Fin 512), i = ix2 n k := ⟨i 0, i 1, by idx_vars i⟩
  pointwise [val_main_v91]
  simp only [col4]
  rfl

/-- What the gate mixes. -/
theorem result_92 : val_main_v92 (F := Ideal) x g w lg lb = fun i => mixed x g w lg lb (i 0) (i 1) := by
  funext i
  obtain ⟨n, k, rfl⟩ : ∃ (n k : Fin 512), i = ix2 n k := ⟨i 0, i 1, by idx_vars i⟩
  pointwise [val_main_v92]
  rw [layered]
  simp only [gelus, col1]
  rfl

end Cert.SampRef

end
-- ==== Proof.SampClaim.lean ====
/- The claims about the sample group's projections' call. -/
module

public import proofs.«01_k».proof.Defs
public import proofs.«01_k».proof.Proof.Gen.Kernel3
public import proofs.«01_k».proof.Proof.Gen.Kernel3.Frame
public import proofs.«01_k».proof.Proof.Gen.Reference3Ideal
public import proofs.«01_k».proof.Proof.SampRef
public import Idealize.ShloMosaic.Lib.Claim

@[expose] public section

noncomputable section

namespace Cert.SampClaim

open Idealize.ShloMosaic Idealize.SL.Sem

/-- The call leaves every semaphore at zero and its arguments unchanged. -/
theorem frame_kernel : Cert.quiescent_Kernel3 (hKernel3 := Cert.Kernel3.Gen.facts) := fun m ρ _ => Cert.Kernel3.Gen.frame m ρ

/-- So does its ideal program. -/
theorem frame_ideal : Cert.quiescent_Kernel3Ideal (hKernel3Ideal := Cert.Kernel3Ideal.Gen.facts) := fun m ρ _ => Cert.Kernel3Ideal.Gen.frame m ρ

/-- So does the reference. -/
theorem frame_reference : Cert.quiescent_Reference3Ideal (hReference3Ideal := Cert.Reference3Ideal.Gen.facts) := by
  intro m g _
  exact (θ_run _ _ _).mono (fun r h => ⟨fun c => (h c).2.2.2.2, sem_eq_zero_of_no_sems (by decide) r.2⟩) (Cert.Reference3Ideal.Value.run m g)

/-- Nothing is replaced in the ideal program. -/
theorem preserved : Cert.preserves_Kernel3_Kernel3Ideal := trivial

set_option maxHeartbeats 2000000 in -- four results, each unfolded from its buffers
/-- Kernel and reference end with the same values. -/
theorem equal : Cert.algebraic_Kernel3Ideal_Reference3Ideal (hKernel3Ideal := Cert.Kernel3Ideal.Gen.facts)
    (hReference3Ideal := Cert.Reference3Ideal.Gen.facts) := by
  intro m g m' g' _ agree
  refine ⟨fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N,
    (θ_run _ _ _).mono (fun r h c => ⟨(h c).1, (h c).2.1, (h c).2.2.1, (h c).2.2.2.1, (h c).2.2.2.2.2⟩) (Cert.Kernel3Ideal.Value.run_blocks m g), ?_⟩
  refine (θ_run _ _ _).mono (fun r h c => ⟨?_, ?_, ?_, ?_, (h c).2.2.2.2⟩) (Cert.Reference3Ideal.Value.run m' g')
  · obtain ⟨a0, a1, a2, a3, a4, a5, a6, a7, a8, a9⟩ := agree c
    refine ((h c).1.trans (Cert.Reference3Ideal.Read.val_main_v74_eq _ _)).trans ?_
    show Cert.Reference3Ideal.Read.val_main_v74 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg7)) = _
    rw [a0, a1, a2, a7, SampRef.result_74]
    exact (SampResult.result11 m c).symm
  · obtain ⟨a0, a1, a2, a3, a4, a5, a6, a7, a8, a9⟩ := agree c
    refine ((h c).2.1.trans (Cert.Reference3Ideal.Read.val_main_v90_eq _ _ _ _)).trans ?_
    show Cert.Reference3Ideal.Read.val_main_v90 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg8)) = _
    rw [a0, a1, a2, a8, SampRef.result_90]
    exact (SampResult.result12 m c).symm
  · obtain ⟨a0, a1, a2, a3, a4, a5, a6, a7, a8, a9⟩ := agree c
    refine ((h c).2.2.1.trans (Cert.Reference3Ideal.Read.val_main_v91_eq _ _ _)).trans ?_
    show Cert.Reference3Ideal.Read.val_main_v91 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) = _
    rw [a0, a1, a2, SampRef.result_91]
    exact (SampResult.result13 m c).symm
  · obtain ⟨a0, a1, a2, a3, a4, a5, a6, a7, a8, a9⟩ := agree c
    refine ((h c).2.2.2.1.trans (Cert.Reference3Ideal.Read.val_main_v92_eq _ _)).trans ?_
    show Cert.Reference3Ideal.Read.val_main_v92 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) = _
    rw [a0, a1, a2, a3, a4, SampRef.result_92]
    exact (SampResult.result14 m c).symm

end Cert.SampClaim

end
-- ==== Proof.Mix.lean ====
/- The mathematics of the mixture of branches, over the extended reals: sums with finite nonnegative coefficients, the
   softmax weights under any choice of the subtracted numbers, and the positions at which a dilated branch looks. -/
module

public import Idealize.ShloMosaic.Lib.Pointwise

@[expose] public section

noncomputable section

namespace Cert.Mix

open Idealize.ShloMosaic

/-- A nonnegative number times a sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A sum of numbers is a number. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum with finite nonnegative coefficients, scaled by a nonnegative number. -/
theorem scale_sum {ι : Type} (s : Finset ι) (c : ℝ) (hc : 0 ≤ c) (a : ι → ℝ) (x : ι → EReal) :
    (∑ i ∈ s, (a i : EReal) * x i) * (c : EReal) = ∑ i ∈ s, ((a i * c : ℝ) : EReal) * x i := by
  rw [mul_comm, mul_sum s c hc]
  refine Finset.sum_congr rfl fun i _ => ?_
  rw [← mul_assoc, ← EReal.coe_mul, mul_comm c]

/-- The place of a key: position `p` of the `A` cached keys, or of the new keys from `A` on. -/
def place {α : Type} {A : ℕ} (old : Fin A → α) (new : Fin 4 → α) (p : ℕ) (h : p < A + 4) : α :=
  if h' : p < A then old ⟨p, h'⟩ else new ⟨p - A, by omega⟩

/-- Query `t` of a branch of dilation `δ` looks at position `p`: it is a multiple of `δ`, at most 128 of them, before the query. -/
def looks (A δ t p : ℕ) : Prop := ∃ j : Fin 129, p + δ * j.val = A + t

instance (A δ t p : ℕ) : Decidable (looks A δ t p) := by unfold looks; infer_instance

/-- The sum over all positions at which a branch looks, cached and new, is the sum over the branch's 129 steps. -/
theorem sum_looks {M : Type} [AddCommMonoid M] (A δ t : ℕ) (hδ : 0 < δ) (hδ' : δ * 128 ≤ A) (ht : t < 4) (f : Fin A → M) (g : Fin 4 → M) :
    (∑ l : Fin A, if looks A δ t l.val then f l else 0) + (∑ u : Fin 4, if looks A δ t (A + u.val) then g u else 0)
      = ∑ j : Fin 129, place f g (A + t - δ * j.val) (by omega) := by
  have bound : ∀ j : Fin 129, δ * j.val ≤ A := fun j =>
    (Nat.mul_le_mul_left δ (Nat.le_of_lt_succ j.isLt)).trans hδ'
  let F : Fin (A + 4) → M := fun p => place f g p.val p.isLt
  have e : (∑ l : Fin A, if looks A δ t l.val then f l else 0) + (∑ u : Fin 4, if looks A δ t (A + u.val) then g u else 0)
      = ∑ p : Fin (A + 4), if looks A δ t p.val then F p else 0 := by
    rw [Fin.sum_univ_add]
    congr 1
    · refine Finset.sum_congr rfl fun l _ => ?_
      have : F (Fin.castAdd 4 l) = f l := by
        show place f g l.val _ = _
        unfold place
        rw [dif_pos l.isLt]
      simp only [this, Fin.val_castAdd]
    · refine Finset.sum_congr rfl fun u _ => ?_
      have : F (Fin.natAdd A u) = g u := by
        show place f g (A + u.val) _ = _
        unfold place
        rw [dif_neg (by omega)]
        congr 1
        exact Fin.ext (by simp)
      simp only [this, Fin.val_natAdd]
  rw [e, ← Finset.sum_filter]
  symm
  refine Finset.sum_bij (fun j _ => (⟨A + t - δ * j.val, by omega⟩ : Fin (A + 4))) ?_ ?_ ?_ ?_
  · intro j _
    rw [Finset.mem_filter]
    exact ⟨Finset.mem_univ _, j, by have := bound j; simp only; omega⟩
  · intro j _ j' _ h
    have h' := congrArg Fin.val h
    simp only at h'
    have b := bound j
    have b' := bound j'
    have : δ * j.val = δ * j'.val := by omega
    exact Fin.ext (Nat.eq_of_mul_eq_mul_left hδ this)
  · intro p hp
    obtain ⟨j, hj⟩ := (Finset.mem_filter.mp hp).2
    exact ⟨j, Finset.mem_univ _, Fin.ext (by simp only; omega)⟩
  · intro j _
    rfl

end Cert.Mix

end
-- ==== Proof.Soft.lean ====
/- Softmax arithmetic over the extended reals: powers of two of scaled numbers, and quantities known to be numbers. -/
module

public import proofs.«01_k».proof.Proof.Mix

@[expose] public section

noncomputable section

namespace Cert.Soft

open Idealize.ShloMosaic

/-- The exact base-two logarithm of e. -/
def lg : ℝ := (Real.log 2)⁻¹

theorem lg_pos : 0 < lg := inv_pos.mpr (Real.log_pos (by norm_num))

theorem two_rpow (y : ℝ) : Real.rpow 2 (lg * y) = Real.exp y := by
  have h : Real.log 2 ≠ 0 := (Real.log_pos (by norm_num)).ne'
  show (2 : ℝ) ^ (lg * y) = _
  rw [Real.rpow_def_of_pos (by norm_num), lg, mul_inv_cancel_left₀ h]

/-- The weight of a score against a subtracted number. -/
theorem exp2_sub (x μ : ℝ) : Ideal.exp2 (((lg * x : ℝ) : EReal) - ((lg * μ : ℝ) : EReal)) = ((Real.exp (x - μ) : ℝ) : EReal) := by
  rw [← EReal.coe_sub, Ideal.exp2_coe, ← mul_sub, two_rpow]

/-- The weight of a masked score is zero. -/
theorem exp2_bot_sub (y : ℝ) : Ideal.exp2 ((⊥ : EReal) - (y : EReal)) = 0 := by
  rw [EReal.bot_sub, Ideal.exp2_bot]

theorem exp_sub (x μ : ℝ) : Ideal.exp ((x : EReal) - (μ : EReal)) = ((Real.exp (x - μ) : ℝ) : EReal) := by
  rw [← EReal.coe_sub, Ideal.exp_coe]

/-- A quantity that is a number. -/
def IsNum (x : EReal) : Prop := ∃ r : ℝ, x = (r : EReal)

theorem IsNum.coe (r : ℝ) : IsNum (r : EReal) := ⟨r, rfl⟩

theorem IsNum.scaled {x : EReal} (h : IsNum x) : ∃ μ : ℝ, x = ((lg * μ : ℝ) : EReal) := by
  obtain ⟨r, rfl⟩ := h
  exact ⟨lg⁻¹ * r, by rw [mul_inv_cancel_left₀ lg_pos.ne']⟩

theorem isNum_iff (x : EReal) : IsNum x ↔ x ≠ ⊥ ∧ x ≠ ⊤ := by
  constructor
  · rintro ⟨r, rfl⟩
    exact ⟨EReal.coe_ne_bot r, EReal.coe_ne_top r⟩
  · rintro ⟨a, b⟩
    exact ⟨x.toReal, (EReal.coe_toReal b a).symm⟩

theorem IsNum.max {x y : EReal} (hx : IsNum x) (hy : IsNum y) : IsNum (max x y) := by
  rcases max_choice x y with h | h <;> rw [h] <;> assumption

/-- The larger of a number and something that is no infinity above. -/
theorem IsNum.max_of_ne_top {x y : EReal} (hx : IsNum x) (hy : y ≠ ⊤) : IsNum (x ⊔ y) := by
  rw [isNum_iff] at *
  refine ⟨fun h => hx.1 (le_bot_iff.mp (h ▸ le_sup_left)), ?_⟩
  rcases max_choice x y with h | h <;> rw [h]
  · exact hx.2
  · exact hy

/-- A running maximum from minus infinity of terms below plus infinity is below plus infinity. -/
theorem fold_ne_top {ι : Type} (s : Finset ι) (f : ι → EReal) (h : ∀ i ∈ s, f i ≠ ⊤) : Finset.fold max ⊥ f s ≠ ⊤ := by
  classical
  induction s using Finset.induction_on with
  | empty => simp
  | insert a s ha ih =>
    rw [Finset.fold_insert ha]
    have h1 := h a (Finset.mem_insert_self a s)
    have h2 := ih fun i hi => h i (Finset.mem_insert_of_mem hi)
    rcases max_choice (f a) (Finset.fold max ⊥ f s) with e | e <;> rw [e] <;> assumption

/-- It is a number when one of the terms is. -/
theorem fold_isNum {ι : Type} (s : Finset ι) (f : ι → EReal) (h : ∀ i ∈ s, f i ≠ ⊤) (i : ι) (hi : i ∈ s) (hn : IsNum (f i)) :
    IsNum (Finset.fold max ⊥ f s) := by
  rw [isNum_iff] at *
  refine ⟨fun e => hn.1 (le_bot_iff.mp ?_), fold_ne_top s f h⟩
  rw [← e]
  exact (Finset.le_fold_max (f i)).mpr (Or.inr ⟨i, hi, le_refl _⟩)

end Cert.Soft

end
-- ==== Proof.Finite.lean ====
/- The precondition read back: every query, every key and every cached key is a number. -/
module

public import proofs.«01_k».proof.Defs
public import proofs.«01_k».proof.Proof.Soft
public import Idealize.ShloMosaic.Lib.ReduceAll

@[expose] public section

set_option maxRecDepth 16384

noncomputable section

namespace Cert.Pre_finite_scores

open Idealize.ShloMosaic Cert.Soft

/-- The side conditions the predicate's operations take. -/
theorem facts : Facts where
  bcast_S_S128x4x8x64 := by decide
  reducesTo_S128x4x8x64_S_d0_1_2_3 := by decide
  h_S_ := by decide
  bcast_S_S1x128x2048x8x64 := by decide
  reducesTo_S1x128x2048x8x64_S_d0_1_2_3_4 := by decide

attribute [instance] facts

theorem infinity_lit : Ideal.ofBits .f32 0x7F800000#32 = ⊤ := by simp [Ideal.ofBits, Ideal.ieee]

/-- An entry whose absolute value is below infinity is a number. -/
theorem isNum_of_lt (x : EReal) (h : Ideal.cmp .olt (max x (-x)) (Ideal.ofBits .f32 0x7F800000#32) = 1#1) : IsNum x := by
  rw [infinity_lit] at h
  rw [isNum_iff]
  constructor <;> rintro rfl <;> simp [Ideal.cmp] at h

instance : Subsingleton S_.Idx := ⟨fun a b => funext fun i => i.elim0⟩

/-- What the predicate says of the queries, the keys and the cached keys. -/
theorem entries (x0 : FVec Ideal S8x2048x1024 .f32) (x1 : FVec Ideal S16384x512 .bf16) (x2 : FVec Ideal S8x4x2048x128 .f32)
    (x3 x4 x5 : FVec Ideal S128x4x8x64 .f32) (x6 x7 : FVec Ideal S1x128x2048x8x64 .f32) (x8 : FVec Ideal S1x512 .f32)
    (x9 : FVec Ideal S1x1024x1024 .f32) (x10 : FVec Ideal S1x1024 .f32) (x11 x12 : FVec Ideal S1x1024x2816 .f32)
    (x13 : FVec Ideal S1x2816x1024 .f32) (h : fn (F := Ideal) x0 x1 x2 x3 x4 x5 x6 x7 x8 x9 x10 x11 x12 x13 = fun _ => 1#1) :
    (∀ i, IsNum (x3 i)) ∧ (∀ i, IsNum (x4 i)) ∧ (∀ i, IsNum (x6 i)) := by
  have e := congrFun h (fun a => a.elim0)
  simp only [fn, andi] at e
  obtain ⟨e12, e3⟩ := IntOp.andi_eq_one.1 e
  obtain ⟨e1, e2⟩ := IntOp.andi_eq_one.1 e12
  exact ⟨fun i => isNum_of_lt _ (Host.reduce_andi_all _ _ _ _ _ e1 i), fun i => isNum_of_lt _ (Host.reduce_andi_all _ _ _ _ _ e2 i),
    fun i => isNum_of_lt _ (Host.reduce_andi_all _ _ _ _ _ e3 i)⟩

/-- The precondition at a device. -/
theorem of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    (∀ i : S128x4x8x64.Idx, IsNum ((m ((c.tc : Thread Cert.KernelIdeal.nD Cert.KernelIdeal.τ).loc Cert.KernelIdeal.main_arg3) : FVec Ideal S128x4x8x64 .f32) i))
    ∧ (∀ i : S128x4x8x64.Idx, IsNum ((m ((c.tc : Thread Cert.KernelIdeal.nD Cert.KernelIdeal.τ).loc Cert.KernelIdeal.main_arg4) : FVec Ideal S128x4x8x64 .f32) i))
    ∧ (∀ i : S1x128x2048x8x64.Idx,
      IsNum ((m ((c.tc : Thread Cert.KernelIdeal.nD Cert.KernelIdeal.τ).loc Cert.KernelIdeal.main_arg6) : FVec Ideal S1x128x2048x8x64 .f32) i)) :=
  entries _ _ _ _ _ _ _ _ _ _ _ _ _ _ (h c)

end Cert.Pre_finite_scores

end
-- ==== Proof.HeadTerm.lean ====
module

public import proofs.«01_k».proof.Proof.Gen.KernelIdeal.Skeleton

/-! One head of the sample attention as the kernel's body computes it, written once as vector operations.
    The body computes fourteen heads a step with the same operations; each of its stores is one of these terms. -/

@[expose] public section

noncomputable section

namespace Cert.KernelIdeal.Head

open Cert.KernelIdeal Cert.KernelIdeal.Gen Idealize.ShloMosaic Idealize.ShloMosaic.TcCoe

variable {F : FTy → Type} [FloatOps F] [Named F]

/-- The row number of the sixteen score rows. -/
def rowNo : IVec S16x1 32 := iota .tc S16x1 32 [0] iota_S16x1_d0_w32

/-- The rows whose number is `n`. -/
def rowIs (n : BitVec 32) : IVec S16x1 1 := cmpi .eq rowNo (broadcast S16x1 n)

/-- The twelve rows that stand for a branch and a query; the last four are padding. -/
def real : IVec S16x1 1 := cmpi .slt rowNo (broadcast S16x1 12#32)

/-- The rows that attend to the first new key. -/
def sees0 : IVec S16x1 1 := ori (ori (ori (ori (ori (rowIs 0#32) (rowIs 1#32)) (rowIs 2#32)) (rowIs 3#32)) (rowIs 4#32)) (rowIs 8#32)

/-- The rows that attend to the second new key. -/
def sees1 : IVec S16x1 1 := ori (ori (ori (ori (rowIs 1#32) (rowIs 2#32)) (rowIs 3#32)) (rowIs 5#32)) (rowIs 9#32)

/-- The rows that attend to the third new key. -/
def sees2 : IVec S16x1 1 := ori (ori (ori (rowIs 2#32) (rowIs 3#32)) (rowIs 6#32)) (rowIs 10#32)

/-- The rows that attend to the fourth new key. -/
def sees3 : IVec S16x1 1 := ori (ori (rowIs 3#32) (rowIs 7#32)) (rowIs 11#32)

/-- The scalar minus infinity in every row. -/
def minusInf : FVec F S16x1 .f32 := broadcast S16x1 (Scalar.ofBits .f32 0xFF800000#32)

/-- The scalar zero in every row. -/
def zeros : FVec F S16x1 .f32 := broadcast S16x1 (Scalar.ofBits .f32 0x00000000#32)

/-- The queries times the named constant. -/
def scaled (Q : Vec F S1x8x64 .f32) : FVec F S8x64 .f32 :=
  mulf (shapeCast S8x64 Q shapeCasts_S1x8x64_S8x64) (broadcast S8x64 (Named.named κ "log2_e" 0x3FB8AA3B#32))

/-- The products of the scaled queries and the cached keys. -/
def products (Q : Vec F S1x8x64 .f32) (KT : Vec F S1x64x2048 .f32) : FVec F S8x2048 .f32 :=
  matmul dot_S8x64_S64x2048_S8x2048_1_0_0_1_n_n none (truncf .bf16 (scaled Q) bitsLt_bf16_f32)
    (truncf .bf16 (shapeCast S64x2048 KT shapeCasts_S1x64x2048_S64x2048) bitsLt_bf16_f32) (constant S8x2048 .f32 0x00000000#32)

/-- The scores of the sixteen rows against the cache: minus infinity where the mask is off. -/
def scores (valid : IVec S16x2048 1) (Q : Vec F S1x8x64 .f32) (KT : Vec F S1x64x2048 .f32) : FVec F S16x2048 .f32 :=
  select valid
    (concatenate S16x2048 0 [⟨S8x2048, addf (products Q KT) (dynamicRotate 0 4#32 none (products Q KT) rotates_S8x2048_d0)⟩,
      ⟨S8x2048, products Q KT⟩] concatenates_S8x2048_S8x2048_S16x2048_d0)
    (broadcast S16x2048 (Scalar.ofBits .f32 0xFF800000#32))

/-- Where the mask is on. -/
def valid (MK : Vec F S16x2048 .f32) : IVec S16x2048 1 := cmpf .ogt MK (broadcast S16x2048 (Scalar.ofBits .f32 0x3F000000#32))

/-- The scaled queries row by row of the sixteen. -/
def queries (Q : Vec F S1x8x64 .f32) : FVec F S16x64 .f32 :=
  concatenate S16x64 0 [⟨S8x64, addf (scaled Q) (dynamicRotate 0 4#32 none (scaled Q) rotates_S8x64_d0)⟩, ⟨S8x64, scaled Q⟩]
    concatenates_S8x64_S8x64_S16x64_d0

/-- One new row (a key or a value) as a one-row matrix. -/
def new0 (K : Vec F S1x8x64 .f32) : FVec F S1x64 .f32 :=
  extractStridedSlice S1x64 ![0, 0] (shapeCast S8x64 K shapeCasts_S1x8x64_S8x64) slices_S8x64_o0_0_S1x64
/-- The second new row. -/
def new1 (K : Vec F S1x8x64 .f32) : FVec F S1x64 .f32 :=
  extractStridedSlice S1x64 ![1, 0] (shapeCast S8x64 K shapeCasts_S1x8x64_S8x64) slices_S8x64_o1_0_S1x64
/-- The third new row. -/
def new2 (K : Vec F S1x8x64 .f32) : FVec F S1x64 .f32 :=
  extractStridedSlice S1x64 ![2, 0] (shapeCast S8x64 K shapeCasts_S1x8x64_S8x64) slices_S8x64_o2_0_S1x64
/-- The fourth new row. -/
def new3 (K : Vec F S1x8x64 .f32) : FVec F S1x64 .f32 :=
  extractStridedSlice S1x64 ![3, 0] (shapeCast S8x64 K shapeCasts_S1x8x64_S8x64) slices_S8x64_o3_0_S1x64

/-- The scores of the rows against one new key: minus infinity at a row that does not attend to it. -/
def newScore (sel : IVec S16x1 1) (Q : Vec F S1x8x64 .f32) (kn : FVec F S1x64 .f32) : FVec F S16x1 .f32 :=
  select sel (shapeCast S16x1 (multiReduction .add [1] S16 (mulf (queries Q) (broadcastTo S16x64 kn broadcasts_S1x64_S16x64))
    0x00000000#32 reduces_S16x64_S16 (.inl rfl) rfl) shapeCasts_S16_S16x1) minusInf

/-- The cached scores without the leading axis. -/
def flat (SC : Vec F S1x16x2048 .f32) : FVec F S16x2048 .f32 := shapeCast S16x2048 SC shapeCasts_S1x16x2048_S16x2048

/-- The largest score of each row; zero at a padding row. -/
def rowMax (SC : Vec F S1x16x2048 .f32) (n0 n1 n2 n3 : FVec F S16x1 .f32) : FVec F S16x1 .f32 :=
  select real (maximumf (maximumf (maximumf (maximumf (shapeCast S16x1
    (multiReduction .maximumf [1] S16 (flat SC) 0xFF800000#32 reduces_S16x2048_S16 (.inl rfl) rfl) shapeCasts_S16_S16x1) n0) n1) n2) n3) zeros

/-- The weights of the cached keys against the row's largest score. -/
def probs (SC : Vec F S1x16x2048 .f32) (M : FVec F S16x1 .f32) : FVec F S16x2048 .f32 :=
  exp2 (subf (flat SC) (broadcastTo S16x2048 M broadcasts_S16x1_S16x2048))

/-- The weight of a new key against the row's largest score. -/
def newProb (n M : FVec F S16x1 .f32) : FVec F S16x1 .f32 := exp2 (subf n M)

/-- The sum of a row's weights. -/
def total (P : FVec F S16x2048 .f32) (p0 p1 p2 p3 : FVec F S16x1 .f32) : FVec F S16x1 .f32 :=
  addf (shapeCast S16x1 (multiReduction .add [1] S16 P 0x00000000#32 reduces_S16x2048_S16 (.inl rfl) rfl) shapeCasts_S16_S16x1)
    (addf (addf (addf (addf zeros p0) p1) p2) p3)

/-- The row's largest score, a large negative number at a padding row. -/
def maxEff (M : FVec F S16x1 .f32) : FVec F S16x1 .f32 := select real M (broadcast S16x1 (Scalar.ofBits .f32 0xF149F2CA#32))

/-- The largest of the four rows that are congruent modulo four. -/
def maxAll (E : FVec F S16x1 .f32) : FVec F S16x1 .f32 :=
  maximumf (maximumf (maximumf E (dynamicRotate 0 4#32 none E rotates_S16x1_d0)) (dynamicRotate 0 8#32 none E rotates_S16x1_d0))
    (dynamicRotate 0 12#32 none E rotates_S16x1_d0)

/-- The factor that brings a row's weights to the common largest score. -/
def factor (M : FVec F S16x1 .f32) : FVec F S16x1 .f32 := exp2 (subf (maxEff M) (maxAll (maxEff M)))

/-- The sum of a column's four congruent rows. -/
def sumAll (E : FVec F S16x1 .f32) : FVec F S16x1 .f32 :=
  addf (addf (addf E (dynamicRotate 0 4#32 none E rotates_S16x1_d0)) (dynamicRotate 0 8#32 none E rotates_S16x1_d0))
    (dynamicRotate 0 12#32 none E rotates_S16x1_d0)

/-- What each row's weights are multiplied with: the factor over the sum of the three branches' totals. -/
def weight (M L : FVec F S16x1 .f32) : FVec F S16x1 .f32 :=
  select real (divf (factor M) (sumAll (mulf (factor M) (select real L zeros)))) zeros

/-- One new value row's contribution added. -/
def addNew (O : FVec F S16x64 .f32) (pw : FVec F S16x1 .f32) (vn : FVec F S1x64 .f32) : FVec F S16x64 .f32 :=
  addf O (mulf (broadcastTo S16x64 pw broadcasts_S16x1_S16x64) (broadcastTo S16x64 vn broadcasts_S1x64_S16x64))

/-- The cached values' contribution. -/
def cached (PC : Vec F S1x16x2048 .bf16) (VT : Vec F S1x64x2048 .f32) (W : FVec F S16x1 .f32) : FVec F S16x64 .f32 :=
  mulf (matmul dot_S16x2048_S64x2048_S16x64_1_1_0_0_n_n none (shapeCast S16x2048 PC shapeCasts_S1x16x2048_S16x2048)
    (truncf .bf16 (shapeCast S64x2048 VT shapeCasts_S1x64x2048_S64x2048) bitsLt_bf16_f32) (constant S16x64 .f32 0x00000000#32))
    (broadcastTo S16x64 W broadcasts_S16x1_S16x64)

/-- The sum of the four congruent rows of the output. -/
def gather (O : FVec F S16x64 .f32) : FVec F S16x64 .f32 :=
  addf (addf (addf O (dynamicRotate 0 4#32 none O rotates_S16x64_d0)) (dynamicRotate 0 8#32 none O rotates_S16x64_d0))
    (dynamicRotate 0 12#32 none O rotates_S16x64_d0)

section
variable (Q K : Vec F S1x8x64 .f32) (SC : Vec F S1x16x2048 .f32)

/-- The rows' scores against the four new keys. -/
def s0 : FVec F S16x1 .f32 := newScore sees0 Q (new0 K)
/-- Against the second. -/
def s1 : FVec F S16x1 .f32 := newScore sees1 Q (new1 K)
/-- Against the third. -/
def s2 : FVec F S16x1 .f32 := newScore sees2 Q (new2 K)
/-- Against the fourth. -/
def s3 : FVec F S16x1 .f32 := newScore sees3 Q (new3 K)

/-- The rows' largest scores. -/
def mx : FVec F S16x1 .f32 := rowMax SC (s0 Q K) (s1 Q K) (s2 Q K) (s3 Q K)

/-- The stored weights of the cached keys. -/
def stored : FVec F S1x16x2048 .bf16 :=
  shapeCast S1x16x2048 (truncf .bf16 (probs SC (mx Q K SC)) bitsLt_bf16_f32) shapeCasts_S16x2048_S1x16x2048

/-- The rows' totals. -/
def tot : FVec F S16x1 .f32 :=
  total (probs SC (mx Q K SC)) (newProb (s0 Q K) (mx Q K SC)) (newProb (s1 Q K) (mx Q K SC)) (newProb (s2 Q K) (mx Q K SC))
    (newProb (s3 Q K) (mx Q K SC))

/-- The rows' weights. -/
def wt : FVec F S16x1 .f32 := weight (mx Q K SC) (tot Q K SC)

/-- One head's sixteen output rows, from the stored scores and the stored weights. -/
def out (V : Vec F S1x8x64 .f32) (PC : Vec F S1x16x2048 .bf16) (VT : Vec F S1x64x2048 .f32) : FVec F S1x16x64 .f32 :=
  shapeCast S1x16x64 (gather (addNew (addNew (addNew (addNew (cached PC VT (wt Q K SC))
    (mulf (newProb (s0 Q K) (mx Q K SC)) (wt Q K SC)) (new0 V))
    (mulf (newProb (s1 Q K) (mx Q K SC)) (wt Q K SC)) (new1 V))
    (mulf (newProb (s2 Q K) (mx Q K SC)) (wt Q K SC)) (new2 V))
    (mulf (newProb (s3 Q K) (mx Q K SC)) (wt Q K SC)) (new3 V))) shapeCasts_S16x64_S1x16x64
end

/-- The scores as the body stores them. -/
def storedScores (MK : Vec F S16x2048 .f32) (Q : Vec F S1x8x64 .f32) (KT : Vec F S1x64x2048 .f32) : FVec F S1x16x2048 .f32 :=
  shapeCast S1x16x2048 (scores (valid MK) Q KT) shapeCasts_S16x2048_S1x16x2048

end Cert.KernelIdeal.Head

end
-- ==== Proof.Pieces.lean ====
module

public import proofs.«01_k».proof.Proof.Gen.KernelIdeal.Frame
public import proofs.«01_k».proof.Proof.HeadTerm

/-! The attention stores of the kernel's body, as one family over the fourteen heads of a step. -/

@[expose] public section

set_option maxRecDepth 16384

noncomputable section

namespace Cert.KernelIdeal.Head

open Cert.KernelIdeal Cert.KernelIdeal.Gen Idealize.ShloMosaic Idealize.ShloMosaic.TcCoe

variable {F : FTy → Type} [FloatOps F] [Named F]

/-- The heads in the order of the list: the last stored first. -/
def order : List (Fin 14) := [13, 12, 11, 10, 9, 8, 7, 6, 5, 4, 3, 2, 1, 0]

/-- Head `h` of a block of fourteen lies inside it. -/
theorem inbHead {a b : ℕ} (h : Fin 14) (i : Fin 3) : (![h.val, 0, 0] : Fin 3 → ℕ) i + (![1, a, b] : Fin 3 → ℕ) i ≤ (![14, a, b] : Fin 3 → ℕ) i := by
  have := h.isLt
  fin_cases i <;> simp <;> omega

/-- Part `i` of the new rows lies inside the block. -/
theorem inbPart (p : Fin 3) (i : Fin 4) : (![0, p.val, 0, 0] : Fin 4 → ℕ) i + (![14, 1, 8, 64] : Fin 4 → ℕ) i ≤ (![14, 3, 8, 64] : Fin 4 → ℕ) i := by
  have := p.isLt
  fin_cases i <;> simp <;> omega

/-- The rectangle of head `h` in the block of scores. -/
def rectS (h : Fin 14) : Rect S14x16x2048 := Rect.unit ![h.val, 0, 0] S1x16x2048.size (inbHead h)
/-- The rectangle of head `h` in the cache block. -/
def rectC (h : Fin 14) : Rect S14x64x2048 := Rect.unit ![h.val, 0, 0] S1x64x2048.size (inbHead h)
/-- The rectangle of head `h` in the block of new rows. -/
def rectN (h : Fin 14) : Rect S14x8x64 := Rect.unit ![h.val, 0, 0] S1x8x64.size (inbHead h)
/-- The rectangle of head `h` in the output block. -/
def rectO (h : Fin 14) : Rect S14x16x64 := Rect.unit ![h.val, 0, 0] S1x16x64.size (inbHead h)
/-- The rectangle of part `p` (queries, keys or values) of the new rows. -/
def rectP (p : Fin 3) : Rect S14x3x8x64 := Rect.unit ![0, p.val, 0, 0] S14x1x8x64.size (inbPart p)

section
variable (arg10 : Memref sig .tc .vmem S14x3x8x64 .f32) (harg10 : arg10.IsWhole)
  (arg11 : Memref sig .tc .vmem S14x64x2048 .f32) (harg11 : arg11.IsWhole)
  (arg12 : Memref sig .tc .vmem S14x64x2048 .f32) (harg12 : arg12.IsWhole)
  (arg13 : Memref sig .tc .vmem S16x2048 .f32) (harg13 : arg13.IsWhole)
  (arg16 : Memref sig .tc .vmem S14x16x2048 .f32) (arg17 : Memref sig .tc .vmem S14x16x2048 .bf16)
  (x9 : Vec F S14x3x8x64 .f32) (x10 : Vec F S14x64x2048 .f32) (x11 : Vec F S14x64x2048 .f32) (x12 : Vec F S16x2048 .f32)

/-- The load of head `h` of part `p` of the new rows. -/
def loadN (p : Fin 3) (h : Fin 14) : Vec F S1x8x64 .f32 :=
  View.readAt (Elt F) ((arg10.slice (rectP p) (fun _ => rfl)).squeeze S14x8x64 squeezes_S14x1x8x64_S14x8x64).view (rectN h).toLoadRect
    (harg10.unread x9)

/-- The load of head `h` of a cache block. -/
def loadC (h : Fin 14) : Vec F S1x64x2048 .f32 := View.readAt (Elt F) arg11.view (rectC h).toLoadRect (harg11.unread x10)

/-- The load of the mask. -/
def loadM : Vec F S16x2048 .f32 :=
  View.readAt (Elt F) arg13.view (Rect.unit ![0, 0] S16x2048.size inb_S16x2048_S16x2048_0_0).toLoadRect (harg13.unread x12)

/-- The stores of the scores. -/
def listS : List (View.Piece (Elt F) S14x16x2048 .f32) :=
  order.map fun h => ⟨rectS h, storedScores (loadM arg13 harg13 x12) (loadN arg10 harg10 x9 0 h) (loadC arg11 harg11 x10 h)⟩

/-- The load of head `h`'s scores. -/
def loadS (h : Fin 14) : Vec F S1x16x2048 .f32 :=
  arg16.view.readCov (listS arg10 harg10 arg11 harg11 arg13 harg13 x9 x10 x12) (rectS h).toLoadRect

/-- The stores of the weights. -/
def listP : List (View.Piece (Elt F) S14x16x2048 .bf16) :=
  order.map fun h => ⟨rectS h, stored (loadN arg10 harg10 x9 0 h) (loadN arg10 harg10 x9 1 h)
    (loadS arg10 harg10 arg11 harg11 arg13 harg13 arg16 x9 x10 x12 h)⟩

/-- The load of head `h`'s weights. -/
def loadP (h : Fin 14) : Vec F S1x16x2048 .bf16 :=
  arg17.view.readCov (listP arg10 harg10 arg11 harg11 arg13 harg13 arg16 x9 x10 x12) (rectS h).toLoadRect

/-- The stores of the output. -/
def listO : List (View.Piece (Elt F) S14x16x64 .f32) :=
  order.map fun h => ⟨rectO h, out (loadN arg10 harg10 x9 0 h) (loadN arg10 harg10 x9 1 h)
    (loadS arg10 harg10 arg11 harg11 arg13 harg13 arg16 x9 x10 x12 h) (loadN arg10 harg10 x9 2 h)
    (loadP arg10 harg10 arg11 harg11 arg13 harg13 arg16 arg17 x9 x10 x12 h) (loadC arg12 harg12 x11 h)⟩
end

/-- The body's stores into the attention output are the fourteen heads' terms. -/
theorem pieces14 (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S1x4x256x128 .f32) (harg3 : arg3.IsWhole) (arg4 : Memref sig .tc .vmem S1x512 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S14x3x8x64 .f32) (harg10 : arg10.IsWhole) (arg11 : Memref sig .tc .vmem S14x64x2048 .f32) (harg11 : arg11.IsWhole) (arg12 : Memref sig .tc .vmem S14x64x2048 .f32) (harg12 : arg12.IsWhole) (arg13 : Memref sig .tc .vmem S16x2048 .f32) (harg13 : arg13.IsWhole) (arg14 : Memref sig .tc .vmem S256x1024 .f32) (harg14 : arg14.IsWhole) (arg15 : Memref sig .tc .vmem S14x16x64 .f32) (harg15 : arg15.IsWhole) (arg16 : Memref sig .tc .vmem S14x16x2048 .f32) (harg16 : arg16.IsWhole) (arg17 : Memref sig .tc .vmem S14x16x2048 .bf16) (harg17 : arg17.IsWhole)
    (x0 : Vec F S256x1024 .f32) (x1 : Vec F S256x512 .bf16) (x2 : Vec F S1x4x256x128 .f32) (x3 : Vec F S1x512 .f32) (x4 : Vec F S1024x1024 .bf16) (x5 : Vec F S1x1024 .f32) (x6 : Vec F S1024x2816 .bf16) (x7 : Vec F S1024x2816 .bf16) (x8 : Vec F S2816x1024 .bf16) (x9 : Vec F S14x3x8x64 .f32) (x10 : Vec F S14x64x2048 .f32) (x11 : Vec F S14x64x2048 .f32) (x12 : Vec F S16x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12).2.1
      = listO arg10 harg10 arg11 harg11 arg12 harg12 arg13 harg13 arg16 arg17 x9 x10 x11 x12 := by
  rfl

end Cert.KernelIdeal.Head

end
-- ==== Proof.HeadLoads.lean ====
/- The loads of the sample attention read entry by entry: from the blocks, and from what the body itself stored. -/
module

public import proofs.«01_k».proof.Proof.Pieces
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe

section
variable (arg10 : Memref sig .tc .vmem S14x3x8x64 .f32) (harg10 : arg10.IsWhole)
  (arg11 : Memref sig .tc .vmem S14x64x2048 .f32) (harg11 : arg11.IsWhole)
  (arg12 : Memref sig .tc .vmem S14x64x2048 .f32) (harg12 : arg12.IsWhole)
  (arg13 : Memref sig .tc .vmem S16x2048 .f32) (harg13 : arg13.IsWhole)
  (arg16 : Memref sig .tc .vmem S14x16x2048 .f32) (arg17 : Memref sig .tc .vmem S14x16x2048 .bf16)
  (x9 : Vec Ideal S14x3x8x64 .f32) (x10 : Vec Ideal S14x64x2048 .f32) (x11 : Vec Ideal S14x64x2048 .f32) (x12 : Vec Ideal S16x2048 .f32)

theorem embN (h : Fin 14) (t : Fin 8) (d : Fin 64) : (rectN h).emb (ix3 0 t d) = ix3 h t d := by
  funext a
  fin_cases a
  · exact Fin.ext (by show h.val + 1 * 0 = h.val; omega)
  · exact Fin.ext (by show 0 + 1 * t.val = t.val; omega)
  · exact Fin.ext (by show 0 + 1 * d.val = d.val; omega)

theorem embP (p : Fin 3) (h : Fin 14) (t : Fin 8) (d : Fin 64) : (rectP p).emb (ix4 h 0 t d) = ix4 h p t d := by
  funext a
  fin_cases a
  · exact Fin.ext (by show 0 + 1 * h.val = h.val; omega)
  · exact Fin.ext (by show p.val + 1 * 0 = p.val; omega)
  · exact Fin.ext (by show 0 + 1 * t.val = t.val; omega)
  · exact Fin.ext (by show 0 + 1 * d.val = d.val; omega)

theorem squeezed (Y : Vec Ideal S14x1x8x64 .f32) (h : Fin 14) (t : Fin 8) (d : Fin 64) :
    shapeCast S14x8x64 Y squeezes_S14x1x8x64_S14x8x64.numel_eq (ix3 h t d) = Y (ix4 h 0 t d) := by
  pointwise

theorem loadN_apply (p : Fin 3) (h : Fin 14) (t : Fin 8) (d : Fin 64) : loadN arg10 harg10 x9 p h (ix3 0 t d) = x9 (ix4 h p t d) := by
  show shapeCast S14x8x64 (fun i : S14x1x8x64.Idx => View.read (Elt Ideal) arg10.view (harg10.unread x9) ((rectP p).emb i))
    squeezes_S14x1x8x64_S14x8x64.numel_eq ((rectN h).emb (ix3 0 t d)) = _
  rw [Memref.IsWhole.read_unread, embN, squeezed, embP]

theorem loadC_apply (h : Fin 14) (d : Fin 64) (l : Fin 2048) : loadC arg11 harg11 x10 h (ix3 0 d l) = x10 (ix3 h d l) := by
  unfold loadC
  simp only [View.readAt_eq_ld, Memref.IsWhole.read_unread]
  pointwise [rectC]

theorem loadM_apply (r : Fin 16) (l : Fin 2048) : loadM arg13 harg13 x12 (ix2 r l) = x12 (ix2 r l) := by
  unfold loadM
  simp only [View.readAt_eq_ld, Memref.IsWhole.read_unread]
  pointwise

theorem mem_order (h : Fin 14) : h ∈ order := by revert h; decide

theorem embS (h : Fin 14) (r : Fin 16) (l : Fin 2048) : (rectS h).emb (ix3 0 r l) = ix3 h r l := by
  funext a
  fin_cases a
  · exact Fin.ext (by show h.val + 1 * 0 = h.val; omega)
  · exact Fin.ext (by show 0 + 1 * r.val = r.val; omega)
  · exact Fin.ext (by show 0 + 1 * l.val = l.val; omega)

theorem embO (h : Fin 14) (r : Fin 16) (l : Fin 64) : (rectO h).emb (ix3 0 r l) = ix3 h r l := by
  funext a
  fin_cases a
  · exact Fin.ext (by show h.val + 1 * 0 = h.val; omega)
  · exact Fin.ext (by show 0 + 1 * r.val = r.val; omega)
  · exact Fin.ext (by show 0 + 1 * l.val = l.val; omega)

/-- What the fourteen stores of a block of scores leave, at an entry. -/
theorem canonS {e : EltTy} (f : Fin 14 → Vec Ideal S1x16x2048 e) (h : Fin 14) (r : Fin 16) (l : Fin 2048) :
    View.canon (order.map fun h => (⟨rectS h, f h⟩ : View.Piece (Elt Ideal) S14x16x2048 e)) (ix3 h r l) = f h (ix3 0 r l) := by
  refine View.canon_apply_of_pieces (fun y => f (y 0) (ix3 0 (y 1) (y 2))) _ ?_ (ix3 h r l) ?_
  · intro p hp x
    obtain ⟨h', _, rfl⟩ := List.mem_map.mp hp
    obtain ⟨r', l', rfl⟩ : ∃ (r' : Fin 16) (l' : Fin 2048), x = ix3 0 r' l' := ⟨x 1, x 2, by idx_vars x; rw [Subsingleton.elim x0 0]⟩
    show f h' (ix3 0 r' l') = f (((rectS h').emb (ix3 0 r' l')) 0) (ix3 0 (((rectS h').emb (ix3 0 r' l')) 1) (((rectS h').emb (ix3 0 r' l')) 2))
    rw [embS]
    rfl
  · refine ⟨_, List.mem_map.mpr ⟨h, mem_order h, rfl⟩, ?_⟩
    rw [← embS]
    exact LoadRect.idx_mem _ _

/-- What the fourteen stores of a block of outputs leave, at an entry. -/
theorem canonO {e : EltTy} (f : Fin 14 → Vec Ideal S1x16x64 e) (h : Fin 14) (r : Fin 16) (l : Fin 64) :
    View.canon (order.map fun h => (⟨rectO h, f h⟩ : View.Piece (Elt Ideal) S14x16x64 e)) (ix3 h r l) = f h (ix3 0 r l) := by
  refine View.canon_apply_of_pieces (fun y => f (y 0) (ix3 0 (y 1) (y 2))) _ ?_ (ix3 h r l) ?_
  · intro p hp x
    obtain ⟨h', _, rfl⟩ := List.mem_map.mp hp
    obtain ⟨r', l', rfl⟩ : ∃ (r' : Fin 16) (l' : Fin 64), x = ix3 0 r' l' := ⟨x 1, x 2, by idx_vars x; rw [Subsingleton.elim x0 0]⟩
    show f h' (ix3 0 r' l') = f (((rectO h').emb (ix3 0 r' l')) 0) (ix3 0 (((rectO h').emb (ix3 0 r' l')) 1) (((rectO h').emb (ix3 0 r' l')) 2))
    rw [embO]
    rfl
  · refine ⟨_, List.mem_map.mpr ⟨h, mem_order h, rfl⟩, ?_⟩
    rw [← embO]
    exact LoadRect.idx_mem _ _

theorem loadS_apply (h : Fin 14) (r : Fin 16) (l : Fin 2048) :
    loadS arg10 harg10 arg11 harg11 arg13 harg13 arg16 x9 x10 x12 h (ix3 0 r l)
      = storedScores (loadM arg13 harg13 x12) (loadN arg10 harg10 x9 0 h) (loadC arg11 harg11 x10 h) (ix3 0 r l) := by
  unfold loadS
  rw [View.readCov_eq_canon']
  refine (congrArg _ (embS h r l)).trans ?_
  unfold listS
  rw [canonS]

theorem loadP_apply (h : Fin 14) (r : Fin 16) (l : Fin 2048) :
    loadP arg10 harg10 arg11 harg11 arg13 harg13 arg16 arg17 x9 x10 x12 h (ix3 0 r l)
      = stored (loadN arg10 harg10 x9 0 h) (loadN arg10 harg10 x9 1 h)
          (loadS arg10 harg10 arg11 harg11 arg13 harg13 arg16 x9 x10 x12 h) (ix3 0 r l) := by
  unfold loadP
  rw [View.readCov_eq_canon']
  refine (congrArg _ (embS h r l)).trans ?_
  unfold listP
  rw [canonS]
end

end Cert.KernelIdeal.Head

end
-- ==== Proof.HeadRow.lean ====
/- One head of the sample attention read entry by entry: the scores of a row and the weights, for finite queries and keys. -/
module

public import proofs.«01_k».proof.Proof.HeadTerm
public import proofs.«01_k».proof.Proof.Soft

@[expose] public section

set_option maxRecDepth 16384

noncomputable section

namespace Cert.KernelIdeal.Head

open Cert.KernelIdeal Cert.KernelIdeal.Gen Idealize.ShloMosaic Idealize.ShloMosaic.TcCoe Cert.Soft Cert.Mix

/-- The dilation of a branch. -/
def dil (b : Fin 3) : ℕ := ![1, 4, 16] b

/-- The row of branch `b` and query `t`; branch three stands for the padding rows. -/
def row (b t : Fin 4) : Fin 16 := ⟨4 * b.val + t.val, by omega⟩

/-- A branch among the four groups of rows. -/
def up (b : Fin 3) : Fin 4 := ⟨b.val, by omega⟩

theorem named_lg : Named.named (F := Ideal) (φ := .f32) κ "log2_e" 0x3FB8AA3B#32 = ((lg : ℝ) : EReal) :=
  IdealRules.named_const.ideal_named_scalar _ _ _ _ rfl

theorem minus_infinity : Ideal.ofBits .f32 4286578688#32 = ⊥ := by simp [Ideal.ofBits, Ideal.ieee]

theorem zero_lit : Ideal.ofBits .f32 0#32 = 0 := by simp [Ideal.ofBits, Ideal.ieee]

theorem floor_isNum : IsNum (Ideal.ofBits .f32 4048155338#32) := by
  rw [isNum_iff]
  constructor <;> simp [Ideal.ofBits, Ideal.ieee, ← EReal.coe_mul]

theorem real_row : ∀ b t : Fin 4, real (ix2 (row b t) 0) = if b.val < 3 then 1#1 else 0#1 := by decide +kernel
theorem sees0_row : ∀ (b : Fin 3) (t : Fin 4), sees0 (ix2 (row (up b) t) 0) = if looks 2048 (dil b) t.val (2048 + (0 : Fin 4).val) then 1#1 else 0#1 := by
  decide +kernel
theorem sees1_row : ∀ (b : Fin 3) (t : Fin 4), sees1 (ix2 (row (up b) t) 0) = if looks 2048 (dil b) t.val (2048 + (1 : Fin 4).val) then 1#1 else 0#1 := by
  decide +kernel
theorem sees2_row : ∀ (b : Fin 3) (t : Fin 4), sees2 (ix2 (row (up b) t) 0) = if looks 2048 (dil b) t.val (2048 + (2 : Fin 4).val) then 1#1 else 0#1 := by
  decide +kernel
theorem sees3_row : ∀ (b : Fin 3) (t : Fin 4), sees3 (ix2 (row (up b) t) 0) = if looks 2048 (dil b) t.val (2048 + (3 : Fin 4).val) then 1#1 else 0#1 := by
  decide +kernel

variable (Q K V : Vec Ideal S1x8x64 .f32) (KT VT : Vec Ideal S1x64x2048 .f32) (MK : Vec Ideal S16x2048 .f32)
  (SC : Vec Ideal S1x16x2048 .f32) (PC : Vec Ideal S1x16x2048 .bf16)
variable (q k : Fin 4 → Fin 64 → ℝ) (ck : Fin 64 → Fin 2048 → ℝ)

/-- The score of a query against a cached key. -/
def old (t : Fin 4) (l : Fin 2048) : ℝ := ∑ d, q t d * ck d l
/-- The score of a query against a new key. -/
def new (t u : Fin 4) : ℝ := ∑ d, q t d * k u d

/-- The queries' block holds the four queries and padding. -/
structure IsQ : Prop where
  lo : ∀ (r : Fin 8) (t : Fin 4) (d : Fin 64), r.val = t.val → Q (ix3 0 r d) = ((q t d : ℝ) : EReal)
  hi : ∀ (r : Fin 8) (d : Fin 64), 4 ≤ r.val → Q (ix3 0 r d) = 0

variable {Q K V KT VT MK SC PC q k ck}

theorem sum_cached (h : IsQ Q q) (hKT : ∀ d l, KT (ix3 0 d l) = ((ck d l : ℝ) : EReal)) (r : Fin 8) (t : Fin 4) (e : r.val = t.val) (l : Fin 2048) :
    ∑ x, Q (ix3 0 r x) * ((lg : ℝ) : EReal) * KT (ix3 0 x l) = ((lg * old q ck t l : ℝ) : EReal) := by
  simp only [h.lo r t _ e, hKT, ← EReal.coe_mul, coe_sum]
  congr 1
  rw [old, Finset.mul_sum]
  exact Finset.sum_congr rfl fun _ _ => by ring

theorem sum_pad (h : IsQ Q q) (r : Fin 8) (e : 4 ≤ r.val) (l : Fin 2048) :
    ∑ x, Q (ix3 0 r x) * ((lg : ℝ) : EReal) * KT (ix3 0 x l) = 0 :=
  Finset.sum_eq_zero fun x _ => by rw [h.hi r x e, zero_mul, zero_mul]

/-- The stored score of a branch's row against a cached key. -/
theorem scores_row (h : IsQ Q q) (hKT : ∀ d l, KT (ix3 0 d l) = ((ck d l : ℝ) : EReal))
    (hM : ∀ (b : Fin 3) (t : Fin 4) (l : Fin 2048), Ideal.ofBits .f32 1056964608#32 < MK (ix2 (row (up b) t) l) ↔ looks 2048 (dil b) t.val l.val)
    (b : Fin 3) (t : Fin 4) (l : Fin 2048) :
    storedScores MK Q KT (ix3 0 (row (up b) t) l) = if looks 2048 (dil b) t.val l.val then ((lg * old q ck t l : ℝ) : EReal) else ⊥ := by
  pointwise [storedScores, scores, valid, products, scaled]
  rw [named_lg, minus_infinity]
  refine if_congr (hM b t l) ?_ rfl
  have e : (row (up b) t).val = 4 * b.val + t.val := rfl
  split_ifs with h1
  · by_cases h0 : b.val = 0
    · rw [sum_cached h hKT _ t (by simp only; omega), sum_pad h _ (by simp only; omega), add_zero]
    · rw [sum_pad h _ (by simp only; omega), sum_cached h hKT _ t (by simp only; omega), zero_add]
  · rw [sum_cached h hKT _ t (by simp only; omega)]
  · rename_i hn
    exact absurd rfl hn

theorem scaled_apply (r : Fin 8) (d : Fin 64) : scaled Q (ix2 r d) = Q (ix3 0 r d) * ((lg : ℝ) : EReal) := by
  pointwise [scaled]
  rw [named_lg]

/-- The scaled query of a branch's row. -/
theorem queries_row (h : IsQ Q q) (b : Fin 3) (t : Fin 4) (d : Fin 64) :
    queries Q (ix2 (row (up b) t) d) = ((q t d * lg : ℝ) : EReal) := by
  pointwise [queries]
  simp only [scaled_apply]
  have e : (row (up b) t).val = 4 * b.val + t.val := rfl
  split_ifs with h1
  · by_cases h0 : b.val = 0
    · rw [h.lo _ t _ (by simp only; omega), h.hi _ _ (by simp only; omega), zero_mul, add_zero, EReal.coe_mul]
    · rw [h.hi _ _ (by simp only; omega), h.lo _ t _ (by simp only; omega), zero_mul, zero_add, EReal.coe_mul]
  · rw [h.lo _ t _ (by simp only; omega), EReal.coe_mul]
  · rename_i hn
    exact absurd rfl hn

theorem newScore_row (h : IsQ Q q) (sel : IVec S16x1 1) (kn : FVec Ideal S1x64 .f32) (u : Fin 4) (hkn : ∀ d, kn (ix2 0 d) = ((k u d : ℝ) : EReal))
    (b : Fin 3) (t : Fin 4) (hs : sel (ix2 (row (up b) t) 0) = if looks 2048 (dil b) t.val (2048 + u.val) then 1#1 else 0#1) :
    newScore sel Q kn (ix2 (row (up b) t) 0)
      = if looks 2048 (dil b) t.val (2048 + u.val) then ((lg * new q k t u : ℝ) : EReal) else ⊥ := by
  pointwise [newScore, minusInf]
  rw [minus_infinity, hs]
  split_ifs with hl
  · show (∑ x : Fin 64, queries Q (ix2 (row (up b) t) x) * kn (ix2 0 x)) = _
    simp only [queries_row h, hkn, ← EReal.coe_mul, coe_sum]
    congr 1
    rw [new, Finset.mul_sum]
    exact Finset.sum_congr rfl fun _ _ => by ring
  · rfl

section
variable (h : IsQ Q q) (hK : ∀ (r : Fin 8) (u : Fin 4) (d : Fin 64), r.val = u.val → K (ix3 0 r d) = ((k u d : ℝ) : EReal))
include h hK

theorem s0_row (b : Fin 3) (t : Fin 4) : s0 Q K (ix2 (row (up b) t) 0)
    = if looks 2048 (dil b) t.val (2048 + (0 : Fin 4).val) then ((lg * new q k t 0 : ℝ) : EReal) else ⊥ :=
  newScore_row h _ _ 0 (fun d => by pointwise [new0]; exact hK _ 0 d rfl) b t (sees0_row b t)
theorem s1_row (b : Fin 3) (t : Fin 4) : s1 Q K (ix2 (row (up b) t) 0)
    = if looks 2048 (dil b) t.val (2048 + (1 : Fin 4).val) then ((lg * new q k t 1 : ℝ) : EReal) else ⊥ :=
  newScore_row h _ _ 1 (fun d => by pointwise [new1]; exact hK _ 1 d rfl) b t (sees1_row b t)
theorem s2_row (b : Fin 3) (t : Fin 4) : s2 Q K (ix2 (row (up b) t) 0)
    = if looks 2048 (dil b) t.val (2048 + (2 : Fin 4).val) then ((lg * new q k t 2 : ℝ) : EReal) else ⊥ :=
  newScore_row h _ _ 2 (fun d => by pointwise [new2]; exact hK _ 2 d rfl) b t (sees2_row b t)
theorem s3_row (b : Fin 3) (t : Fin 4) : s3 Q K (ix2 (row (up b) t) 0)
    = if looks 2048 (dil b) t.val (2048 + (3 : Fin 4).val) then ((lg * new q k t 3 : ℝ) : EReal) else ⊥ :=
  newScore_row h _ _ 3 (fun d => by pointwise [new3]; exact hK _ 3 d rfl) b t (sees3_row b t)
end

end Cert.KernelIdeal.Head

end
-- ==== Proof.HeadOut.lean ====
/- One head of the sample attention read entry by entry: the softmax over the three branches and the output row. -/
module

public import proofs.«01_k».proof.Proof.HeadRow

@[expose] public section

set_option maxRecDepth 16384

noncomputable section

namespace Cert.KernelIdeal.Head

open Cert.KernelIdeal Cert.KernelIdeal.Gen Idealize.ShloMosaic Idealize.ShloMosaic.TcCoe Cert.Soft Cert.Mix

theorem dil_pos : ∀ b : Fin 3, 0 < dil b := by decide
theorem dil_le : ∀ b : Fin 3, dil b * 128 ≤ 2048 := by decide

/-- The position of step `j` of branch `b` for query `t`. -/
def pos (b : Fin 3) (t : Fin 4) (j : Fin 129) : ℕ := 2048 + t.val - dil b * j.val

theorem pos_lt (b : Fin 3) (t : Fin 4) (j : Fin 129) : pos b t j < 2048 + 4 := by unfold pos; omega

theorem place_map {α β : Type} {A : ℕ} (φ : α → β) (f : Fin A → α) (g : Fin 4 → α) (p : ℕ) (h : p < A + 4) :
    place (fun l => φ (f l)) (fun u => φ (g u)) p h = φ (place f g p h) := by
  unfold place
  split_ifs <;> rfl

section
variable (q k : Fin 4 → Fin 64 → ℝ) (ck : Fin 64 → Fin 2048 → ℝ)

/-- The weight of a step before the division. -/
def raw (b : Fin 3) (t : Fin 4) (j : Fin 129) : ℝ :=
  place (fun l => Real.exp (old q ck t l)) (fun u => Real.exp (new q k t u)) (pos b t j) (pos_lt b t j)

/-- The sum of a branch's weights. -/
def branch (b : Fin 3) (t : Fin 4) : ℝ := ∑ j, raw q k ck b t j

/-- The sum of all weights. -/
def whole (t : Fin 4) : ℝ := ∑ b, branch q k ck b t

/-- The sample group's attention at a query and an entry: the softmax over the three branches' steps, the repeated steps counted as often
    as they occur. -/
def att (vn : Fin 4 → EReal) (vc : Fin 2048 → EReal) (t : Fin 4) : EReal :=
  ∑ b : Fin 3, ∑ j : Fin 129, ((raw q k ck b t j / whole q k ck t : ℝ) : EReal) * place vc vn (pos b t j) (pos_lt b t j)

theorem raw_pos (b : Fin 3) (t : Fin 4) (j : Fin 129) : 0 < raw q k ck b t j := by
  unfold raw place
  split_ifs <;> exact Real.exp_pos _

theorem branch_pos (b : Fin 3) (t : Fin 4) : 0 < branch q k ck b t :=
  Finset.sum_pos (fun j _ => raw_pos q k ck b t j) ⟨0, Finset.mem_univ _⟩

theorem whole_pos (t : Fin 4) : 0 < whole q k ck t :=
  Finset.sum_pos (fun b _ => branch_pos q k ck b t) ⟨0, Finset.mem_univ _⟩
end

theorem rot4 : ∀ (b t : Fin 4), ((row b t).val + 16 - 4) % 16 = (row (b + 3) t).val := by decide
theorem rot8 : ∀ (b t : Fin 4), ((row b t).val + 16 - 8) % 16 = (row (b + 2) t).val := by decide
theorem rot12 : ∀ (b t : Fin 4), ((row b t).val + 16 - 12) % 16 = (row (b + 1) t).val := by decide

theorem rot_sum (g : Fin 4 → EReal) : ∀ b : Fin 4, g b + g (b + 3) + g (b + 2) + g (b + 1) = g 0 + g 1 + g 2 + g 3
  | 0 => by show g 0 + g 3 + g 2 + g 1 = _; ac_rfl
  | 1 => by show g 1 + g 0 + g 3 + g 2 = _; ac_rfl
  | 2 => by show g 2 + g 1 + g 0 + g 3 = _; ac_rfl
  | 3 => by show g 3 + g 2 + g 1 + g 0 = _; ac_rfl

theorem rot_max (g : Fin 4 → EReal) : ∀ b : Fin 4, max (max (max (g b) (g (b + 3))) (g (b + 2))) (g (b + 1)) = max (max (max (g 0) (g 1)) (g 2)) (g 3)
  | 0 => by show max (max (max (g 0) (g 3)) (g 2)) (g 1) = _; ac_rfl
  | 1 => by show max (max (max (g 1) (g 0)) (g 3)) (g 2) = _; ac_rfl
  | 2 => by show max (max (max (g 2) (g 1)) (g 0)) (g 3) = _; ac_rfl
  | 3 => by show max (max (max (g 3) (g 2)) (g 1)) (g 0) = _; ac_rfl

theorem sumAll_row (E : FVec Ideal S16x1 .f32) (b t : Fin 4) : sumAll E (ix2 (row b t) 0) = ∑ c : Fin 4, E (ix2 (row c t) 0) := by
  pointwise [sumAll]
  simp only [rot4, rot8, rot12]
  rw [Fin.sum_univ_four]
  exact rot_sum (fun c => E (ix2 (row c t) 0)) b

theorem maxAll_row (E : FVec Ideal S16x1 .f32) (b t : Fin 4) :
    maxAll E (ix2 (row b t) 0) = max (max (max (E (ix2 (row 0 t) 0)) (E (ix2 (row 1 t) 0))) (E (ix2 (row 2 t) 0))) (E (ix2 (row 3 t) 0)) := by
  pointwise [maxAll]
  simp only [rot4, rot8, rot12]
  exact rot_max (fun c => E (ix2 (row c t) 0)) b

variable {Q K V : Vec Ideal S1x8x64 .f32} {KT VT : Vec Ideal S1x64x2048 .f32}
  {SC : Vec Ideal S1x16x2048 .f32} {PC : Vec Ideal S1x16x2048 .bf16}
variable {q k : Fin 4 → Fin 64 → ℝ} {ck : Fin 64 → Fin 2048 → ℝ}

theorem ite_ne_top (p : Prop) [Decidable p] (x : ℝ) : (if p then (x : EReal) else ⊥) ≠ ⊤ := by
  split_ifs
  · exact EReal.coe_ne_top x
  · exact bot_ne_top

theorem zeros_apply (r : Fin 16) : (zeros : FVec Ideal S16x1 .f32) (ix2 r 0) = 0 := by
  pointwise [zeros]

theorem real_up (b : Fin 3) (t : Fin 4) : real (ix2 (row (up b) t) 0) = 1#1 := (real_row (up b) t).trans (if_pos b.isLt)
theorem real_pad (t : Fin 4) : real (ix2 (row 3 t) 0) = 0#1 := (real_row 3 t).trans (if_neg (by decide))

theorem flat_apply (r : Fin 16) (l : Fin 2048) : flat SC (ix2 r l) = SC (ix3 0 r l) := by
  pointwise [flat]

theorem newProb_row (n M : FVec Ideal S16x1 .f32) (r : Fin 16) (p : Prop) [Decidable p] (x μ : ℝ) (hμ : M (ix2 r 0) = ((lg * μ : ℝ) : EReal))
    (hn : n (ix2 r 0) = if p then ((lg * x : ℝ) : EReal) else ⊥) :
    newProb n M (ix2 r 0) = ((if p then Real.exp (x - μ) else 0 : ℝ) : EReal) := by
  pointwise [newProb]
  rw [hμ, hn]
  split_ifs
  · exact exp2_sub x μ
  · rw [EReal.coe_zero]
    exact exp2_bot_sub _

theorem probs_row (hSC : ∀ (b : Fin 3) (t : Fin 4) (l : Fin 2048),
      SC (ix3 0 (row (up b) t) l) = if looks 2048 (dil b) t.val l.val then ((lg * old q ck t l : ℝ) : EReal) else ⊥)
    (M : FVec Ideal S16x1 .f32) (b : Fin 3) (t : Fin 4) (μ : ℝ) (hμ : M (ix2 (row (up b) t) 0) = ((lg * μ : ℝ) : EReal)) (l : Fin 2048) :
    probs SC M (ix2 (row (up b) t) l) = ((if looks 2048 (dil b) t.val l.val then Real.exp (old q ck t l - μ) else 0 : ℝ) : EReal) := by
  pointwise [probs]
  rw [flat_apply, hμ, hSC]
  split_ifs
  · exact exp2_sub _ μ
  · rw [EReal.coe_zero]
    exact exp2_bot_sub _

section
variable (h : IsQ Q q) (hK : ∀ (r : Fin 8) (u : Fin 4) (d : Fin 64), r.val = u.val → K (ix3 0 r d) = ((k u d : ℝ) : EReal))
  (hSC : ∀ (b : Fin 3) (t : Fin 4) (l : Fin 2048),
    SC (ix3 0 (row (up b) t) l) = if looks 2048 (dil b) t.val l.val then ((lg * old q ck t l : ℝ) : EReal) else ⊥)
include h hK hSC

/-- A branch's row has a finite largest score. -/
theorem mx_row (b : Fin 3) (t : Fin 4) : ∃ μ : ℝ, mx Q K SC (ix2 (row (up b) t) 0) = ((lg * μ : ℝ) : EReal) := by
  apply IsNum.scaled
  pointwise [mx, rowMax]
  rw [real_up, minus_infinity, s0_row h hK, s1_row h hK, s2_row h hK, s3_row h hK]
  simp only [flat_apply, hSC]
  show IsNum (max _ _)
  have hd : dil b * 4 ≤ 64 := by fin_cases b <;> decide
  have hd' : t.val < dil b * 4 := by have := dil_pos b; omega
  refine IsNum.max_of_ne_top (IsNum.max_of_ne_top (IsNum.max_of_ne_top (IsNum.max_of_ne_top (fold_isNum _ _ (fun l _ => ite_ne_top _ _)
    ⟨2048 + t.val - dil b * 4, by omega⟩ (Finset.mem_univ _) ?_) (ite_ne_top _ _)) (ite_ne_top _ _)) (ite_ne_top _ _)) (ite_ne_top _ _)
  rw [if_pos ⟨⟨4, by omega⟩, by simp only; omega⟩]
  exact IsNum.coe _

/-- The total of a branch's row. -/
theorem tot_row (b : Fin 3) (t : Fin 4) (μ : ℝ) (hμ : mx Q K SC (ix2 (row (up b) t) 0) = ((lg * μ : ℝ) : EReal)) :
    tot Q K SC (ix2 (row (up b) t) 0) = ((Real.exp (-μ) * branch q k ck b t : ℝ) : EReal) := by
  have e : ∀ x : ℝ, Real.exp (x - μ) = Real.exp (-μ) * Real.exp x := fun x => by rw [← Real.exp_add]; congr 1; ring
  pointwise [tot, total]
  simp only [probs_row hSC _ b t μ hμ, newProb_row _ _ _ _ _ μ hμ (s0_row h hK b t), newProb_row _ _ _ _ _ μ hμ (s1_row h hK b t),
    newProb_row _ _ _ _ _ μ hμ (s2_row h hK b t), newProb_row _ _ _ _ _ μ hμ (s3_row h hK b t)]
  rw [zeros_apply, zero_add, coe_sum, ← EReal.coe_add, ← EReal.coe_add, ← EReal.coe_add, ← EReal.coe_add]
  congr 1
  have key := sum_looks 2048 (dil b) t.val (dil_pos b) (dil_le b) t.isLt (fun l => Real.exp (old q ck t l - μ)) (fun u => Real.exp (new q k t u - μ))
  rw [Fin.sum_univ_four] at key
  refine key.trans ?_
  rw [branch, Finset.mul_sum]
  refine Finset.sum_congr rfl fun j _ => ?_
  simp only [e]
  exact place_map (fun x => Real.exp (-μ) * x) _ _ _ _

theorem factor_row (t : Fin 4) : ∃ m : ℝ, ∀ (b : Fin 3) (μ : ℝ), mx Q K SC (ix2 (row (up b) t) 0) = ((lg * μ : ℝ) : EReal) →
    factor (mx Q K SC) (ix2 (row (up b) t) 0) = ((Real.exp (μ - m) : ℝ) : EReal) := by
  have eff : ∀ b : Fin 3, maxEff (mx Q K SC) (ix2 (row (up b) t) 0) = mx Q K SC (ix2 (row (up b) t) 0) := fun b => by
    pointwise [maxEff]
    rw [real_up]
    rfl
  have eff3 : maxEff (mx Q K SC) (ix2 (row 3 t) 0) = Ideal.ofBits .f32 4048155338#32 := by
    pointwise [maxEff]
    rw [real_pad]
    rfl
  have num : ∀ b : Fin 3, IsNum (maxEff (mx Q K SC) (ix2 (row (up b) t) 0)) := fun b => by
    obtain ⟨μ, hμ⟩ := mx_row h hK hSC b t
    rw [eff, hμ]
    exact IsNum.coe _
  have num3 : IsNum (maxEff (mx Q K SC) (ix2 (row 3 t) 0)) := eff3 ▸ floor_isNum
  obtain ⟨m, hm⟩ := (((num 0).max (num 1)).max (num 2)).max num3 |>.scaled
  refine ⟨m, fun b μ hμ => ?_⟩
  pointwise [factor]
  rw [maxAll_row, eff b, hμ]
  show Ideal.exp2 (_ - max (max (max (maxEff (mx Q K SC) (ix2 (row (up 0) t) 0)) (maxEff (mx Q K SC) (ix2 (row (up 1) t) 0)))
    (maxEff (mx Q K SC) (ix2 (row (up 2) t) 0))) (maxEff (mx Q K SC) (ix2 (row 3 t) 0))) = _
  rw [hm]
  exact exp2_sub μ m

/-- What a branch's row is weighted with. -/
theorem wt_row (b : Fin 3) (t : Fin 4) (μ : ℝ) (hμ : mx Q K SC (ix2 (row (up b) t) 0) = ((lg * μ : ℝ) : EReal)) :
    wt Q K SC (ix2 (row (up b) t) 0) = ((Real.exp μ / whole q k ck t : ℝ) : EReal) := by
  obtain ⟨m, hm⟩ := factor_row h hK hSC t
  pointwise [wt, weight]
  rw [real_up, sumAll_row, Fin.sum_univ_four]
  have term : ∀ b : Fin 3, mulf (factor (mx Q K SC)) (select real (tot Q K SC) zeros) (ix2 (row (up b) t) 0)
      = ((Real.exp (-m) * branch q k ck b t : ℝ) : EReal) := fun b => by
    obtain ⟨ν, hν⟩ := mx_row h hK hSC b t
    pointwise
    rw [real_up, hm b ν hν, tot_row h hK hSC b t ν hν]
    show ((Real.exp (ν - m) : ℝ) : EReal) * ((Real.exp (-ν) * branch q k ck b t : ℝ) : EReal) = _
    rw [← EReal.coe_mul, ← mul_assoc, ← Real.exp_add]
    congr 3
    ring
  have term3 : mulf (factor (mx Q K SC)) (select real (tot Q K SC) zeros) (ix2 (row 3 t) 0) = 0 := by
    pointwise
    rw [real_pad, zeros_apply]
    exact mul_zero _
  have all : mulf (factor (mx Q K SC)) (select real (tot Q K SC) zeros) (ix2 (row 0 t) 0)
      + mulf (factor (mx Q K SC)) (select real (tot Q K SC) zeros) (ix2 (row 1 t) 0)
      + mulf (factor (mx Q K SC)) (select real (tot Q K SC) zeros) (ix2 (row 2 t) 0)
      + mulf (factor (mx Q K SC)) (select real (tot Q K SC) zeros) (ix2 (row 3 t) 0) = ((Real.exp (-m) * whole q k ck t : ℝ) : EReal) := by
    rw [term3, add_zero]
    refine (congr (congrArg _ (congr (congrArg _ (term 0)) (term 1))) (term 2)).trans ?_
    rw [← EReal.coe_add, ← EReal.coe_add, whole, Fin.sum_univ_three]
    congr 1
    ring
  rw [all, hm b μ hμ]
  show Ideal.div _ _ = _
  have hw := whole_pos q k ck t
  rw [Ideal.div_coe (mul_pos (Real.exp_pos _) hw).ne', ← EReal.coe_mul]
  congr 1
  rw [Real.exp_sub, Real.exp_neg]
  have := Real.exp_pos m
  field_simp

/-- The padding rows are weighted with zero. -/
theorem wt_pad (t : Fin 4) : wt Q K SC (ix2 (row 3 t) 0) = 0 := by
  pointwise [wt, weight]
  rw [real_pad]
  exact zeros_apply (row 3 t)

section
variable (hPC : ∀ (r : Fin 16) (l : Fin 2048), PC (ix3 0 r l) = probs SC (mx Q K SC) (ix2 r l))
include hPC

/-- What the row of a branch contributes. -/
def part (Q K V : Vec Ideal S1x8x64 .f32) (SC : Vec Ideal S1x16x2048 .f32) (PC : Vec Ideal S1x16x2048 .bf16) (VT : Vec Ideal S1x64x2048 .f32)
    (r : Fin 16) (d : Fin 64) : EReal :=
  (∑ l, PC (ix3 0 r l) * VT (ix3 0 d l)) * wt Q K SC (ix2 r 0)
    + newProb (s0 Q K) (mx Q K SC) (ix2 r 0) * wt Q K SC (ix2 r 0) * V (ix3 0 0 d)
    + newProb (s1 Q K) (mx Q K SC) (ix2 r 0) * wt Q K SC (ix2 r 0) * V (ix3 0 1 d)
    + newProb (s2 Q K) (mx Q K SC) (ix2 r 0) * wt Q K SC (ix2 r 0) * V (ix3 0 2 d)
    + newProb (s3 Q K) (mx Q K SC) (ix2 r 0) * wt Q K SC (ix2 r 0) * V (ix3 0 3 d)

omit h hK hSC hPC in
theorem out_parts (b t : Fin 4) (d : Fin 64) :
    out Q K SC V PC VT (ix3 0 (row b t) d) = ∑ c : Fin 4, part Q K V SC PC VT (row c t) d := by
  pointwise [out, gather, addNew, cached, new0, new1, new2, new3]
  simp only [rot4, rot8, rot12, Fin.eta]
  rw [Fin.sum_univ_four]
  exact rot_sum (fun c => part Q K V SC PC VT (row c t) d) b

omit h hK hSC hPC in
theorem part_pad (t : Fin 4) (d : Fin 64) (hw : wt Q K SC (ix2 (row 3 t) 0) = 0) : part Q K V SC PC VT (row 3 t) d = 0 := by
  unfold part
  rw [hw]
  simp only [mul_zero, zero_mul, add_zero]

theorem part_row (b : Fin 3) (t : Fin 4) (d : Fin 64) : part Q K V SC PC VT (row (up b) t) d
    = ∑ j : Fin 129, ((raw q k ck b t j / whole q k ck t : ℝ) : EReal) * place (fun l => VT (ix3 0 d l)) (fun u => V (ix3 0 ⟨u.val, by omega⟩ d))
        (pos b t j) (pos_lt b t j) := by
  obtain ⟨μ, hμ⟩ := mx_row h hK hSC b t
  have hw := whole_pos q k ck t
  have e : ∀ x : ℝ, Real.exp (x - μ) * (Real.exp μ / whole q k ck t) = Real.exp x / whole q k ck t := fun x => by
    rw [← mul_div_assoc, ← Real.exp_add]
    congr 2
    ring
  unfold part
  simp only [hPC, probs_row hSC _ b t μ hμ, newProb_row _ _ _ _ _ μ hμ (s0_row h hK b t), newProb_row _ _ _ _ _ μ hμ (s1_row h hK b t),
    newProb_row _ _ _ _ _ μ hμ (s2_row h hK b t), newProb_row _ _ _ _ _ μ hμ (s3_row h hK b t), wt_row h hK hSC b t μ hμ]
  rw [scale_sum _ _ (div_pos (Real.exp_pos _) hw).le]
  have key := sum_looks 2048 (dil b) t.val (dil_pos b) (dil_le b) t.isLt
    (fun l => ((Real.exp (old q ck t l) / whole q k ck t : ℝ) : EReal) * VT (ix3 0 d l))
    (fun u => ((Real.exp (new q k t u) / whole q k ck t : ℝ) : EReal) * V (ix3 0 ⟨u.val, by omega⟩ d))
  rw [Fin.sum_univ_four] at key
  have tm : ∀ (p : Prop) [Decidable p] (x : ℝ) (v : EReal),
      (((if p then Real.exp (x - μ) else 0) * (Real.exp μ / whole q k ck t) : ℝ) : EReal) * v
        = if p then ((Real.exp x / whole q k ck t : ℝ) : EReal) * v else 0 := fun p _ x v => by
    split_ifs
    · rw [e]
    · rw [zero_mul, EReal.coe_zero, zero_mul]
  simp only [← EReal.coe_mul, tm]
  simp only [add_assoc] at key ⊢
  refine key.trans ?_
  refine Finset.sum_congr rfl fun j _ => ?_
  unfold raw place pos
  split_ifs <;> rfl

/-- The output row of every branch's group is the attention. -/
theorem out_row (b t : Fin 4) (d : Fin 64) : out Q K SC V PC VT (ix3 0 (row b t) d)
    = att q k ck (fun u => V (ix3 0 ⟨u.val, by omega⟩ d)) (fun l => VT (ix3 0 d l)) t := by
  rw [out_parts, Fin.sum_univ_four, part_pad t d (wt_pad h hK hSC t), add_zero, att, Fin.sum_univ_three]
  exact congr (congrArg _ (congr (congrArg _ (part_row h hK hSC hPC 0 t d)) (part_row h hK hSC hPC 1 t d))) (part_row h hK hSC hPC 2 t d)
end
end

end Cert.KernelIdeal.Head

end
-- ==== Proof.MaskTable.lean ====
/- The program's mask table read entry by entry. The table is stored in blocks of 128 entries, of which many are equal: each block is
   read as one of thirteen, and each of the thirteen by its arithmetic. -/
module

public import proofs.«01_k».proof.Proof.HeadTerm

@[expose] public section

set_option maxRecDepth 16384

noncomputable section

namespace Cert.KernelIdeal.Mask

open Cert.KernelIdeal Cert.KernelIdeal.Gen Idealize.ShloMosaic

theorem block_0 (i : ℕ) (h : i / 128 = 0) : lit0t i = lit0t0_0 i := by
  have h1 : i / 16384 = 0 := by omega
  have h2 : i / 128 % 128 = 0 := by omega
  unfold lit0t
  rw [h1]
  show lit0t1_0 i = _
  unfold lit0t1_0
  rw [h2]
  rfl

theorem block_1 (i : ℕ) (h : i / 128 = 1) : lit0t i = lit0t0_0 i := by
  have h1 : i / 16384 = 0 := by omega
  have h2 : i / 128 % 128 = 1 := by omega
  unfold lit0t
  rw [h1]
  show lit0t1_0 i = _
  unfold lit0t1_0
  rw [h2]
  rfl

theorem block_2 (i : ℕ) (h : i / 128 = 2) : lit0t i = lit0t0_0 i := by
  have h1 : i / 16384 = 0 := by omega
  have h2 : i / 128 % 128 = 2 := by omega
  unfold lit0t
  rw [h1]
  show lit0t1_0 i = _
  unfold lit0t1_0
  rw [h2]
  rfl

theorem block_3 (i : ℕ) (h : i / 128 = 3) : lit0t i = lit0t0_0 i := by
  have h1 : i / 16384 = 0 := by omega
  have h2 : i / 128 % 128 = 3 := by omega
  unfold lit0t
  rw [h1]
  show lit0t1_0 i = _
  unfold lit0t1_0
  rw [h2]
  rfl

theorem block_4 (i : ℕ) (h : i / 128 = 4) : lit0t i = lit0t0_0 i := by
  have h1 : i / 16384 = 0 := by omega
  have h2 : i / 128 % 128 = 4 := by omega
  unfold lit0t
  rw [h1]
  show lit0t1_0 i = _
  unfold lit0t1_0
  rw [h2]
  rfl

theorem block_5 (i : ℕ) (h : i / 128 = 5) : lit0t i = lit0t0_0 i := by
  have h1 : i / 16384 = 0 := by omega
  have h2 : i / 128 % 128 = 5 := by omega
  unfold lit0t
  rw [h1]
  show lit0t1_0 i = _
  unfold lit0t1_0
  rw [h2]
  rfl

theorem block_6 (i : ℕ) (h : i / 128 = 6) : lit0t i = lit0t0_0 i := by
  have h1 : i / 16384 = 0 := by omega
  have h2 : i / 128 % 128 = 6 := by omega
  unfold lit0t
  rw [h1]
  show lit0t1_0 i = _
  unfold lit0t1_0
  rw [h2]
  rfl

theorem block_7 (i : ℕ) (h : i / 128 = 7) : lit0t i = lit0t0_0 i := by
  have h1 : i / 16384 = 0 := by omega
  have h2 : i / 128 % 128 = 7 := by omega
  unfold lit0t
  rw [h1]
  show lit0t1_0 i = _
  unfold lit0t1_0
  rw [h2]
  rfl

theorem block_8 (i : ℕ) (h : i / 128 = 8) : lit0t i = lit0t0_0 i := by
  have h1 : i / 16384 = 0 := by omega
  have h2 : i / 128 % 128 = 8 := by omega
  unfold lit0t
  rw [h1]
  show lit0t1_0 i = _
  unfold lit0t1_0
  rw [h2]
  rfl

theorem block_9 (i : ℕ) (h : i / 128 = 9) : lit0t i = lit0t0_0 i := by
  have h1 : i / 16384 = 0 := by omega
  have h2 : i / 128 % 128 = 9 := by omega
  unfold lit0t
  rw [h1]
  show lit0t1_0 i = _
  unfold lit0t1_0
  rw [h2]
  rfl

theorem block_10 (i : ℕ) (h : i / 128 = 10) : lit0t i = lit0t0_0 i := by
  have h1 : i / 16384 = 0 := by omega
  have h2 : i / 128 % 128 = 10 := by omega
  unfold lit0t
  rw [h1]
  show lit0t1_0 i = _
  unfold lit0t1_0
  rw [h2]
  rfl

theorem block_11 (i : ℕ) (h : i / 128 = 11) : lit0t i = lit0t0_0 i := by
  have h1 : i / 16384 = 0 := by omega
  have h2 : i / 128 % 128 = 11 := by omega
  unfold lit0t
  rw [h1]
  show lit0t1_0 i = _
  unfold lit0t1_0
  rw [h2]
  rfl

theorem block_12 (i : ℕ) (h : i / 128 = 12) : lit0t i = lit0t0_0 i := by
  have h1 : i / 16384 = 0 := by omega
  have h2 : i / 128 % 128 = 12 := by omega
  unfold lit0t
  rw [h1]
  show lit0t1_0 i = _
  unfold lit0t1_0
  rw [h2]
  rfl

theorem block_13 (i : ℕ) (h : i / 128 = 13) : lit0t i = lit0t0_0 i := by
  have h1 : i / 16384 = 0 := by omega
  have h2 : i / 128 % 128 = 13 := by omega
  unfold lit0t
  rw [h1]
  show lit0t1_0 i = _
  unfold lit0t1_0
  rw [h2]
  rfl

theorem block_14 (i : ℕ) (h : i / 128 = 14) : lit0t i = lit0t0_0 i := by
  have h1 : i / 16384 = 0 := by omega
  have h2 : i / 128 % 128 = 14 := by omega
  unfold lit0t
  rw [h1]
  show lit0t1_0 i = _
  unfold lit0t1_0
  rw [h2]
  rfl

theorem block_15 (i : ℕ) (h : i / 128 = 15) : lit0t i = lit0t0_15 i := by
  have h1 : i / 16384 = 0 := by omega
  have h2 : i / 128 % 128 = 15 := by omega
  unfold lit0t
  rw [h1]
  show lit0t1_0 i = _
  unfold lit0t1_0
  rw [h2]
  rfl

theorem block_16 (i : ℕ) (h : i / 128 = 16) : lit0t i = lit0t0_0 i := by
  have h1 : i / 16384 = 0 := by omega
  have h2 : i / 128 % 128 = 16 := by omega
  unfold lit0t
  rw [h1]
  show lit0t1_0 i = _
  unfold lit0t1_0
  rw [h2]
  rfl

theorem block_17 (i : ℕ) (h : i / 128 = 17) : lit0t i = lit0t0_0 i := by
  have h1 : i / 16384 = 0 := by omega
  have h2 : i / 128 % 128 = 17 := by omega
  unfold lit0t
  rw [h1]
  show lit0t1_0 i = _
  unfold lit0t1_0
  rw [h2]
  rfl

theorem block_18 (i : ℕ) (h : i / 128 = 18) : lit0t i = lit0t0_0 i := by
  have h1 : i / 16384 = 0 := by omega
  have h2 : i / 128 % 128 = 18 := by omega
  unfold lit0t
  rw [h1]
  show lit0t1_0 i = _
  unfold lit0t1_0
  rw [h2]
  rfl

theorem block_19 (i : ℕ) (h : i / 128 = 19) : lit0t i = lit0t0_0 i := by
  have h1 : i / 16384 = 0 := by omega
  have h2 : i / 128 % 128 = 19 := by omega
  unfold lit0t
  rw [h1]
  show lit0t1_0 i = _
  unfold lit0t1_0
  rw [h2]
  rfl

theorem block_20 (i : ℕ) (h : i / 128 = 20) : lit0t i = lit0t0_0 i := by
  have h1 : i / 16384 = 0 := by omega
  have h2 : i / 128 % 128 = 20 := by omega
  unfold lit0t
  rw [h1]
  show lit0t1_0 i = _
  unfold lit0t1_0
  rw [h2]
  rfl

theorem block_21 (i : ℕ) (h : i / 128 = 21) : lit0t i = lit0t0_0 i := by
  have h1 : i / 16384 = 0 := by omega
  have h2 : i / 128 % 128 = 21 := by omega
  unfold lit0t
  rw [h1]
  show lit0t1_0 i = _
  unfold lit0t1_0
  rw [h2]
  rfl

theorem block_22 (i : ℕ) (h : i / 128 = 22) : lit0t i = lit0t0_0 i := by
  have h1 : i / 16384 = 0 := by omega
  have h2 : i / 128 % 128 = 22 := by omega
  unfold lit0t
  rw [h1]
  show lit0t1_0 i = _
  unfold lit0t1_0
  rw [h2]
  rfl

theorem block_23 (i : ℕ) (h : i / 128 = 23) : lit0t i = lit0t0_0 i := by
  have h1 : i / 16384 = 0 := by omega
  have h2 : i / 128 % 128 = 23 := by omega
  unfold lit0t
  rw [h1]
  show lit0t1_0 i = _
  unfold lit0t1_0
  rw [h2]
  rfl

theorem block_24 (i : ℕ) (h : i / 128 = 24) : lit0t i = lit0t0_0 i := by
  have h1 : i / 16384 = 0 := by omega
  have h2 : i / 128 % 128 = 24 := by omega
  unfold lit0t
  rw [h1]
  show lit0t1_0 i = _
  unfold lit0t1_0
  rw [h2]
  rfl

theorem block_25 (i : ℕ) (h : i / 128 = 25) : lit0t i = lit0t0_0 i := by
  have h1 : i / 16384 = 0 := by omega
  have h2 : i / 128 % 128 = 25 := by omega
  unfold lit0t
  rw [h1]
  show lit0t1_0 i = _
  unfold lit0t1_0
  rw [h2]
  rfl

theorem block_26 (i : ℕ) (h : i / 128 = 26) : lit0t i = lit0t0_0 i := by
  have h1 : i / 16384 = 0 := by omega
  have h2 : i / 128 % 128 = 26 := by omega
  unfold lit0t
  rw [h1]
  show lit0t1_0 i = _
  unfold lit0t1_0
  rw [h2]
  rfl

theorem block_27 (i : ℕ) (h : i / 128 = 27) : lit0t i = lit0t0_0 i := by
  have h1 : i / 16384 = 0 := by omega
  have h2 : i / 128 % 128 = 27 := by omega
  unfold lit0t
  rw [h1]
  show lit0t1_0 i = _
  unfold lit0t1_0
  rw [h2]
  rfl

theorem block_28 (i : ℕ) (h : i / 128 = 28) : lit0t i = lit0t0_0 i := by
  have h1 : i / 16384 = 0 := by omega
  have h2 : i / 128 % 128 = 28 := by omega
  unfold lit0t
  rw [h1]
  show lit0t1_0 i = _
  unfold lit0t1_0
  rw [h2]
  rfl

theorem block_29 (i : ℕ) (h : i / 128 = 29) : lit0t i = lit0t0_0 i := by
  have h1 : i / 16384 = 0 := by omega
  have h2 : i / 128 % 128 = 29 := by omega
  unfold lit0t
  rw [h1]
  show lit0t1_0 i = _
  unfold lit0t1_0
  rw [h2]
  rfl

theorem block_30 (i : ℕ) (h : i / 128 = 30) : lit0t i = lit0t0_0 i := by
  have h1 : i / 16384 = 0 := by omega
  have h2 : i / 128 % 128 = 30 := by omega
  unfold lit0t
  rw [h1]
  show lit0t1_0 i = _
  unfold lit0t1_0
  rw [h2]
  rfl

theorem block_31 (i : ℕ) (h : i / 128 = 31) : lit0t i = lit0t0_31 i := by
  have h1 : i / 16384 = 0 := by omega
  have h2 : i / 128 % 128 = 31 := by omega
  unfold lit0t
  rw [h1]
  show lit0t1_0 i = _
  unfold lit0t1_0
  rw [h2]
  rfl

theorem block_32 (i : ℕ) (h : i / 128 = 32) : lit0t i = lit0t0_0 i := by
  have h1 : i / 16384 = 0 := by omega
  have h2 : i / 128 % 128 = 32 := by omega
  unfold lit0t
  rw [h1]
  show lit0t1_0 i = _
  unfold lit0t1_0
  rw [h2]
  rfl

theorem block_33 (i : ℕ) (h : i / 128 = 33) : lit0t i = lit0t0_0 i := by
  have h1 : i / 16384 = 0 := by omega
  have h2 : i / 128 % 128 = 33 := by omega
  unfold lit0t
  rw [h1]
  show lit0t1_0 i = _
  unfold lit0t1_0
  rw [h2]
  rfl

theorem block_34 (i : ℕ) (h : i / 128 = 34) : lit0t i = lit0t0_0 i := by
  have h1 : i / 16384 = 0 := by omega
  have h2 : i / 128 % 128 = 34 := by omega
  unfold lit0t
  rw [h1]
  show lit0t1_0 i = _
  unfold lit0t1_0
  rw [h2]
  rfl

theorem block_35 (i : ℕ) (h : i / 128 = 35) : lit0t i = lit0t0_0 i := by
  have h1 : i / 16384 = 0 := by omega
  have h2 : i / 128 % 128 = 35 := by omega
  unfold lit0t
  rw [h1]
  show lit0t1_0 i = _
  unfold lit0t1_0
  rw [h2]
  rfl

theorem block_36 (i : ℕ) (h : i / 128 = 36) : lit0t i = lit0t0_0 i := by
  have h1 : i / 16384 = 0 := by omega
  have h2 : i / 128 % 128 = 36 := by omega
  unfold lit0t
  rw [h1]
  show lit0t1_0 i = _
  unfold lit0t1_0
  rw [h2]
  rfl

theorem block_37 (i : ℕ) (h : i / 128 = 37) : lit0t i = lit0t0_0 i := by
  have h1 : i / 16384 = 0 := by omega
  have h2 : i / 128 % 128 = 37 := by omega
  unfold lit0t
  rw [h1]
  show lit0t1_0 i = _
  unfold lit0t1_0
  rw [h2]
  rfl

theorem block_38 (i : ℕ) (h : i / 128 = 38) : lit0t i = lit0t0_0 i := by
  have h1 : i / 16384 = 0 := by omega
  have h2 : i / 128 % 128 = 38 := by omega
  unfold lit0t
  rw [h1]
  show lit0t1_0 i = _
  unfold lit0t1_0
  rw [h2]
  rfl

theorem block_39 (i : ℕ) (h : i / 128 = 39) : lit0t i = lit0t0_0 i := by
  have h1 : i / 16384 = 0 := by omega
  have h2 : i / 128 % 128 = 39 := by omega
  unfold lit0t
  rw [h1]
  show lit0t1_0 i = _
  unfold lit0t1_0
  rw [h2]
  rfl

theorem block_40 (i : ℕ) (h : i / 128 = 40) : lit0t i = lit0t0_0 i := by
  have h1 : i / 16384 = 0 := by omega
  have h2 : i / 128 % 128 = 40 := by omega
  unfold lit0t
  rw [h1]
  show lit0t1_0 i = _
  unfold lit0t1_0
  rw [h2]
  rfl

theorem block_41 (i : ℕ) (h : i / 128 = 41) : lit0t i = lit0t0_0 i := by
  have h1 : i / 16384 = 0 := by omega
  have h2 : i / 128 % 128 = 41 := by omega
  unfold lit0t
  rw [h1]
  show lit0t1_0 i = _
  unfold lit0t1_0
  rw [h2]
  rfl

theorem block_42 (i : ℕ) (h : i / 128 = 42) : lit0t i = lit0t0_0 i := by
  have h1 : i / 16384 = 0 := by omega
  have h2 : i / 128 % 128 = 42 := by omega
  unfold lit0t
  rw [h1]
  show lit0t1_0 i = _
  unfold lit0t1_0
  rw [h2]
  rfl

theorem block_43 (i : ℕ) (h : i / 128 = 43) : lit0t i = lit0t0_0 i := by
  have h1 : i / 16384 = 0 := by omega
  have h2 : i / 128 % 128 = 43 := by omega
  unfold lit0t
  rw [h1]
  show lit0t1_0 i = _
  unfold lit0t1_0
  rw [h2]
  rfl

theorem block_44 (i : ℕ) (h : i / 128 = 44) : lit0t i = lit0t0_0 i := by
  have h1 : i / 16384 = 0 := by omega
  have h2 : i / 128 % 128 = 44 := by omega
  unfold lit0t
  rw [h1]
  show lit0t1_0 i = _
  unfold lit0t1_0
  rw [h2]
  rfl

theorem block_45 (i : ℕ) (h : i / 128 = 45) : lit0t i = lit0t0_0 i := by
  have h1 : i / 16384 = 0 := by omega
  have h2 : i / 128 % 128 = 45 := by omega
  unfold lit0t
  rw [h1]
  show lit0t1_0 i = _
  unfold lit0t1_0
  rw [h2]
  rfl

theorem block_46 (i : ℕ) (h : i / 128 = 46) : lit0t i = lit0t0_0 i := by
  have h1 : i / 16384 = 0 := by omega
  have h2 : i / 128 % 128 = 46 := by omega
  unfold lit0t
  rw [h1]
  show lit0t1_0 i = _
  unfold lit0t1_0
  rw [h2]
  rfl

theorem block_47 (i : ℕ) (h : i / 128 = 47) : lit0t i = lit0t0_47 i := by
  have h1 : i / 16384 = 0 := by omega
  have h2 : i / 128 % 128 = 47 := by omega
  unfold lit0t
  rw [h1]
  show lit0t1_0 i = _
  unfold lit0t1_0
  rw [h2]
  rfl

theorem block_48 (i : ℕ) (h : i / 128 = 48) : lit0t i = lit0t0_0 i := by
  have h1 : i / 16384 = 0 := by omega
  have h2 : i / 128 % 128 = 48 := by omega
  unfold lit0t
  rw [h1]
  show lit0t1_0 i = _
  unfold lit0t1_0
  rw [h2]
  rfl

theorem block_49 (i : ℕ) (h : i / 128 = 49) : lit0t i = lit0t0_0 i := by
  have h1 : i / 16384 = 0 := by omega
  have h2 : i / 128 % 128 = 49 := by omega
  unfold lit0t
  rw [h1]
  show lit0t1_0 i = _
  unfold lit0t1_0
  rw [h2]
  rfl

theorem block_50 (i : ℕ) (h : i / 128 = 50) : lit0t i = lit0t0_0 i := by
  have h1 : i / 16384 = 0 := by omega
  have h2 : i / 128 % 128 = 50 := by omega
  unfold lit0t
  rw [h1]
  show lit0t1_0 i = _
  unfold lit0t1_0
  rw [h2]
  rfl

theorem block_51 (i : ℕ) (h : i / 128 = 51) : lit0t i = lit0t0_0 i := by
  have h1 : i / 16384 = 0 := by omega
  have h2 : i / 128 % 128 = 51 := by omega
  unfold lit0t
  rw [h1]
  show lit0t1_0 i = _
  unfold lit0t1_0
  rw [h2]
  rfl

theorem block_52 (i : ℕ) (h : i / 128 = 52) : lit0t i = lit0t0_0 i := by
  have h1 : i / 16384 = 0 := by omega
  have h2 : i / 128 % 128 = 52 := by omega
  unfold lit0t
  rw [h1]
  show lit0t1_0 i = _
  unfold lit0t1_0
  rw [h2]
  rfl

theorem block_53 (i : ℕ) (h : i / 128 = 53) : lit0t i = lit0t0_0 i := by
  have h1 : i / 16384 = 0 := by omega
  have h2 : i / 128 % 128 = 53 := by omega
  unfold lit0t
  rw [h1]
  show lit0t1_0 i = _
  unfold lit0t1_0
  rw [h2]
  rfl

theorem block_54 (i : ℕ) (h : i / 128 = 54) : lit0t i = lit0t0_0 i := by
  have h1 : i / 16384 = 0 := by omega
  have h2 : i / 128 % 128 = 54 := by omega
  unfold lit0t
  rw [h1]
  show lit0t1_0 i = _
  unfold lit0t1_0
  rw [h2]
  rfl

theorem block_55 (i : ℕ) (h : i / 128 = 55) : lit0t i = lit0t0_0 i := by
  have h1 : i / 16384 = 0 := by omega
  have h2 : i / 128 % 128 = 55 := by omega
  unfold lit0t
  rw [h1]
  show lit0t1_0 i = _
  unfold lit0t1_0
  rw [h2]
  rfl

theorem block_56 (i : ℕ) (h : i / 128 = 56) : lit0t i = lit0t0_0 i := by
  have h1 : i / 16384 = 0 := by omega
  have h2 : i / 128 % 128 = 56 := by omega
  unfold lit0t
  rw [h1]
  show lit0t1_0 i = _
  unfold lit0t1_0
  rw [h2]
  rfl

theorem block_57 (i : ℕ) (h : i / 128 = 57) : lit0t i = lit0t0_0 i := by
  have h1 : i / 16384 = 0 := by omega
  have h2 : i / 128 % 128 = 57 := by omega
  unfold lit0t
  rw [h1]
  show lit0t1_0 i = _
  unfold lit0t1_0
  rw [h2]
  rfl

theorem block_58 (i : ℕ) (h : i / 128 = 58) : lit0t i = lit0t0_0 i := by
  have h1 : i / 16384 = 0 := by omega
  have h2 : i / 128 % 128 = 58 := by omega
  unfold lit0t
  rw [h1]
  show lit0t1_0 i = _
  unfold lit0t1_0
  rw [h2]
  rfl

theorem block_59 (i : ℕ) (h : i / 128 = 59) : lit0t i = lit0t0_0 i := by
  have h1 : i / 16384 = 0 := by omega
  have h2 : i / 128 % 128 = 59 := by omega
  unfold lit0t
  rw [h1]
  show lit0t1_0 i = _
  unfold lit0t1_0
  rw [h2]
  rfl

theorem block_60 (i : ℕ) (h : i / 128 = 60) : lit0t i = lit0t0_0 i := by
  have h1 : i / 16384 = 0 := by omega
  have h2 : i / 128 % 128 = 60 := by omega
  unfold lit0t
  rw [h1]
  show lit0t1_0 i = _
  unfold lit0t1_0
  rw [h2]
  rfl

theorem block_61 (i : ℕ) (h : i / 128 = 61) : lit0t i = lit0t0_0 i := by
  have h1 : i / 16384 = 0 := by omega
  have h2 : i / 128 % 128 = 61 := by omega
  unfold lit0t
  rw [h1]
  show lit0t1_0 i = _
  unfold lit0t1_0
  rw [h2]
  rfl

theorem block_62 (i : ℕ) (h : i / 128 = 62) : lit0t i = lit0t0_0 i := by
  have h1 : i / 16384 = 0 := by omega
  have h2 : i / 128 % 128 = 62 := by omega
  unfold lit0t
  rw [h1]
  show lit0t1_0 i = _
  unfold lit0t1_0
  rw [h2]
  rfl

theorem block_63 (i : ℕ) (h : i / 128 = 63) : lit0t i = lit0t0_63 i := by
  have h1 : i / 16384 = 0 := by omega
  have h2 : i / 128 % 128 = 63 := by omega
  unfold lit0t
  rw [h1]
  show lit0t1_0 i = _
  unfold lit0t1_0
  rw [h2]
  rfl

theorem block_64 (i : ℕ) (h : i / 128 = 64) : lit0t i = lit0t0_0 i := by
  have h1 : i / 16384 = 0 := by omega
  have h2 : i / 128 % 128 = 64 := by omega
  unfold lit0t
  rw [h1]
  show lit0t1_0 i = _
  unfold lit0t1_0
  rw [h2]
  rfl

theorem block_65 (i : ℕ) (h : i / 128 = 65) : lit0t i = lit0t0_0 i := by
  have h1 : i / 16384 = 0 := by omega
  have h2 : i / 128 % 128 = 65 := by omega
  unfold lit0t
  rw [h1]
  show lit0t1_0 i = _
  unfold lit0t1_0
  rw [h2]
  rfl

theorem block_66 (i : ℕ) (h : i / 128 = 66) : lit0t i = lit0t0_0 i := by
  have h1 : i / 16384 = 0 := by omega
  have h2 : i / 128 % 128 = 66 := by omega
  unfold lit0t
  rw [h1]
  show lit0t1_0 i = _
  unfold lit0t1_0
  rw [h2]
  rfl

theorem block_67 (i : ℕ) (h : i / 128 = 67) : lit0t i = lit0t0_0 i := by
  have h1 : i / 16384 = 0 := by omega
  have h2 : i / 128 % 128 = 67 := by omega
  unfold lit0t
  rw [h1]
  show lit0t1_0 i = _
  unfold lit0t1_0
  rw [h2]
  rfl

theorem block_68 (i : ℕ) (h : i / 128 = 68) : lit0t i = lit0t0_0 i := by
  have h1 : i / 16384 = 0 := by omega
  have h2 : i / 128 % 128 = 68 := by omega
  unfold lit0t
  rw [h1]
  show lit0t1_0 i = _
  unfold lit0t1_0
  rw [h2]
  rfl

theorem block_69 (i : ℕ) (h : i / 128 = 69) : lit0t i = lit0t0_0 i := by
  have h1 : i / 16384 = 0 := by omega
  have h2 : i / 128 % 128 = 69 := by omega
  unfold lit0t
  rw [h1]
  show lit0t1_0 i = _
  unfold lit0t1_0
  rw [h2]
  rfl

theorem block_70 (i : ℕ) (h : i / 128 = 70) : lit0t i = lit0t0_0 i := by
  have h1 : i / 16384 = 0 := by omega
  have h2 : i / 128 % 128 = 70 := by omega
  unfold lit0t
  rw [h1]
  show lit0t1_0 i = _
  unfold lit0t1_0
  rw [h2]
  rfl

theorem block_71 (i : ℕ) (h : i / 128 = 71) : lit0t i = lit0t0_0 i := by
  have h1 : i / 16384 = 0 := by omega
  have h2 : i / 128 % 128 = 71 := by omega
  unfold lit0t
  rw [h1]
  show lit0t1_0 i = _
  unfold lit0t1_0
  rw [h2]
  rfl

theorem block_72 (i : ℕ) (h : i / 128 = 72) : lit0t i = lit0t0_0 i := by
  have h1 : i / 16384 = 0 := by omega
  have h2 : i / 128 % 128 = 72 := by omega
  unfold lit0t
  rw [h1]
  show lit0t1_0 i = _
  unfold lit0t1_0
  rw [h2]
  rfl

theorem block_73 (i : ℕ) (h : i / 128 = 73) : lit0t i = lit0t0_0 i := by
  have h1 : i / 16384 = 0 := by omega
  have h2 : i / 128 % 128 = 73 := by omega
  unfold lit0t
  rw [h1]
  show lit0t1_0 i = _
  unfold lit0t1_0
  rw [h2]
  rfl

theorem block_74 (i : ℕ) (h : i / 128 = 74) : lit0t i = lit0t0_0 i := by
  have h1 : i / 16384 = 0 := by omega
  have h2 : i / 128 % 128 = 74 := by omega
  unfold lit0t
  rw [h1]
  show lit0t1_0 i = _
  unfold lit0t1_0
  rw [h2]
  rfl

theorem block_75 (i : ℕ) (h : i / 128 = 75) : lit0t i = lit0t0_0 i := by
  have h1 : i / 16384 = 0 := by omega
  have h2 : i / 128 % 128 = 75 := by omega
  unfold lit0t
  rw [h1]
  show lit0t1_0 i = _
  unfold lit0t1_0
  rw [h2]
  rfl

theorem block_76 (i : ℕ) (h : i / 128 = 76) : lit0t i = lit0t0_76 i := by
  have h1 : i / 16384 = 0 := by omega
  have h2 : i / 128 % 128 = 76 := by omega
  unfold lit0t
  rw [h1]
  show lit0t1_0 i = _
  unfold lit0t1_0
  rw [h2]
  rfl

theorem block_77 (i : ℕ) (h : i / 128 = 77) : lit0t i = lit0t0_76 i := by
  have h1 : i / 16384 = 0 := by omega
  have h2 : i / 128 % 128 = 77 := by omega
  unfold lit0t
  rw [h1]
  show lit0t1_0 i = _
  unfold lit0t1_0
  rw [h2]
  rfl

theorem block_78 (i : ℕ) (h : i / 128 = 78) : lit0t i = lit0t0_76 i := by
  have h1 : i / 16384 = 0 := by omega
  have h2 : i / 128 % 128 = 78 := by omega
  unfold lit0t
  rw [h1]
  show lit0t1_0 i = _
  unfold lit0t1_0
  rw [h2]
  rfl

theorem block_79 (i : ℕ) (h : i / 128 = 79) : lit0t i = lit0t0_76 i := by
  have h1 : i / 16384 = 0 := by omega
  have h2 : i / 128 % 128 = 79 := by omega
  unfold lit0t
  rw [h1]
  show lit0t1_0 i = _
  unfold lit0t1_0
  rw [h2]
  rfl

theorem block_80 (i : ℕ) (h : i / 128 = 80) : lit0t i = lit0t0_0 i := by
  have h1 : i / 16384 = 0 := by omega
  have h2 : i / 128 % 128 = 80 := by omega
  unfold lit0t
  rw [h1]
  show lit0t1_0 i = _
  unfold lit0t1_0
  rw [h2]
  rfl

theorem block_81 (i : ℕ) (h : i / 128 = 81) : lit0t i = lit0t0_0 i := by
  have h1 : i / 16384 = 0 := by omega
  have h2 : i / 128 % 128 = 81 := by omega
  unfold lit0t
  rw [h1]
  show lit0t1_0 i = _
  unfold lit0t1_0
  rw [h2]
  rfl

theorem block_82 (i : ℕ) (h : i / 128 = 82) : lit0t i = lit0t0_0 i := by
  have h1 : i / 16384 = 0 := by omega
  have h2 : i / 128 % 128 = 82 := by omega
  unfold lit0t
  rw [h1]
  show lit0t1_0 i = _
  unfold lit0t1_0
  rw [h2]
  rfl

theorem block_83 (i : ℕ) (h : i / 128 = 83) : lit0t i = lit0t0_0 i := by
  have h1 : i / 16384 = 0 := by omega
  have h2 : i / 128 % 128 = 83 := by omega
  unfold lit0t
  rw [h1]
  show lit0t1_0 i = _
  unfold lit0t1_0
  rw [h2]
  rfl

theorem block_84 (i : ℕ) (h : i / 128 = 84) : lit0t i = lit0t0_0 i := by
  have h1 : i / 16384 = 0 := by omega
  have h2 : i / 128 % 128 = 84 := by omega
  unfold lit0t
  rw [h1]
  show lit0t1_0 i = _
  unfold lit0t1_0
  rw [h2]
  rfl

theorem block_85 (i : ℕ) (h : i / 128 = 85) : lit0t i = lit0t0_0 i := by
  have h1 : i / 16384 = 0 := by omega
  have h2 : i / 128 % 128 = 85 := by omega
  unfold lit0t
  rw [h1]
  show lit0t1_0 i = _
  unfold lit0t1_0
  rw [h2]
  rfl

theorem block_86 (i : ℕ) (h : i / 128 = 86) : lit0t i = lit0t0_0 i := by
  have h1 : i / 16384 = 0 := by omega
  have h2 : i / 128 % 128 = 86 := by omega
  unfold lit0t
  rw [h1]
  show lit0t1_0 i = _
  unfold lit0t1_0
  rw [h2]
  rfl

theorem block_87 (i : ℕ) (h : i / 128 = 87) : lit0t i = lit0t0_0 i := by
  have h1 : i / 16384 = 0 := by omega
  have h2 : i / 128 % 128 = 87 := by omega
  unfold lit0t
  rw [h1]
  show lit0t1_0 i = _
  unfold lit0t1_0
  rw [h2]
  rfl

theorem block_88 (i : ℕ) (h : i / 128 = 88) : lit0t i = lit0t0_0 i := by
  have h1 : i / 16384 = 0 := by omega
  have h2 : i / 128 % 128 = 88 := by omega
  unfold lit0t
  rw [h1]
  show lit0t1_0 i = _
  unfold lit0t1_0
  rw [h2]
  rfl

theorem block_89 (i : ℕ) (h : i / 128 = 89) : lit0t i = lit0t0_0 i := by
  have h1 : i / 16384 = 0 := by omega
  have h2 : i / 128 % 128 = 89 := by omega
  unfold lit0t
  rw [h1]
  show lit0t1_0 i = _
  unfold lit0t1_0
  rw [h2]
  rfl

theorem block_90 (i : ℕ) (h : i / 128 = 90) : lit0t i = lit0t0_0 i := by
  have h1 : i / 16384 = 0 := by omega
  have h2 : i / 128 % 128 = 90 := by omega
  unfold lit0t
  rw [h1]
  show lit0t1_0 i = _
  unfold lit0t1_0
  rw [h2]
  rfl

theorem block_91 (i : ℕ) (h : i / 128 = 91) : lit0t i = lit0t0_0 i := by
  have h1 : i / 16384 = 0 := by omega
  have h2 : i / 128 % 128 = 91 := by omega
  unfold lit0t
  rw [h1]
  show lit0t1_0 i = _
  unfold lit0t1_0
  rw [h2]
  rfl

theorem block_92 (i : ℕ) (h : i / 128 = 92) : lit0t i = lit0t0_92 i := by
  have h1 : i / 16384 = 0 := by omega
  have h2 : i / 128 % 128 = 92 := by omega
  unfold lit0t
  rw [h1]
  show lit0t1_0 i = _
  unfold lit0t1_0
  rw [h2]
  rfl

theorem block_93 (i : ℕ) (h : i / 128 = 93) : lit0t i = lit0t0_92 i := by
  have h1 : i / 16384 = 0 := by omega
  have h2 : i / 128 % 128 = 93 := by omega
  unfold lit0t
  rw [h1]
  show lit0t1_0 i = _
  unfold lit0t1_0
  rw [h2]
  rfl

theorem block_94 (i : ℕ) (h : i / 128 = 94) : lit0t i = lit0t0_92 i := by
  have h1 : i / 16384 = 0 := by omega
  have h2 : i / 128 % 128 = 94 := by omega
  unfold lit0t
  rw [h1]
  show lit0t1_0 i = _
  unfold lit0t1_0
  rw [h2]
  rfl

theorem block_95 (i : ℕ) (h : i / 128 = 95) : lit0t i = lit0t0_92 i := by
  have h1 : i / 16384 = 0 := by omega
  have h2 : i / 128 % 128 = 95 := by omega
  unfold lit0t
  rw [h1]
  show lit0t1_0 i = _
  unfold lit0t1_0
  rw [h2]
  rfl

theorem block_96 (i : ℕ) (h : i / 128 = 96) : lit0t i = lit0t0_0 i := by
  have h1 : i / 16384 = 0 := by omega
  have h2 : i / 128 % 128 = 96 := by omega
  unfold lit0t
  rw [h1]
  show lit0t1_0 i = _
  unfold lit0t1_0
  rw [h2]
  rfl

theorem block_97 (i : ℕ) (h : i / 128 = 97) : lit0t i = lit0t0_0 i := by
  have h1 : i / 16384 = 0 := by omega
  have h2 : i / 128 % 128 = 97 := by omega
  unfold lit0t
  rw [h1]
  show lit0t1_0 i = _
  unfold lit0t1_0
  rw [h2]
  rfl

theorem block_98 (i : ℕ) (h : i / 128 = 98) : lit0t i = lit0t0_0 i := by
  have h1 : i / 16384 = 0 := by omega
  have h2 : i / 128 % 128 = 98 := by omega
  unfold lit0t
  rw [h1]
  show lit0t1_0 i = _
  unfold lit0t1_0
  rw [h2]
  rfl

theorem block_99 (i : ℕ) (h : i / 128 = 99) : lit0t i = lit0t0_0 i := by
  have h1 : i / 16384 = 0 := by omega
  have h2 : i / 128 % 128 = 99 := by omega
  unfold lit0t
  rw [h1]
  show lit0t1_0 i = _
  unfold lit0t1_0
  rw [h2]
  rfl

theorem block_100 (i : ℕ) (h : i / 128 = 100) : lit0t i = lit0t0_0 i := by
  have h1 : i / 16384 = 0 := by omega
  have h2 : i / 128 % 128 = 100 := by omega
  unfold lit0t
  rw [h1]
  show lit0t1_0 i = _
  unfold lit0t1_0
  rw [h2]
  rfl

theorem block_101 (i : ℕ) (h : i / 128 = 101) : lit0t i = lit0t0_0 i := by
  have h1 : i / 16384 = 0 := by omega
  have h2 : i / 128 % 128 = 101 := by omega
  unfold lit0t
  rw [h1]
  show lit0t1_0 i = _
  unfold lit0t1_0
  rw [h2]
  rfl

theorem block_102 (i : ℕ) (h : i / 128 = 102) : lit0t i = lit0t0_0 i := by
  have h1 : i / 16384 = 0 := by omega
  have h2 : i / 128 % 128 = 102 := by omega
  unfold lit0t
  rw [h1]
  show lit0t1_0 i = _
  unfold lit0t1_0
  rw [h2]
  rfl

theorem block_103 (i : ℕ) (h : i / 128 = 103) : lit0t i = lit0t0_0 i := by
  have h1 : i / 16384 = 0 := by omega
  have h2 : i / 128 % 128 = 103 := by omega
  unfold lit0t
  rw [h1]
  show lit0t1_0 i = _
  unfold lit0t1_0
  rw [h2]
  rfl

theorem block_104 (i : ℕ) (h : i / 128 = 104) : lit0t i = lit0t0_0 i := by
  have h1 : i / 16384 = 0 := by omega
  have h2 : i / 128 % 128 = 104 := by omega
  unfold lit0t
  rw [h1]
  show lit0t1_0 i = _
  unfold lit0t1_0
  rw [h2]
  rfl

theorem block_105 (i : ℕ) (h : i / 128 = 105) : lit0t i = lit0t0_0 i := by
  have h1 : i / 16384 = 0 := by omega
  have h2 : i / 128 % 128 = 105 := by omega
  unfold lit0t
  rw [h1]
  show lit0t1_0 i = _
  unfold lit0t1_0
  rw [h2]
  rfl

theorem block_106 (i : ℕ) (h : i / 128 = 106) : lit0t i = lit0t0_0 i := by
  have h1 : i / 16384 = 0 := by omega
  have h2 : i / 128 % 128 = 106 := by omega
  unfold lit0t
  rw [h1]
  show lit0t1_0 i = _
  unfold lit0t1_0
  rw [h2]
  rfl

theorem block_107 (i : ℕ) (h : i / 128 = 107) : lit0t i = lit0t0_0 i := by
  have h1 : i / 16384 = 0 := by omega
  have h2 : i / 128 % 128 = 107 := by omega
  unfold lit0t
  rw [h1]
  show lit0t1_0 i = _
  unfold lit0t1_0
  rw [h2]
  rfl

theorem block_108 (i : ℕ) (h : i / 128 = 108) : lit0t i = lit0t0_108 i := by
  have h1 : i / 16384 = 0 := by omega
  have h2 : i / 128 % 128 = 108 := by omega
  unfold lit0t
  rw [h1]
  show lit0t1_0 i = _
  unfold lit0t1_0
  rw [h2]
  rfl

theorem block_109 (i : ℕ) (h : i / 128 = 109) : lit0t i = lit0t0_108 i := by
  have h1 : i / 16384 = 0 := by omega
  have h2 : i / 128 % 128 = 109 := by omega
  unfold lit0t
  rw [h1]
  show lit0t1_0 i = _
  unfold lit0t1_0
  rw [h2]
  rfl

theorem block_110 (i : ℕ) (h : i / 128 = 110) : lit0t i = lit0t0_108 i := by
  have h1 : i / 16384 = 0 := by omega
  have h2 : i / 128 % 128 = 110 := by omega
  unfold lit0t
  rw [h1]
  show lit0t1_0 i = _
  unfold lit0t1_0
  rw [h2]
  rfl

theorem block_111 (i : ℕ) (h : i / 128 = 111) : lit0t i = lit0t0_108 i := by
  have h1 : i / 16384 = 0 := by omega
  have h2 : i / 128 % 128 = 111 := by omega
  unfold lit0t
  rw [h1]
  show lit0t1_0 i = _
  unfold lit0t1_0
  rw [h2]
  rfl

theorem block_112 (i : ℕ) (h : i / 128 = 112) : lit0t i = lit0t0_0 i := by
  have h1 : i / 16384 = 0 := by omega
  have h2 : i / 128 % 128 = 112 := by omega
  unfold lit0t
  rw [h1]
  show lit0t1_0 i = _
  unfold lit0t1_0
  rw [h2]
  rfl

theorem block_113 (i : ℕ) (h : i / 128 = 113) : lit0t i = lit0t0_0 i := by
  have h1 : i / 16384 = 0 := by omega
  have h2 : i / 128 % 128 = 113 := by omega
  unfold lit0t
  rw [h1]
  show lit0t1_0 i = _
  unfold lit0t1_0
  rw [h2]
  rfl

theorem block_114 (i : ℕ) (h : i / 128 = 114) : lit0t i = lit0t0_0 i := by
  have h1 : i / 16384 = 0 := by omega
  have h2 : i / 128 % 128 = 114 := by omega
  unfold lit0t
  rw [h1]
  show lit0t1_0 i = _
  unfold lit0t1_0
  rw [h2]
  rfl

theorem block_115 (i : ℕ) (h : i / 128 = 115) : lit0t i = lit0t0_0 i := by
  have h1 : i / 16384 = 0 := by omega
  have h2 : i / 128 % 128 = 115 := by omega
  unfold lit0t
  rw [h1]
  show lit0t1_0 i = _
  unfold lit0t1_0
  rw [h2]
  rfl

theorem block_116 (i : ℕ) (h : i / 128 = 116) : lit0t i = lit0t0_0 i := by
  have h1 : i / 16384 = 0 := by omega
  have h2 : i / 128 % 128 = 116 := by omega
  unfold lit0t
  rw [h1]
  show lit0t1_0 i = _
  unfold lit0t1_0
  rw [h2]
  rfl

theorem block_117 (i : ℕ) (h : i / 128 = 117) : lit0t i = lit0t0_0 i := by
  have h1 : i / 16384 = 0 := by omega
  have h2 : i / 128 % 128 = 117 := by omega
  unfold lit0t
  rw [h1]
  show lit0t1_0 i = _
  unfold lit0t1_0
  rw [h2]
  rfl

theorem block_118 (i : ℕ) (h : i / 128 = 118) : lit0t i = lit0t0_0 i := by
  have h1 : i / 16384 = 0 := by omega
  have h2 : i / 128 % 128 = 118 := by omega
  unfold lit0t
  rw [h1]
  show lit0t1_0 i = _
  unfold lit0t1_0
  rw [h2]
  rfl

theorem block_119 (i : ℕ) (h : i / 128 = 119) : lit0t i = lit0t0_0 i := by
  have h1 : i / 16384 = 0 := by omega
  have h2 : i / 128 % 128 = 119 := by omega
  unfold lit0t
  rw [h1]
  show lit0t1_0 i = _
  unfold lit0t1_0
  rw [h2]
  rfl

theorem block_120 (i : ℕ) (h : i / 128 = 120) : lit0t i = lit0t0_0 i := by
  have h1 : i / 16384 = 0 := by omega
  have h2 : i / 128 % 128 = 120 := by omega
  unfold lit0t
  rw [h1]
  show lit0t1_0 i = _
  unfold lit0t1_0
  rw [h2]
  rfl

theorem block_121 (i : ℕ) (h : i / 128 = 121) : lit0t i = lit0t0_0 i := by
  have h1 : i / 16384 = 0 := by omega
  have h2 : i / 128 % 128 = 121 := by omega
  unfold lit0t
  rw [h1]
  show lit0t1_0 i = _
  unfold lit0t1_0
  rw [h2]
  rfl

theorem block_122 (i : ℕ) (h : i / 128 = 122) : lit0t i = lit0t0_0 i := by
  have h1 : i / 16384 = 0 := by omega
  have h2 : i / 128 % 128 = 122 := by omega
  unfold lit0t
  rw [h1]
  show lit0t1_0 i = _
  unfold lit0t1_0
  rw [h2]
  rfl

theorem block_123 (i : ℕ) (h : i / 128 = 123) : lit0t i = lit0t0_0 i := by
  have h1 : i / 16384 = 0 := by omega
  have h2 : i / 128 % 128 = 123 := by omega
  unfold lit0t
  rw [h1]
  show lit0t1_0 i = _
  unfold lit0t1_0
  rw [h2]
  rfl

theorem block_124 (i : ℕ) (h : i / 128 = 124) : lit0t i = lit0t0_124 i := by
  have h1 : i / 16384 = 0 := by omega
  have h2 : i / 128 % 128 = 124 := by omega
  unfold lit0t
  rw [h1]
  show lit0t1_0 i = _
  unfold lit0t1_0
  rw [h2]
  rfl

theorem block_125 (i : ℕ) (h : i / 128 = 125) : lit0t i = lit0t0_124 i := by
  have h1 : i / 16384 = 0 := by omega
  have h2 : i / 128 % 128 = 125 := by omega
  unfold lit0t
  rw [h1]
  show lit0t1_0 i = _
  unfold lit0t1_0
  rw [h2]
  rfl

theorem block_126 (i : ℕ) (h : i / 128 = 126) : lit0t i = lit0t0_124 i := by
  have h1 : i / 16384 = 0 := by omega
  have h2 : i / 128 % 128 = 126 := by omega
  unfold lit0t
  rw [h1]
  show lit0t1_0 i = _
  unfold lit0t1_0
  rw [h2]
  rfl

theorem block_127 (i : ℕ) (h : i / 128 = 127) : lit0t i = lit0t0_124 i := by
  have h1 : i / 16384 = 0 := by omega
  have h2 : i / 128 % 128 = 127 := by omega
  unfold lit0t
  rw [h1]
  show lit0t1_0 i = _
  unfold lit0t1_0
  rw [h2]
  rfl

theorem block_128 (i : ℕ) (h : i / 128 = 128) : lit0t i = lit0t0_128 i := by
  have h1 : i / 16384 = 1 := by omega
  have h2 : i / 128 % 128 = 0 := by omega
  unfold lit0t
  rw [h1]
  show lit0t1_1 i = _
  unfold lit0t1_1
  rw [h2]
  rfl

theorem block_129 (i : ℕ) (h : i / 128 = 129) : lit0t i = lit0t0_128 i := by
  have h1 : i / 16384 = 1 := by omega
  have h2 : i / 128 % 128 = 1 := by omega
  unfold lit0t
  rw [h1]
  show lit0t1_1 i = _
  unfold lit0t1_1
  rw [h2]
  rfl

theorem block_130 (i : ℕ) (h : i / 128 = 130) : lit0t i = lit0t0_128 i := by
  have h1 : i / 16384 = 1 := by omega
  have h2 : i / 128 % 128 = 2 := by omega
  unfold lit0t
  rw [h1]
  show lit0t1_1 i = _
  unfold lit0t1_1
  rw [h2]
  rfl

theorem block_131 (i : ℕ) (h : i / 128 = 131) : lit0t i = lit0t0_128 i := by
  have h1 : i / 16384 = 1 := by omega
  have h2 : i / 128 % 128 = 3 := by omega
  unfold lit0t
  rw [h1]
  show lit0t1_1 i = _
  unfold lit0t1_1
  rw [h2]
  rfl

theorem block_132 (i : ℕ) (h : i / 128 = 132) : lit0t i = lit0t0_128 i := by
  have h1 : i / 16384 = 1 := by omega
  have h2 : i / 128 % 128 = 4 := by omega
  unfold lit0t
  rw [h1]
  show lit0t1_1 i = _
  unfold lit0t1_1
  rw [h2]
  rfl

theorem block_133 (i : ℕ) (h : i / 128 = 133) : lit0t i = lit0t0_128 i := by
  have h1 : i / 16384 = 1 := by omega
  have h2 : i / 128 % 128 = 5 := by omega
  unfold lit0t
  rw [h1]
  show lit0t1_1 i = _
  unfold lit0t1_1
  rw [h2]
  rfl

theorem block_134 (i : ℕ) (h : i / 128 = 134) : lit0t i = lit0t0_128 i := by
  have h1 : i / 16384 = 1 := by omega
  have h2 : i / 128 % 128 = 6 := by omega
  unfold lit0t
  rw [h1]
  show lit0t1_1 i = _
  unfold lit0t1_1
  rw [h2]
  rfl

theorem block_135 (i : ℕ) (h : i / 128 = 135) : lit0t i = lit0t0_128 i := by
  have h1 : i / 16384 = 1 := by omega
  have h2 : i / 128 % 128 = 7 := by omega
  unfold lit0t
  rw [h1]
  show lit0t1_1 i = _
  unfold lit0t1_1
  rw [h2]
  rfl

theorem block_136 (i : ℕ) (h : i / 128 = 136) : lit0t i = lit0t0_128 i := by
  have h1 : i / 16384 = 1 := by omega
  have h2 : i / 128 % 128 = 8 := by omega
  unfold lit0t
  rw [h1]
  show lit0t1_1 i = _
  unfold lit0t1_1
  rw [h2]
  rfl

theorem block_137 (i : ℕ) (h : i / 128 = 137) : lit0t i = lit0t0_128 i := by
  have h1 : i / 16384 = 1 := by omega
  have h2 : i / 128 % 128 = 9 := by omega
  unfold lit0t
  rw [h1]
  show lit0t1_1 i = _
  unfold lit0t1_1
  rw [h2]
  rfl

theorem block_138 (i : ℕ) (h : i / 128 = 138) : lit0t i = lit0t0_128 i := by
  have h1 : i / 16384 = 1 := by omega
  have h2 : i / 128 % 128 = 10 := by omega
  unfold lit0t
  rw [h1]
  show lit0t1_1 i = _
  unfold lit0t1_1
  rw [h2]
  rfl

theorem block_139 (i : ℕ) (h : i / 128 = 139) : lit0t i = lit0t0_128 i := by
  have h1 : i / 16384 = 1 := by omega
  have h2 : i / 128 % 128 = 11 := by omega
  unfold lit0t
  rw [h1]
  show lit0t1_1 i = _
  unfold lit0t1_1
  rw [h2]
  rfl

theorem block_140 (i : ℕ) (h : i / 128 = 140) : lit0t i = lit0t0_128 i := by
  have h1 : i / 16384 = 1 := by omega
  have h2 : i / 128 % 128 = 12 := by omega
  unfold lit0t
  rw [h1]
  show lit0t1_1 i = _
  unfold lit0t1_1
  rw [h2]
  rfl

theorem block_141 (i : ℕ) (h : i / 128 = 141) : lit0t i = lit0t0_128 i := by
  have h1 : i / 16384 = 1 := by omega
  have h2 : i / 128 % 128 = 13 := by omega
  unfold lit0t
  rw [h1]
  show lit0t1_1 i = _
  unfold lit0t1_1
  rw [h2]
  rfl

theorem block_142 (i : ℕ) (h : i / 128 = 142) : lit0t i = lit0t0_128 i := by
  have h1 : i / 16384 = 1 := by omega
  have h2 : i / 128 % 128 = 14 := by omega
  unfold lit0t
  rw [h1]
  show lit0t1_1 i = _
  unfold lit0t1_1
  rw [h2]
  rfl

theorem block_143 (i : ℕ) (h : i / 128 = 143) : lit0t i = lit0t0_128 i := by
  have h1 : i / 16384 = 1 := by omega
  have h2 : i / 128 % 128 = 15 := by omega
  unfold lit0t
  rw [h1]
  show lit0t1_1 i = _
  unfold lit0t1_1
  rw [h2]
  rfl

theorem block_144 (i : ℕ) (h : i / 128 = 144) : lit0t i = lit0t0_144 i := by
  have h1 : i / 16384 = 1 := by omega
  have h2 : i / 128 % 128 = 16 := by omega
  unfold lit0t
  rw [h1]
  show lit0t1_1 i = _
  unfold lit0t1_1
  rw [h2]
  rfl

theorem block_145 (i : ℕ) (h : i / 128 = 145) : lit0t i = lit0t0_144 i := by
  have h1 : i / 16384 = 1 := by omega
  have h2 : i / 128 % 128 = 17 := by omega
  unfold lit0t
  rw [h1]
  show lit0t1_1 i = _
  unfold lit0t1_1
  rw [h2]
  rfl

theorem block_146 (i : ℕ) (h : i / 128 = 146) : lit0t i = lit0t0_144 i := by
  have h1 : i / 16384 = 1 := by omega
  have h2 : i / 128 % 128 = 18 := by omega
  unfold lit0t
  rw [h1]
  show lit0t1_1 i = _
  unfold lit0t1_1
  rw [h2]
  rfl

theorem block_147 (i : ℕ) (h : i / 128 = 147) : lit0t i = lit0t0_144 i := by
  have h1 : i / 16384 = 1 := by omega
  have h2 : i / 128 % 128 = 19 := by omega
  unfold lit0t
  rw [h1]
  show lit0t1_1 i = _
  unfold lit0t1_1
  rw [h2]
  rfl

theorem block_148 (i : ℕ) (h : i / 128 = 148) : lit0t i = lit0t0_144 i := by
  have h1 : i / 16384 = 1 := by omega
  have h2 : i / 128 % 128 = 20 := by omega
  unfold lit0t
  rw [h1]
  show lit0t1_1 i = _
  unfold lit0t1_1
  rw [h2]
  rfl

theorem block_149 (i : ℕ) (h : i / 128 = 149) : lit0t i = lit0t0_144 i := by
  have h1 : i / 16384 = 1 := by omega
  have h2 : i / 128 % 128 = 21 := by omega
  unfold lit0t
  rw [h1]
  show lit0t1_1 i = _
  unfold lit0t1_1
  rw [h2]
  rfl

theorem block_150 (i : ℕ) (h : i / 128 = 150) : lit0t i = lit0t0_144 i := by
  have h1 : i / 16384 = 1 := by omega
  have h2 : i / 128 % 128 = 22 := by omega
  unfold lit0t
  rw [h1]
  show lit0t1_1 i = _
  unfold lit0t1_1
  rw [h2]
  rfl

theorem block_151 (i : ℕ) (h : i / 128 = 151) : lit0t i = lit0t0_144 i := by
  have h1 : i / 16384 = 1 := by omega
  have h2 : i / 128 % 128 = 23 := by omega
  unfold lit0t
  rw [h1]
  show lit0t1_1 i = _
  unfold lit0t1_1
  rw [h2]
  rfl

theorem block_152 (i : ℕ) (h : i / 128 = 152) : lit0t i = lit0t0_144 i := by
  have h1 : i / 16384 = 1 := by omega
  have h2 : i / 128 % 128 = 24 := by omega
  unfold lit0t
  rw [h1]
  show lit0t1_1 i = _
  unfold lit0t1_1
  rw [h2]
  rfl

theorem block_153 (i : ℕ) (h : i / 128 = 153) : lit0t i = lit0t0_144 i := by
  have h1 : i / 16384 = 1 := by omega
  have h2 : i / 128 % 128 = 25 := by omega
  unfold lit0t
  rw [h1]
  show lit0t1_1 i = _
  unfold lit0t1_1
  rw [h2]
  rfl

theorem block_154 (i : ℕ) (h : i / 128 = 154) : lit0t i = lit0t0_144 i := by
  have h1 : i / 16384 = 1 := by omega
  have h2 : i / 128 % 128 = 26 := by omega
  unfold lit0t
  rw [h1]
  show lit0t1_1 i = _
  unfold lit0t1_1
  rw [h2]
  rfl

theorem block_155 (i : ℕ) (h : i / 128 = 155) : lit0t i = lit0t0_144 i := by
  have h1 : i / 16384 = 1 := by omega
  have h2 : i / 128 % 128 = 27 := by omega
  unfold lit0t
  rw [h1]
  show lit0t1_1 i = _
  unfold lit0t1_1
  rw [h2]
  rfl

theorem block_156 (i : ℕ) (h : i / 128 = 156) : lit0t i = lit0t0_144 i := by
  have h1 : i / 16384 = 1 := by omega
  have h2 : i / 128 % 128 = 28 := by omega
  unfold lit0t
  rw [h1]
  show lit0t1_1 i = _
  unfold lit0t1_1
  rw [h2]
  rfl

theorem block_157 (i : ℕ) (h : i / 128 = 157) : lit0t i = lit0t0_144 i := by
  have h1 : i / 16384 = 1 := by omega
  have h2 : i / 128 % 128 = 29 := by omega
  unfold lit0t
  rw [h1]
  show lit0t1_1 i = _
  unfold lit0t1_1
  rw [h2]
  rfl

theorem block_158 (i : ℕ) (h : i / 128 = 158) : lit0t i = lit0t0_144 i := by
  have h1 : i / 16384 = 1 := by omega
  have h2 : i / 128 % 128 = 30 := by omega
  unfold lit0t
  rw [h1]
  show lit0t1_1 i = _
  unfold lit0t1_1
  rw [h2]
  rfl

theorem block_159 (i : ℕ) (h : i / 128 = 159) : lit0t i = lit0t0_144 i := by
  have h1 : i / 16384 = 1 := by omega
  have h2 : i / 128 % 128 = 31 := by omega
  unfold lit0t
  rw [h1]
  show lit0t1_1 i = _
  unfold lit0t1_1
  rw [h2]
  rfl

theorem block_160 (i : ℕ) (h : i / 128 = 160) : lit0t i = lit0t0_160 i := by
  have h1 : i / 16384 = 1 := by omega
  have h2 : i / 128 % 128 = 32 := by omega
  unfold lit0t
  rw [h1]
  show lit0t1_1 i = _
  unfold lit0t1_1
  rw [h2]
  rfl

theorem block_161 (i : ℕ) (h : i / 128 = 161) : lit0t i = lit0t0_160 i := by
  have h1 : i / 16384 = 1 := by omega
  have h2 : i / 128 % 128 = 33 := by omega
  unfold lit0t
  rw [h1]
  show lit0t1_1 i = _
  unfold lit0t1_1
  rw [h2]
  rfl

theorem block_162 (i : ℕ) (h : i / 128 = 162) : lit0t i = lit0t0_160 i := by
  have h1 : i / 16384 = 1 := by omega
  have h2 : i / 128 % 128 = 34 := by omega
  unfold lit0t
  rw [h1]
  show lit0t1_1 i = _
  unfold lit0t1_1
  rw [h2]
  rfl

theorem block_163 (i : ℕ) (h : i / 128 = 163) : lit0t i = lit0t0_160 i := by
  have h1 : i / 16384 = 1 := by omega
  have h2 : i / 128 % 128 = 35 := by omega
  unfold lit0t
  rw [h1]
  show lit0t1_1 i = _
  unfold lit0t1_1
  rw [h2]
  rfl

theorem block_164 (i : ℕ) (h : i / 128 = 164) : lit0t i = lit0t0_160 i := by
  have h1 : i / 16384 = 1 := by omega
  have h2 : i / 128 % 128 = 36 := by omega
  unfold lit0t
  rw [h1]
  show lit0t1_1 i = _
  unfold lit0t1_1
  rw [h2]
  rfl

theorem block_165 (i : ℕ) (h : i / 128 = 165) : lit0t i = lit0t0_160 i := by
  have h1 : i / 16384 = 1 := by omega
  have h2 : i / 128 % 128 = 37 := by omega
  unfold lit0t
  rw [h1]
  show lit0t1_1 i = _
  unfold lit0t1_1
  rw [h2]
  rfl

theorem block_166 (i : ℕ) (h : i / 128 = 166) : lit0t i = lit0t0_160 i := by
  have h1 : i / 16384 = 1 := by omega
  have h2 : i / 128 % 128 = 38 := by omega
  unfold lit0t
  rw [h1]
  show lit0t1_1 i = _
  unfold lit0t1_1
  rw [h2]
  rfl

theorem block_167 (i : ℕ) (h : i / 128 = 167) : lit0t i = lit0t0_160 i := by
  have h1 : i / 16384 = 1 := by omega
  have h2 : i / 128 % 128 = 39 := by omega
  unfold lit0t
  rw [h1]
  show lit0t1_1 i = _
  unfold lit0t1_1
  rw [h2]
  rfl

theorem block_168 (i : ℕ) (h : i / 128 = 168) : lit0t i = lit0t0_160 i := by
  have h1 : i / 16384 = 1 := by omega
  have h2 : i / 128 % 128 = 40 := by omega
  unfold lit0t
  rw [h1]
  show lit0t1_1 i = _
  unfold lit0t1_1
  rw [h2]
  rfl

theorem block_169 (i : ℕ) (h : i / 128 = 169) : lit0t i = lit0t0_160 i := by
  have h1 : i / 16384 = 1 := by omega
  have h2 : i / 128 % 128 = 41 := by omega
  unfold lit0t
  rw [h1]
  show lit0t1_1 i = _
  unfold lit0t1_1
  rw [h2]
  rfl

theorem block_170 (i : ℕ) (h : i / 128 = 170) : lit0t i = lit0t0_160 i := by
  have h1 : i / 16384 = 1 := by omega
  have h2 : i / 128 % 128 = 42 := by omega
  unfold lit0t
  rw [h1]
  show lit0t1_1 i = _
  unfold lit0t1_1
  rw [h2]
  rfl

theorem block_171 (i : ℕ) (h : i / 128 = 171) : lit0t i = lit0t0_160 i := by
  have h1 : i / 16384 = 1 := by omega
  have h2 : i / 128 % 128 = 43 := by omega
  unfold lit0t
  rw [h1]
  show lit0t1_1 i = _
  unfold lit0t1_1
  rw [h2]
  rfl

theorem block_172 (i : ℕ) (h : i / 128 = 172) : lit0t i = lit0t0_160 i := by
  have h1 : i / 16384 = 1 := by omega
  have h2 : i / 128 % 128 = 44 := by omega
  unfold lit0t
  rw [h1]
  show lit0t1_1 i = _
  unfold lit0t1_1
  rw [h2]
  rfl

theorem block_173 (i : ℕ) (h : i / 128 = 173) : lit0t i = lit0t0_160 i := by
  have h1 : i / 16384 = 1 := by omega
  have h2 : i / 128 % 128 = 45 := by omega
  unfold lit0t
  rw [h1]
  show lit0t1_1 i = _
  unfold lit0t1_1
  rw [h2]
  rfl

theorem block_174 (i : ℕ) (h : i / 128 = 174) : lit0t i = lit0t0_160 i := by
  have h1 : i / 16384 = 1 := by omega
  have h2 : i / 128 % 128 = 46 := by omega
  unfold lit0t
  rw [h1]
  show lit0t1_1 i = _
  unfold lit0t1_1
  rw [h2]
  rfl

theorem block_175 (i : ℕ) (h : i / 128 = 175) : lit0t i = lit0t0_160 i := by
  have h1 : i / 16384 = 1 := by omega
  have h2 : i / 128 % 128 = 47 := by omega
  unfold lit0t
  rw [h1]
  show lit0t1_1 i = _
  unfold lit0t1_1
  rw [h2]
  rfl

theorem block_176 (i : ℕ) (h : i / 128 = 176) : lit0t i = lit0t0_176 i := by
  have h1 : i / 16384 = 1 := by omega
  have h2 : i / 128 % 128 = 48 := by omega
  unfold lit0t
  rw [h1]
  show lit0t1_1 i = _
  unfold lit0t1_1
  rw [h2]
  rfl

theorem block_177 (i : ℕ) (h : i / 128 = 177) : lit0t i = lit0t0_176 i := by
  have h1 : i / 16384 = 1 := by omega
  have h2 : i / 128 % 128 = 49 := by omega
  unfold lit0t
  rw [h1]
  show lit0t1_1 i = _
  unfold lit0t1_1
  rw [h2]
  rfl

theorem block_178 (i : ℕ) (h : i / 128 = 178) : lit0t i = lit0t0_176 i := by
  have h1 : i / 16384 = 1 := by omega
  have h2 : i / 128 % 128 = 50 := by omega
  unfold lit0t
  rw [h1]
  show lit0t1_1 i = _
  unfold lit0t1_1
  rw [h2]
  rfl

theorem block_179 (i : ℕ) (h : i / 128 = 179) : lit0t i = lit0t0_176 i := by
  have h1 : i / 16384 = 1 := by omega
  have h2 : i / 128 % 128 = 51 := by omega
  unfold lit0t
  rw [h1]
  show lit0t1_1 i = _
  unfold lit0t1_1
  rw [h2]
  rfl

theorem block_180 (i : ℕ) (h : i / 128 = 180) : lit0t i = lit0t0_176 i := by
  have h1 : i / 16384 = 1 := by omega
  have h2 : i / 128 % 128 = 52 := by omega
  unfold lit0t
  rw [h1]
  show lit0t1_1 i = _
  unfold lit0t1_1
  rw [h2]
  rfl

theorem block_181 (i : ℕ) (h : i / 128 = 181) : lit0t i = lit0t0_176 i := by
  have h1 : i / 16384 = 1 := by omega
  have h2 : i / 128 % 128 = 53 := by omega
  unfold lit0t
  rw [h1]
  show lit0t1_1 i = _
  unfold lit0t1_1
  rw [h2]
  rfl

theorem block_182 (i : ℕ) (h : i / 128 = 182) : lit0t i = lit0t0_176 i := by
  have h1 : i / 16384 = 1 := by omega
  have h2 : i / 128 % 128 = 54 := by omega
  unfold lit0t
  rw [h1]
  show lit0t1_1 i = _
  unfold lit0t1_1
  rw [h2]
  rfl

theorem block_183 (i : ℕ) (h : i / 128 = 183) : lit0t i = lit0t0_176 i := by
  have h1 : i / 16384 = 1 := by omega
  have h2 : i / 128 % 128 = 55 := by omega
  unfold lit0t
  rw [h1]
  show lit0t1_1 i = _
  unfold lit0t1_1
  rw [h2]
  rfl

theorem block_184 (i : ℕ) (h : i / 128 = 184) : lit0t i = lit0t0_176 i := by
  have h1 : i / 16384 = 1 := by omega
  have h2 : i / 128 % 128 = 56 := by omega
  unfold lit0t
  rw [h1]
  show lit0t1_1 i = _
  unfold lit0t1_1
  rw [h2]
  rfl

theorem block_185 (i : ℕ) (h : i / 128 = 185) : lit0t i = lit0t0_176 i := by
  have h1 : i / 16384 = 1 := by omega
  have h2 : i / 128 % 128 = 57 := by omega
  unfold lit0t
  rw [h1]
  show lit0t1_1 i = _
  unfold lit0t1_1
  rw [h2]
  rfl

theorem block_186 (i : ℕ) (h : i / 128 = 186) : lit0t i = lit0t0_176 i := by
  have h1 : i / 16384 = 1 := by omega
  have h2 : i / 128 % 128 = 58 := by omega
  unfold lit0t
  rw [h1]
  show lit0t1_1 i = _
  unfold lit0t1_1
  rw [h2]
  rfl

theorem block_187 (i : ℕ) (h : i / 128 = 187) : lit0t i = lit0t0_176 i := by
  have h1 : i / 16384 = 1 := by omega
  have h2 : i / 128 % 128 = 59 := by omega
  unfold lit0t
  rw [h1]
  show lit0t1_1 i = _
  unfold lit0t1_1
  rw [h2]
  rfl

theorem block_188 (i : ℕ) (h : i / 128 = 188) : lit0t i = lit0t0_176 i := by
  have h1 : i / 16384 = 1 := by omega
  have h2 : i / 128 % 128 = 60 := by omega
  unfold lit0t
  rw [h1]
  show lit0t1_1 i = _
  unfold lit0t1_1
  rw [h2]
  rfl

theorem block_189 (i : ℕ) (h : i / 128 = 189) : lit0t i = lit0t0_176 i := by
  have h1 : i / 16384 = 1 := by omega
  have h2 : i / 128 % 128 = 61 := by omega
  unfold lit0t
  rw [h1]
  show lit0t1_1 i = _
  unfold lit0t1_1
  rw [h2]
  rfl

theorem block_190 (i : ℕ) (h : i / 128 = 190) : lit0t i = lit0t0_176 i := by
  have h1 : i / 16384 = 1 := by omega
  have h2 : i / 128 % 128 = 62 := by omega
  unfold lit0t
  rw [h1]
  show lit0t1_1 i = _
  unfold lit0t1_1
  rw [h2]
  rfl

theorem block_191 (i : ℕ) (h : i / 128 = 191) : lit0t i = lit0t0_176 i := by
  have h1 : i / 16384 = 1 := by omega
  have h2 : i / 128 % 128 = 63 := by omega
  unfold lit0t
  rw [h1]
  show lit0t1_1 i = _
  unfold lit0t1_1
  rw [h2]
  rfl

theorem entry_0 (i : ℕ) : lit0t0_0 i = 0#32 := by
  have e : lit0t0_0 i = lit0t0_0 (i % 128) := by unfold lit0t0_0; rw [Nat.mod_mod]
  have k : ((List.range 128).all fun b => lit0t0_0 b == 0#32) = true := by decide +kernel
  rw [e]
  exact eq_of_beq (List.all_eq_true.mp k (i % 128) (List.mem_range.mpr (by omega)))

theorem entry_15 (i : ℕ) : lit0t0_15 i = if 0 ≤ i % 128 then 0x3F800000#32 else 0#32 := by
  have e : lit0t0_15 i = lit0t0_15 (i % 128) := by unfold lit0t0_15; rw [Nat.mod_mod]
  have k : ((List.range 128).all fun b => lit0t0_15 b == if 0 ≤ b then 0x3F800000#32 else 0#32) = true := by decide +kernel
  rw [e]
  exact eq_of_beq (List.all_eq_true.mp k (i % 128) (List.mem_range.mpr (by omega)))

theorem entry_31 (i : ℕ) : lit0t0_31 i = if 1 ≤ i % 128 then 0x3F800000#32 else 0#32 := by
  have e : lit0t0_31 i = lit0t0_31 (i % 128) := by unfold lit0t0_31; rw [Nat.mod_mod]
  have k : ((List.range 128).all fun b => lit0t0_31 b == if 1 ≤ b then 0x3F800000#32 else 0#32) = true := by decide +kernel
  rw [e]
  exact eq_of_beq (List.all_eq_true.mp k (i % 128) (List.mem_range.mpr (by omega)))

theorem entry_47 (i : ℕ) : lit0t0_47 i = if 2 ≤ i % 128 then 0x3F800000#32 else 0#32 := by
  have e : lit0t0_47 i = lit0t0_47 (i % 128) := by unfold lit0t0_47; rw [Nat.mod_mod]
  have k : ((List.range 128).all fun b => lit0t0_47 b == if 2 ≤ b then 0x3F800000#32 else 0#32) = true := by decide +kernel
  rw [e]
  exact eq_of_beq (List.all_eq_true.mp k (i % 128) (List.mem_range.mpr (by omega)))

theorem entry_63 (i : ℕ) : lit0t0_63 i = if 3 ≤ i % 128 then 0x3F800000#32 else 0#32 := by
  have e : lit0t0_63 i = lit0t0_63 (i % 128) := by unfold lit0t0_63; rw [Nat.mod_mod]
  have k : ((List.range 128).all fun b => lit0t0_63 b == if 3 ≤ b then 0x3F800000#32 else 0#32) = true := by decide +kernel
  rw [e]
  exact eq_of_beq (List.all_eq_true.mp k (i % 128) (List.mem_range.mpr (by omega)))

theorem entry_76 (i : ℕ) : lit0t0_76 i = if i % 128 % 4 = 0 then 0x3F800000#32 else 0#32 := by
  have e : lit0t0_76 i = lit0t0_76 (i % 128) := by unfold lit0t0_76; rw [Nat.mod_mod]
  have k : ((List.range 128).all fun b => lit0t0_76 b == if b % 4 = 0 then 0x3F800000#32 else 0#32) = true := by decide +kernel
  rw [e]
  exact eq_of_beq (List.all_eq_true.mp k (i % 128) (List.mem_range.mpr (by omega)))

theorem entry_92 (i : ℕ) : lit0t0_92 i = if i % 128 % 4 = 1 then 0x3F800000#32 else 0#32 := by
  have e : lit0t0_92 i = lit0t0_92 (i % 128) := by unfold lit0t0_92; rw [Nat.mod_mod]
  have k : ((List.range 128).all fun b => lit0t0_92 b == if b % 4 = 1 then 0x3F800000#32 else 0#32) = true := by decide +kernel
  rw [e]
  exact eq_of_beq (List.all_eq_true.mp k (i % 128) (List.mem_range.mpr (by omega)))

theorem entry_108 (i : ℕ) : lit0t0_108 i = if i % 128 % 4 = 2 then 0x3F800000#32 else 0#32 := by
  have e : lit0t0_108 i = lit0t0_108 (i % 128) := by unfold lit0t0_108; rw [Nat.mod_mod]
  have k : ((List.range 128).all fun b => lit0t0_108 b == if b % 4 = 2 then 0x3F800000#32 else 0#32) = true := by decide +kernel
  rw [e]
  exact eq_of_beq (List.all_eq_true.mp k (i % 128) (List.mem_range.mpr (by omega)))

theorem entry_124 (i : ℕ) : lit0t0_124 i = if i % 128 % 4 = 3 then 0x3F800000#32 else 0#32 := by
  have e : lit0t0_124 i = lit0t0_124 (i % 128) := by unfold lit0t0_124; rw [Nat.mod_mod]
  have k : ((List.range 128).all fun b => lit0t0_124 b == if b % 4 = 3 then 0x3F800000#32 else 0#32) = true := by decide +kernel
  rw [e]
  exact eq_of_beq (List.all_eq_true.mp k (i % 128) (List.mem_range.mpr (by omega)))

theorem entry_128 (i : ℕ) : lit0t0_128 i = if i % 128 % 16 = 0 then 0x3F800000#32 else 0#32 := by
  have e : lit0t0_128 i = lit0t0_128 (i % 128) := by unfold lit0t0_128; rw [Nat.mod_mod]
  have k : ((List.range 128).all fun b => lit0t0_128 b == if b % 16 = 0 then 0x3F800000#32 else 0#32) = true := by decide +kernel
  rw [e]
  exact eq_of_beq (List.all_eq_true.mp k (i % 128) (List.mem_range.mpr (by omega)))

theorem entry_144 (i : ℕ) : lit0t0_144 i = if i % 128 % 16 = 1 then 0x3F800000#32 else 0#32 := by
  have e : lit0t0_144 i = lit0t0_144 (i % 128) := by unfold lit0t0_144; rw [Nat.mod_mod]
  have k : ((List.range 128).all fun b => lit0t0_144 b == if b % 16 = 1 then 0x3F800000#32 else 0#32) = true := by decide +kernel
  rw [e]
  exact eq_of_beq (List.all_eq_true.mp k (i % 128) (List.mem_range.mpr (by omega)))

theorem entry_160 (i : ℕ) : lit0t0_160 i = if i % 128 % 16 = 2 then 0x3F800000#32 else 0#32 := by
  have e : lit0t0_160 i = lit0t0_160 (i % 128) := by unfold lit0t0_160; rw [Nat.mod_mod]
  have k : ((List.range 128).all fun b => lit0t0_160 b == if b % 16 = 2 then 0x3F800000#32 else 0#32) = true := by decide +kernel
  rw [e]
  exact eq_of_beq (List.all_eq_true.mp k (i % 128) (List.mem_range.mpr (by omega)))

theorem entry_176 (i : ℕ) : lit0t0_176 i = if i % 128 % 16 = 3 then 0x3F800000#32 else 0#32 := by
  have e : lit0t0_176 i = lit0t0_176 (i % 128) := by unfold lit0t0_176; rw [Nat.mod_mod]
  have k : ((List.range 128).all fun b => lit0t0_176 b == if b % 16 = 3 then 0x3F800000#32 else 0#32) = true := by decide +kernel
  rw [e]
  exact eq_of_beq (List.all_eq_true.mp k (i % 128) (List.mem_range.mpr (by omega)))

theorem row_0 (i : ℕ) (h : i / 2048 = 0) : lit0t i = if 1920 + 0 ≤ i % 2048 then 0x3F800000#32 else 0#32 := by
  have hb : i / 128 = 0 ∨ i / 128 = 1 ∨ i / 128 = 2 ∨ i / 128 = 3 ∨ i / 128 = 4 ∨ i / 128 = 5 ∨ i / 128 = 6 ∨ i / 128 = 7 ∨ i / 128 = 8 ∨ i / 128 = 9 ∨ i / 128 = 10 ∨ i / 128 = 11 ∨ i / 128 = 12 ∨ i / 128 = 13 ∨ i / 128 = 14 ∨ i / 128 = 15 := by omega
  rcases hb with h | h | h | h | h | h | h | h | h | h | h | h | h | h | h | h
  · rw [block_0 i h, entry_0, if_neg (by omega)]
  · rw [block_1 i h, entry_0, if_neg (by omega)]
  · rw [block_2 i h, entry_0, if_neg (by omega)]
  · rw [block_3 i h, entry_0, if_neg (by omega)]
  · rw [block_4 i h, entry_0, if_neg (by omega)]
  · rw [block_5 i h, entry_0, if_neg (by omega)]
  · rw [block_6 i h, entry_0, if_neg (by omega)]
  · rw [block_7 i h, entry_0, if_neg (by omega)]
  · rw [block_8 i h, entry_0, if_neg (by omega)]
  · rw [block_9 i h, entry_0, if_neg (by omega)]
  · rw [block_10 i h, entry_0, if_neg (by omega)]
  · rw [block_11 i h, entry_0, if_neg (by omega)]
  · rw [block_12 i h, entry_0, if_neg (by omega)]
  · rw [block_13 i h, entry_0, if_neg (by omega)]
  · rw [block_14 i h, entry_0, if_neg (by omega)]
  · rw [block_15 i h, entry_15]
    exact if_congr (by omega) rfl rfl

theorem row_1 (i : ℕ) (h : i / 2048 = 1) : lit0t i = if 1920 + 1 ≤ i % 2048 then 0x3F800000#32 else 0#32 := by
  have hb : i / 128 = 16 ∨ i / 128 = 17 ∨ i / 128 = 18 ∨ i / 128 = 19 ∨ i / 128 = 20 ∨ i / 128 = 21 ∨ i / 128 = 22 ∨ i / 128 = 23 ∨ i / 128 = 24 ∨ i / 128 = 25 ∨ i / 128 = 26 ∨ i / 128 = 27 ∨ i / 128 = 28 ∨ i / 128 = 29 ∨ i / 128 = 30 ∨ i / 128 = 31 := by omega
  rcases hb with h | h | h | h | h | h | h | h | h | h | h | h | h | h | h | h
  · rw [block_16 i h, entry_0, if_neg (by omega)]
  · rw [block_17 i h, entry_0, if_neg (by omega)]
  · rw [block_18 i h, entry_0, if_neg (by omega)]
  · rw [block_19 i h, entry_0, if_neg (by omega)]
  · rw [block_20 i h, entry_0, if_neg (by omega)]
  · rw [block_21 i h, entry_0, if_neg (by omega)]
  · rw [block_22 i h, entry_0, if_neg (by omega)]
  · rw [block_23 i h, entry_0, if_neg (by omega)]
  · rw [block_24 i h, entry_0, if_neg (by omega)]
  · rw [block_25 i h, entry_0, if_neg (by omega)]
  · rw [block_26 i h, entry_0, if_neg (by omega)]
  · rw [block_27 i h, entry_0, if_neg (by omega)]
  · rw [block_28 i h, entry_0, if_neg (by omega)]
  · rw [block_29 i h, entry_0, if_neg (by omega)]
  · rw [block_30 i h, entry_0, if_neg (by omega)]
  · rw [block_31 i h, entry_31]
    exact if_congr (by omega) rfl rfl

theorem row_2 (i : ℕ) (h : i / 2048 = 2) : lit0t i = if 1920 + 2 ≤ i % 2048 then 0x3F800000#32 else 0#32 := by
  have hb : i / 128 = 32 ∨ i / 128 = 33 ∨ i / 128 = 34 ∨ i / 128 = 35 ∨ i / 128 = 36 ∨ i / 128 = 37 ∨ i / 128 = 38 ∨ i / 128 = 39 ∨ i / 128 = 40 ∨ i / 128 = 41 ∨ i / 128 = 42 ∨ i / 128 = 43 ∨ i / 128 = 44 ∨ i / 128 = 45 ∨ i / 128 = 46 ∨ i / 128 = 47 := by omega
  rcases hb with h | h | h | h | h | h | h | h | h | h | h | h | h | h | h | h
  · rw [block_32 i h, entry_0, if_neg (by omega)]
  · rw [block_33 i h, entry_0, if_neg (by omega)]
  · rw [block_34 i h, entry_0, if_neg (by omega)]
  · rw [block_35 i h, entry_0, if_neg (by omega)]
  · rw [block_36 i h, entry_0, if_neg (by omega)]
  · rw [block_37 i h, entry_0, if_neg (by omega)]
  · rw [block_38 i h, entry_0, if_neg (by omega)]
  · rw [block_39 i h, entry_0, if_neg (by omega)]
  · rw [block_40 i h, entry_0, if_neg (by omega)]
  · rw [block_41 i h, entry_0, if_neg (by omega)]
  · rw [block_42 i h, entry_0, if_neg (by omega)]
  · rw [block_43 i h, entry_0, if_neg (by omega)]
  · rw [block_44 i h, entry_0, if_neg (by omega)]
  · rw [block_45 i h, entry_0, if_neg (by omega)]
  · rw [block_46 i h, entry_0, if_neg (by omega)]
  · rw [block_47 i h, entry_47]
    exact if_congr (by omega) rfl rfl

theorem row_3 (i : ℕ) (h : i / 2048 = 3) : lit0t i = if 1920 + 3 ≤ i % 2048 then 0x3F800000#32 else 0#32 := by
  have hb : i / 128 = 48 ∨ i / 128 = 49 ∨ i / 128 = 50 ∨ i / 128 = 51 ∨ i / 128 = 52 ∨ i / 128 = 53 ∨ i / 128 = 54 ∨ i / 128 = 55 ∨ i / 128 = 56 ∨ i / 128 = 57 ∨ i / 128 = 58 ∨ i / 128 = 59 ∨ i / 128 = 60 ∨ i / 128 = 61 ∨ i / 128 = 62 ∨ i / 128 = 63 := by omega
  rcases hb with h | h | h | h | h | h | h | h | h | h | h | h | h | h | h | h
  · rw [block_48 i h, entry_0, if_neg (by omega)]
  · rw [block_49 i h, entry_0, if_neg (by omega)]
  · rw [block_50 i h, entry_0, if_neg (by omega)]
  · rw [block_51 i h, entry_0, if_neg (by omega)]
  · rw [block_52 i h, entry_0, if_neg (by omega)]
  · rw [block_53 i h, entry_0, if_neg (by omega)]
  · rw [block_54 i h, entry_0, if_neg (by omega)]
  · rw [block_55 i h, entry_0, if_neg (by omega)]
  · rw [block_56 i h, entry_0, if_neg (by omega)]
  · rw [block_57 i h, entry_0, if_neg (by omega)]
  · rw [block_58 i h, entry_0, if_neg (by omega)]
  · rw [block_59 i h, entry_0, if_neg (by omega)]
  · rw [block_60 i h, entry_0, if_neg (by omega)]
  · rw [block_61 i h, entry_0, if_neg (by omega)]
  · rw [block_62 i h, entry_0, if_neg (by omega)]
  · rw [block_63 i h, entry_63]
    exact if_congr (by omega) rfl rfl

theorem row_4 (i : ℕ) (h : i / 2048 = 4) : lit0t i = if 1536 ≤ i % 2048 ∧ i % 4 = 0 then 0x3F800000#32 else 0#32 := by
  have hb : i / 128 = 64 ∨ i / 128 = 65 ∨ i / 128 = 66 ∨ i / 128 = 67 ∨ i / 128 = 68 ∨ i / 128 = 69 ∨ i / 128 = 70 ∨ i / 128 = 71 ∨ i / 128 = 72 ∨ i / 128 = 73 ∨ i / 128 = 74 ∨ i / 128 = 75 ∨ i / 128 = 76 ∨ i / 128 = 77 ∨ i / 128 = 78 ∨ i / 128 = 79 := by omega
  rcases hb with h | h | h | h | h | h | h | h | h | h | h | h | h | h | h | h
  · rw [block_64 i h, entry_0, if_neg (by omega)]
  · rw [block_65 i h, entry_0, if_neg (by omega)]
  · rw [block_66 i h, entry_0, if_neg (by omega)]
  · rw [block_67 i h, entry_0, if_neg (by omega)]
  · rw [block_68 i h, entry_0, if_neg (by omega)]
  · rw [block_69 i h, entry_0, if_neg (by omega)]
  · rw [block_70 i h, entry_0, if_neg (by omega)]
  · rw [block_71 i h, entry_0, if_neg (by omega)]
  · rw [block_72 i h, entry_0, if_neg (by omega)]
  · rw [block_73 i h, entry_0, if_neg (by omega)]
  · rw [block_74 i h, entry_0, if_neg (by omega)]
  · rw [block_75 i h, entry_0, if_neg (by omega)]
  · rw [block_76 i h, entry_76]
    exact if_congr (by omega) rfl rfl
  · rw [block_77 i h, entry_76]
    exact if_congr (by omega) rfl rfl
  · rw [block_78 i h, entry_76]
    exact if_congr (by omega) rfl rfl
  · rw [block_79 i h, entry_76]
    exact if_congr (by omega) rfl rfl

theorem row_5 (i : ℕ) (h : i / 2048 = 5) : lit0t i = if 1536 ≤ i % 2048 ∧ i % 4 = 1 then 0x3F800000#32 else 0#32 := by
  have hb : i / 128 = 80 ∨ i / 128 = 81 ∨ i / 128 = 82 ∨ i / 128 = 83 ∨ i / 128 = 84 ∨ i / 128 = 85 ∨ i / 128 = 86 ∨ i / 128 = 87 ∨ i / 128 = 88 ∨ i / 128 = 89 ∨ i / 128 = 90 ∨ i / 128 = 91 ∨ i / 128 = 92 ∨ i / 128 = 93 ∨ i / 128 = 94 ∨ i / 128 = 95 := by omega
  rcases hb with h | h | h | h | h | h | h | h | h | h | h | h | h | h | h | h
  · rw [block_80 i h, entry_0, if_neg (by omega)]
  · rw [block_81 i h, entry_0, if_neg (by omega)]
  · rw [block_82 i h, entry_0, if_neg (by omega)]
  · rw [block_83 i h, entry_0, if_neg (by omega)]
  · rw [block_84 i h, entry_0, if_neg (by omega)]
  · rw [block_85 i h, entry_0, if_neg (by omega)]
  · rw [block_86 i h, entry_0, if_neg (by omega)]
  · rw [block_87 i h, entry_0, if_neg (by omega)]
  · rw [block_88 i h, entry_0, if_neg (by omega)]
  · rw [block_89 i h, entry_0, if_neg (by omega)]
  · rw [block_90 i h, entry_0, if_neg (by omega)]
  · rw [block_91 i h, entry_0, if_neg (by omega)]
  · rw [block_92 i h, entry_92]
    exact if_congr (by omega) rfl rfl
  · rw [block_93 i h, entry_92]
    exact if_congr (by omega) rfl rfl
  · rw [block_94 i h, entry_92]
    exact if_congr (by omega) rfl rfl
  · rw [block_95 i h, entry_92]
    exact if_congr (by omega) rfl rfl

theorem row_6 (i : ℕ) (h : i / 2048 = 6) : lit0t i = if 1536 ≤ i % 2048 ∧ i % 4 = 2 then 0x3F800000#32 else 0#32 := by
  have hb : i / 128 = 96 ∨ i / 128 = 97 ∨ i / 128 = 98 ∨ i / 128 = 99 ∨ i / 128 = 100 ∨ i / 128 = 101 ∨ i / 128 = 102 ∨ i / 128 = 103 ∨ i / 128 = 104 ∨ i / 128 = 105 ∨ i / 128 = 106 ∨ i / 128 = 107 ∨ i / 128 = 108 ∨ i / 128 = 109 ∨ i / 128 = 110 ∨ i / 128 = 111 := by omega
  rcases hb with h | h | h | h | h | h | h | h | h | h | h | h | h | h | h | h
  · rw [block_96 i h, entry_0, if_neg (by omega)]
  · rw [block_97 i h, entry_0, if_neg (by omega)]
  · rw [block_98 i h, entry_0, if_neg (by omega)]
  · rw [block_99 i h, entry_0, if_neg (by omega)]
  · rw [block_100 i h, entry_0, if_neg (by omega)]
  · rw [block_101 i h, entry_0, if_neg (by omega)]
  · rw [block_102 i h, entry_0, if_neg (by omega)]
  · rw [block_103 i h, entry_0, if_neg (by omega)]
  · rw [block_104 i h, entry_0, if_neg (by omega)]
  · rw [block_105 i h, entry_0, if_neg (by omega)]
  · rw [block_106 i h, entry_0, if_neg (by omega)]
  · rw [block_107 i h, entry_0, if_neg (by omega)]
  · rw [block_108 i h, entry_108]
    exact if_congr (by omega) rfl rfl
  · rw [block_109 i h, entry_108]
    exact if_congr (by omega) rfl rfl
  · rw [block_110 i h, entry_108]
    exact if_congr (by omega) rfl rfl
  · rw [block_111 i h, entry_108]
    exact if_congr (by omega) rfl rfl

theorem row_7 (i : ℕ) (h : i / 2048 = 7) : lit0t i = if 1536 ≤ i % 2048 ∧ i % 4 = 3 then 0x3F800000#32 else 0#32 := by
  have hb : i / 128 = 112 ∨ i / 128 = 113 ∨ i / 128 = 114 ∨ i / 128 = 115 ∨ i / 128 = 116 ∨ i / 128 = 117 ∨ i / 128 = 118 ∨ i / 128 = 119 ∨ i / 128 = 120 ∨ i / 128 = 121 ∨ i / 128 = 122 ∨ i / 128 = 123 ∨ i / 128 = 124 ∨ i / 128 = 125 ∨ i / 128 = 126 ∨ i / 128 = 127 := by omega
  rcases hb with h | h | h | h | h | h | h | h | h | h | h | h | h | h | h | h
  · rw [block_112 i h, entry_0, if_neg (by omega)]
  · rw [block_113 i h, entry_0, if_neg (by omega)]
  · rw [block_114 i h, entry_0, if_neg (by omega)]
  · rw [block_115 i h, entry_0, if_neg (by omega)]
  · rw [block_116 i h, entry_0, if_neg (by omega)]
  · rw [block_117 i h, entry_0, if_neg (by omega)]
  · rw [block_118 i h, entry_0, if_neg (by omega)]
  · rw [block_119 i h, entry_0, if_neg (by omega)]
  · rw [block_120 i h, entry_0, if_neg (by omega)]
  · rw [block_121 i h, entry_0, if_neg (by omega)]
  · rw [block_122 i h, entry_0, if_neg (by omega)]
  · rw [block_123 i h, entry_0, if_neg (by omega)]
  · rw [block_124 i h, entry_124]
    exact if_congr (by omega) rfl rfl
  · rw [block_125 i h, entry_124]
    exact if_congr (by omega) rfl rfl
  · rw [block_126 i h, entry_124]
    exact if_congr (by omega) rfl rfl
  · rw [block_127 i h, entry_124]
    exact if_congr (by omega) rfl rfl

theorem row_8 (i : ℕ) (h : i / 2048 = 8) : lit0t i = if i % 16 = 0 then 0x3F800000#32 else 0#32 := by
  have hb : i / 128 = 128 ∨ i / 128 = 129 ∨ i / 128 = 130 ∨ i / 128 = 131 ∨ i / 128 = 132 ∨ i / 128 = 133 ∨ i / 128 = 134 ∨ i / 128 = 135 ∨ i / 128 = 136 ∨ i / 128 = 137 ∨ i / 128 = 138 ∨ i / 128 = 139 ∨ i / 128 = 140 ∨ i / 128 = 141 ∨ i / 128 = 142 ∨ i / 128 = 143 := by omega
  rcases hb with h | h | h | h | h | h | h | h | h | h | h | h | h | h | h | h
  · rw [block_128 i h, entry_128]
    exact if_congr (by omega) rfl rfl
  · rw [block_129 i h, entry_128]
    exact if_congr (by omega) rfl rfl
  · rw [block_130 i h, entry_128]
    exact if_congr (by omega) rfl rfl
  · rw [block_131 i h, entry_128]
    exact if_congr (by omega) rfl rfl
  · rw [block_132 i h, entry_128]
    exact if_congr (by omega) rfl rfl
  · rw [block_133 i h, entry_128]
    exact if_congr (by omega) rfl rfl
  · rw [block_134 i h, entry_128]
    exact if_congr (by omega) rfl rfl
  · rw [block_135 i h, entry_128]
    exact if_congr (by omega) rfl rfl
  · rw [block_136 i h, entry_128]
    exact if_congr (by omega) rfl rfl
  · rw [block_137 i h, entry_128]
    exact if_congr (by omega) rfl rfl
  · rw [block_138 i h, entry_128]
    exact if_congr (by omega) rfl rfl
  · rw [block_139 i h, entry_128]
    exact if_congr (by omega) rfl rfl
  · rw [block_140 i h, entry_128]
    exact if_congr (by omega) rfl rfl
  · rw [block_141 i h, entry_128]
    exact if_congr (by omega) rfl rfl
  · rw [block_142 i h, entry_128]
    exact if_congr (by omega) rfl rfl
  · rw [block_143 i h, entry_128]
    exact if_congr (by omega) rfl rfl

theorem row_9 (i : ℕ) (h : i / 2048 = 9) : lit0t i = if i % 16 = 1 then 0x3F800000#32 else 0#32 := by
  have hb : i / 128 = 144 ∨ i / 128 = 145 ∨ i / 128 = 146 ∨ i / 128 = 147 ∨ i / 128 = 148 ∨ i / 128 = 149 ∨ i / 128 = 150 ∨ i / 128 = 151 ∨ i / 128 = 152 ∨ i / 128 = 153 ∨ i / 128 = 154 ∨ i / 128 = 155 ∨ i / 128 = 156 ∨ i / 128 = 157 ∨ i / 128 = 158 ∨ i / 128 = 159 := by omega
  rcases hb with h | h | h | h | h | h | h | h | h | h | h | h | h | h | h | h
  · rw [block_144 i h, entry_144]
    exact if_congr (by omega) rfl rfl
  · rw [block_145 i h, entry_144]
    exact if_congr (by omega) rfl rfl
  · rw [block_146 i h, entry_144]
    exact if_congr (by omega) rfl rfl
  · rw [block_147 i h, entry_144]
    exact if_congr (by omega) rfl rfl
  · rw [block_148 i h, entry_144]
    exact if_congr (by omega) rfl rfl
  · rw [block_149 i h, entry_144]
    exact if_congr (by omega) rfl rfl
  · rw [block_150 i h, entry_144]
    exact if_congr (by omega) rfl rfl
  · rw [block_151 i h, entry_144]
    exact if_congr (by omega) rfl rfl
  · rw [block_152 i h, entry_144]
    exact if_congr (by omega) rfl rfl
  · rw [block_153 i h, entry_144]
    exact if_congr (by omega) rfl rfl
  · rw [block_154 i h, entry_144]
    exact if_congr (by omega) rfl rfl
  · rw [block_155 i h, entry_144]
    exact if_congr (by omega) rfl rfl
  · rw [block_156 i h, entry_144]
    exact if_congr (by omega) rfl rfl
  · rw [block_157 i h, entry_144]
    exact if_congr (by omega) rfl rfl
  · rw [block_158 i h, entry_144]
    exact if_congr (by omega) rfl rfl
  · rw [block_159 i h, entry_144]
    exact if_congr (by omega) rfl rfl

theorem row_10 (i : ℕ) (h : i / 2048 = 10) : lit0t i = if i % 16 = 2 then 0x3F800000#32 else 0#32 := by
  have hb : i / 128 = 160 ∨ i / 128 = 161 ∨ i / 128 = 162 ∨ i / 128 = 163 ∨ i / 128 = 164 ∨ i / 128 = 165 ∨ i / 128 = 166 ∨ i / 128 = 167 ∨ i / 128 = 168 ∨ i / 128 = 169 ∨ i / 128 = 170 ∨ i / 128 = 171 ∨ i / 128 = 172 ∨ i / 128 = 173 ∨ i / 128 = 174 ∨ i / 128 = 175 := by omega
  rcases hb with h | h | h | h | h | h | h | h | h | h | h | h | h | h | h | h
  · rw [block_160 i h, entry_160]
    exact if_congr (by omega) rfl rfl
  · rw [block_161 i h, entry_160]
    exact if_congr (by omega) rfl rfl
  · rw [block_162 i h, entry_160]
    exact if_congr (by omega) rfl rfl
  · rw [block_163 i h, entry_160]
    exact if_congr (by omega) rfl rfl
  · rw [block_164 i h, entry_160]
    exact if_congr (by omega) rfl rfl
  · rw [block_165 i h, entry_160]
    exact if_congr (by omega) rfl rfl
  · rw [block_166 i h, entry_160]
    exact if_congr (by omega) rfl rfl
  · rw [block_167 i h, entry_160]
    exact if_congr (by omega) rfl rfl
  · rw [block_168 i h, entry_160]
    exact if_congr (by omega) rfl rfl
  · rw [block_169 i h, entry_160]
    exact if_congr (by omega) rfl rfl
  · rw [block_170 i h, entry_160]
    exact if_congr (by omega) rfl rfl
  · rw [block_171 i h, entry_160]
    exact if_congr (by omega) rfl rfl
  · rw [block_172 i h, entry_160]
    exact if_congr (by omega) rfl rfl
  · rw [block_173 i h, entry_160]
    exact if_congr (by omega) rfl rfl
  · rw [block_174 i h, entry_160]
    exact if_congr (by omega) rfl rfl
  · rw [block_175 i h, entry_160]
    exact if_congr (by omega) rfl rfl

theorem row_11 (i : ℕ) (h : i / 2048 = 11) : lit0t i = if i % 16 = 3 then 0x3F800000#32 else 0#32 := by
  have hb : i / 128 = 176 ∨ i / 128 = 177 ∨ i / 128 = 178 ∨ i / 128 = 179 ∨ i / 128 = 180 ∨ i / 128 = 181 ∨ i / 128 = 182 ∨ i / 128 = 183 ∨ i / 128 = 184 ∨ i / 128 = 185 ∨ i / 128 = 186 ∨ i / 128 = 187 ∨ i / 128 = 188 ∨ i / 128 = 189 ∨ i / 128 = 190 ∨ i / 128 = 191 := by omega
  rcases hb with h | h | h | h | h | h | h | h | h | h | h | h | h | h | h | h
  · rw [block_176 i h, entry_176]
    exact if_congr (by omega) rfl rfl
  · rw [block_177 i h, entry_176]
    exact if_congr (by omega) rfl rfl
  · rw [block_178 i h, entry_176]
    exact if_congr (by omega) rfl rfl
  · rw [block_179 i h, entry_176]
    exact if_congr (by omega) rfl rfl
  · rw [block_180 i h, entry_176]
    exact if_congr (by omega) rfl rfl
  · rw [block_181 i h, entry_176]
    exact if_congr (by omega) rfl rfl
  · rw [block_182 i h, entry_176]
    exact if_congr (by omega) rfl rfl
  · rw [block_183 i h, entry_176]
    exact if_congr (by omega) rfl rfl
  · rw [block_184 i h, entry_176]
    exact if_congr (by omega) rfl rfl
  · rw [block_185 i h, entry_176]
    exact if_congr (by omega) rfl rfl
  · rw [block_186 i h, entry_176]
    exact if_congr (by omega) rfl rfl
  · rw [block_187 i h, entry_176]
    exact if_congr (by omega) rfl rfl
  · rw [block_188 i h, entry_176]
    exact if_congr (by omega) rfl rfl
  · rw [block_189 i h, entry_176]
    exact if_congr (by omega) rfl rfl
  · rw [block_190 i h, entry_176]
    exact if_congr (by omega) rfl rfl
  · rw [block_191 i h, entry_176]
    exact if_congr (by omega) rfl rfl

end Cert.KernelIdeal.Mask

end
-- ==== Proof.Mask.lean ====
/- The program's mask table read entry by entry: it is on where a branch's query looks at a cached position. -/
module

public import proofs.«01_k».proof.Proof.HeadRow
public import proofs.«01_k».proof.Proof.MaskTable

@[expose] public section

set_option maxRecDepth 16384

noncomputable section

namespace Cert.KernelIdeal.Head

open Cert.KernelIdeal Cert.KernelIdeal.Gen Idealize.ShloMosaic Idealize.ShloMosaic.TcCoe Cert.Soft Cert.Mix

theorem one_lit : Ideal.ofBits .f32 1065353216#32 = 1 := by
  simp [Ideal.ofBits, Ideal.ieee]
  rw [← EReal.coe_mul]
  norm_num

theorem half_lit : Ideal.ofBits .f32 1056964608#32 = ((1 / 2 : ℝ) : EReal) := by
  simp [Ideal.ofBits, Ideal.ieee]
  rw [← EReal.coe_mul]
  norm_num

theorem lt_one : Ideal.ofBits .f32 1056964608#32 < Ideal.ofBits .f32 1065353216#32 := by
  rw [one_lit, half_lit]
  exact_mod_cast (by norm_num : (1 / 2 : ℝ) < 1)

theorem not_lt_zero : ¬ Ideal.ofBits .f32 1056964608#32 < Ideal.ofBits .f32 0#32 := by
  rw [zero_lit, half_lit]
  exact not_lt.mpr (by exact_mod_cast (by norm_num : (0 : ℝ) ≤ 1 / 2))

theorem lt_ite (p : Prop) [Decidable p] (w : BitVec 32) (h : w = if p then 0x3F800000#32 else 0#32) (x : Prop) (hx : p ↔ x) :
    Ideal.ofBits .f32 1056964608#32 < Ideal.ofBits .f32 w ↔ x := by
  rw [← hx, h]
  split_ifs with hp
  · exact ⟨fun _ => hp, fun _ => lt_one⟩
  · exact ⟨fun h' => absurd h' not_lt_zero, fun h' => absurd h' hp⟩

theorem looks1 (t : ℕ) (l : ℕ) (ht : t < 4) (hl : l < 2048) : 1920 + t ≤ l ↔ looks 2048 1 t l := by
  constructor
  · exact fun h => ⟨⟨2048 + t - l, by omega⟩, by simp only; omega⟩
  · rintro ⟨j, hj⟩
    omega

theorem looks4 (t : ℕ) (l : ℕ) (ht : t < 4) (hl : l < 2048) : (1536 ≤ l ∧ l % 4 = t) ↔ looks 2048 4 t l := by
  constructor
  · exact fun h => ⟨⟨(2048 + t - l) / 4, by omega⟩, by simp only; omega⟩
  · rintro ⟨j, hj⟩
    omega

theorem looks16 (t : ℕ) (l : ℕ) (ht : t < 4) (hl : l < 2048) : l % 16 = t ↔ looks 2048 16 t l := by
  constructor
  · exact fun h => ⟨⟨(2048 + t - l) / 16, by omega⟩, by simp only; omega⟩
  · rintro ⟨j, hj⟩
    omega

/-- The mask is on exactly where the branch's query looks. -/
theorem mask_looks (b : Fin 3) (t : Fin 4) (l : Fin 2048) :
    Ideal.ofBits .f32 1056964608#32 < Ideal.ofBits .f32 (lit0 (S16x2048.rowMajor (ix2 (row (up b) t) l))) ↔ looks 2048 (dil b) t.val l.val := by
  have e : lit0 (S16x2048.rowMajor (ix2 (row (up b) t) l)) = lit0t ((4 * b.val + t.val) * 2048 + l.val) :=
    congrArg lit0t (rowMajor_val2 _ 2048 rfl)
  rw [e]
  have hl := l.isLt
  obtain ⟨b, hb⟩ := b
  obtain ⟨t, ht⟩ := t
  simp only
  interval_cases b <;> interval_cases t
  · exact lt_ite _ _ (Mask.row_0 _ (by omega)) _ (Iff.trans (by omega) (looks1 0 l (by omega) hl))
  · exact lt_ite _ _ (Mask.row_1 _ (by omega)) _ (Iff.trans (by omega) (looks1 1 l (by omega) hl))
  · exact lt_ite _ _ (Mask.row_2 _ (by omega)) _ (Iff.trans (by omega) (looks1 2 l (by omega) hl))
  · exact lt_ite _ _ (Mask.row_3 _ (by omega)) _ (Iff.trans (by omega) (looks1 3 l (by omega) hl))
  · exact lt_ite _ _ (Mask.row_4 _ (by omega)) _ (Iff.trans (by omega) (looks4 0 l (by omega) hl))
  · exact lt_ite _ _ (Mask.row_5 _ (by omega)) _ (Iff.trans (by omega) (looks4 1 l (by omega) hl))
  · exact lt_ite _ _ (Mask.row_6 _ (by omega)) _ (Iff.trans (by omega) (looks4 2 l (by omega) hl))
  · exact lt_ite _ _ (Mask.row_7 _ (by omega)) _ (Iff.trans (by omega) (looks4 3 l (by omega) hl))
  · exact lt_ite _ _ (Mask.row_8 _ (by omega)) _ (Iff.trans (by omega) (looks16 0 l (by omega) hl))
  · exact lt_ite _ _ (Mask.row_9 _ (by omega)) _ (Iff.trans (by omega) (looks16 1 l (by omega) hl))
  · exact lt_ite _ _ (Mask.row_10 _ (by omega)) _ (Iff.trans (by omega) (looks16 2 l (by omega) hl))
  · exact lt_ite _ _ (Mask.row_11 _ (by omega)) _ (Iff.trans (by omega) (looks16 3 l (by omega) hl))

end Cert.KernelIdeal.Head

end
-- ==== Proof.HeadArray.lean ====
/- The second result of the call as an array: every row is one query's attention. -/
module

public import proofs.«01_k».proof.Proof.HeadLoads
public import proofs.«01_k».proof.Proof.HeadOut
public import proofs.«01_k».proof.Proof.Mask
public import proofs.«01_k».proof.Proof.HostArrays
public import proofs.«01_k».proof.Proof.Blocks

@[expose] public section

set_option maxRecDepth 16384

noncomputable section

namespace Cert.KernelIdeal.Head

open Cert.KernelIdeal Cert.KernelIdeal.Gen Idealize.ShloMosaic Idealize.ShloMosaic.TcCoe Cert.Soft Cert.Mix

section
variable (arg10 : Memref sig .tc .vmem S14x3x8x64 .f32) (harg10 : arg10.IsWhole)
  (arg11 : Memref sig .tc .vmem S14x64x2048 .f32) (harg11 : arg11.IsWhole)
  (arg12 : Memref sig .tc .vmem S14x64x2048 .f32) (harg12 : arg12.IsWhole)
  (arg13 : Memref sig .tc .vmem S16x2048 .f32) (harg13 : arg13.IsWhole)
  (arg16 : Memref sig .tc .vmem S14x16x2048 .f32) (arg17 : Memref sig .tc .vmem S14x16x2048 .bf16)
  (x9 : Vec Ideal S14x3x8x64 .f32) (x10 : Vec Ideal S14x64x2048 .f32) (x11 : Vec Ideal S14x64x2048 .f32) (x12 : Vec Ideal S16x2048 .f32)

/-- What the stores of a step leave at a head's row. -/
theorem stores_row (h : Fin 14) (q k : Fin 4 → Fin 64 → ℝ) (ck : Fin 64 → Fin 2048 → ℝ)
    (hq : ∀ (r : Fin 8) (t : Fin 4) (d : Fin 64), r.val = t.val → x9 (ix4 h 0 r d) = ((q t d : ℝ) : EReal))
    (hq0 : ∀ (r : Fin 8) (d : Fin 64), 4 ≤ r.val → x9 (ix4 h 0 r d) = (0 : EReal))
    (hk : ∀ (r : Fin 8) (t : Fin 4) (d : Fin 64), r.val = t.val → x9 (ix4 h 1 r d) = ((k t d : ℝ) : EReal))
    (hc : ∀ (d : Fin 64) (l : Fin 2048), x10 (ix3 h d l) = ((ck d l : ℝ) : EReal))
    (hM : ∀ (b : Fin 3) (t : Fin 4) (l : Fin 2048), Ideal.ofBits .f32 1056964608#32 < x12 (ix2 (row (up b) t) l) ↔ looks 2048 (dil b) t.val l.val)
    (b t : Fin 4) (d : Fin 64) :
    View.canon (listO arg10 harg10 arg11 harg11 arg12 harg12 arg13 harg13 arg16 arg17 x9 x10 x11 x12) (ix3 h (row b t) d)
      = att q k ck (fun u => x9 (ix4 h 2 ⟨u.val, by omega⟩ d)) (fun l => x11 (ix3 h d l)) t := by
  have hQ : IsQ (loadN arg10 harg10 x9 0 h) q :=
    ⟨fun r t d e => (loadN_apply arg10 harg10 x9 0 h r d).trans (hq r t d e), fun r d e => (loadN_apply arg10 harg10 x9 0 h r d).trans (hq0 r d e)⟩
  have hK : ∀ (r : Fin 8) (u : Fin 4) (d : Fin 64), r.val = u.val → loadN arg10 harg10 x9 1 h (ix3 0 r d) = ((k u d : ℝ) : EReal) :=
    fun r u d e => (loadN_apply arg10 harg10 x9 1 h r d).trans (hk r u d e)
  have hC : ∀ d l, loadC arg11 harg11 x10 h (ix3 0 d l) = ((ck d l : ℝ) : EReal) := fun d l => (loadC_apply arg11 harg11 x10 h d l).trans (hc d l)
  have hM' : ∀ (b : Fin 3) (t : Fin 4) (l : Fin 2048),
      Ideal.ofBits .f32 1056964608#32 < loadM arg13 harg13 x12 (ix2 (row (up b) t) l) ↔ looks 2048 (dil b) t.val l.val := fun b t l => by
    rw [loadM_apply]
    exact hM b t l
  have hS : ∀ (b : Fin 3) (t : Fin 4) (l : Fin 2048), loadS arg10 harg10 arg11 harg11 arg13 harg13 arg16 x9 x10 x12 h (ix3 0 (row (up b) t) l)
      = if looks 2048 (dil b) t.val l.val then ((lg * old q ck t l : ℝ) : EReal) else ⊥ := fun b t l =>
    (loadS_apply arg10 harg10 arg11 harg11 arg13 harg13 arg16 x9 x10 x12 h _ l).trans (scores_row hQ hC hM' b t l)
  have hP : ∀ (r : Fin 16) (l : Fin 2048), loadP arg10 harg10 arg11 harg11 arg13 harg13 arg16 arg17 x9 x10 x12 h (ix3 0 r l)
      = probs (loadS arg10 harg10 arg11 harg11 arg13 harg13 arg16 x9 x10 x12 h) (mx (loadN arg10 harg10 x9 0 h) (loadN arg10 harg10 x9 1 h)
          (loadS arg10 harg10 arg11 harg11 arg13 harg13 arg16 x9 x10 x12 h)) (ix2 r l) := fun r l => by
    refine (loadP_apply arg10 harg10 arg11 harg11 arg13 harg13 arg16 arg17 x9 x10 x12 h r l).trans ?_
    pointwise [stored]
  unfold listO
  rw [canonO, out_row hQ hK hS hP b t d]
  simp only [loadN_apply, loadC_apply]
end

/-- The sample group's attention at a row (sequence and head), a query and an entry, of the call's arguments. -/
def attAt (x3 x4 x5 : FVec Ideal S128x4x8x64 .f32) (x6 x7 : FVec Ideal S1x128x2048x8x64 .f32) (n : Fin 896) (t : Fin 4) (d : Fin 64) : EReal :=
  att (fun t d => (x3 (ix4 ⟨n / 8, by omega⟩ t ⟨n % 8, by omega⟩ d) : EReal).toReal)
    (fun t d => (x4 (ix4 ⟨n / 8, by omega⟩ t ⟨n % 8, by omega⟩ d) : EReal).toReal)
    (fun d l => (x6 (ix5 0 ⟨n / 8, by omega⟩ l ⟨n % 8, by omega⟩ d) : EReal).toReal)
    (fun u => x5 (ix4 ⟨n / 8, by omega⟩ u ⟨n % 8, by omega⟩ d)) (fun l => x7 (ix5 0 ⟨n / 8, by omega⟩ l ⟨n % 8, by omega⟩ d)) t

theorem num_eq {x : EReal} (h : IsNum x) : x = ((x.toReal : ℝ) : EReal) := by
  obtain ⟨r, rfl⟩ := h
  rfl

variable (m : (ℓ : Loc nD τ sig) → Buf (Elt Ideal) ℓ) (c : Dev nD)

section
variable (h3 : ∀ i : S128x4x8x64.Idx, IsNum ((m ((c : Thread nD τ).loc main_arg3) : FVec Ideal S128x4x8x64 .f32) i))
  (h4 : ∀ i : S128x4x8x64.Idx, IsNum ((m ((c : Thread nD τ).loc main_arg4) : FVec Ideal S128x4x8x64 .f32) i))
  (h6 : ∀ i : S1x128x2048x8x64.Idx, IsNum ((m ((c : Thread nD τ).loc main_arg6) : FVec Ideal S1x128x2048x8x64 .f32) i))
include h3 h4 h6

/-- What a point of the grid leaves in its block of the attention, at an entry. -/
theorem point (t : Fin cfg0.N) (h : Fin 14) (b t' : Fin 4) (d : Fin 64) (n : Fin 896) (hn : n.val = t.val * 14 + h.val) :
    (outsAt0 m c t).2 (ix3 h (row b t') d)
      = attAt (m ((c : Thread nD τ).loc main_arg3)) (m ((c : Thread nD τ).loc main_arg4)) (m ((c : Thread nD τ).loc main_arg5))
          (m ((c : Thread nD τ).loc main_arg6)) (m ((c : Thread nD τ).loc main_arg7)) n t' d := by
  unfold outsAt0 out0_A_14
  dsimp only
  have lt : n.val < 1024 := by omega
  have new : ∀ (p : Fin 3) (r : Fin 8) (d : Fin 64), X0_9 m c t (ix4 h p r d)
      = Arrays.newRows (m ((c : Thread nD τ).loc main_arg3)) (m ((c : Thread nD τ).loc main_arg4)) (m ((c : Thread nD τ).loc main_arg5)) (ix4 ⟨n.val, lt⟩ p r d) :=
    fun p r d => (Arrays.blk_new m c t h p r d ⟨n.val, lt⟩ hn).trans (congrFun (Arrays.new_eq m c) _)
  rw [View.read_writes_junk_eq_canon, pieces14]
  refine (stores_row _ _ _ _ _ _ _ _ _ _ _ _ _ _ h
    (fun t d => ((m ((c : Thread nD τ).loc main_arg3) : FVec Ideal S128x4x8x64 .f32) (ix4 ⟨n / 8, by omega⟩ t ⟨n % 8, by omega⟩ d) : EReal).toReal)
    (fun t d => ((m ((c : Thread nD τ).loc main_arg4) : FVec Ideal S128x4x8x64 .f32) (ix4 ⟨n / 8, by omega⟩ t ⟨n % 8, by omega⟩ d) : EReal).toReal)
    (fun d l => ((m ((c : Thread nD τ).loc main_arg6) : FVec Ideal S1x128x2048x8x64 .f32) (ix5 0 ⟨n / 8, by omega⟩ l ⟨n % 8, by omega⟩ d) : EReal).toReal)
    ?_ ?_ ?_ ?_ ?_ b t' d).trans ?_
  · intro r t d e
    rw [new 0 r d, Arrays.newRows_q _ _ _ _ r d (by omega)]
    have rt : ∀ hr : r.val < 4, (⟨r.val, hr⟩ : Fin 4) = t := fun _ => Fin.ext e
    rw [rt]
    exact num_eq (h3 _)
  · intro r d e
    rw [new 0 r d, Arrays.newRows_pad _ _ _ _ _ r d (by omega)]
  · intro r t d e
    rw [new 1 r d, Arrays.newRows_k _ _ _ _ r d (by omega)]
    have rt : ∀ hr : r.val < 4, (⟨r.val, hr⟩ : Fin 4) = t := fun _ => Fin.ext e
    rw [rt]
    exact num_eq (h4 _)
  · intro d l
    refine ((Arrays.blk_keys m c t h d l ⟨n.val, lt⟩ hn).trans (Arrays.keys m c _ d l)).trans ?_
    exact num_eq (h6 _)
  · intro b t' l
    rw [(Arrays.blk_mask m c t _ l).trans (Arrays.mask m c _ l)]
    exact mask_looks b t' l
  · unfold attAt
    congr 1
    · funext u
      rw [new 2 _ d, Arrays.newRows_v _ _ _ _ _ d (by exact u.isLt)]
    · funext l
      exact (Arrays.blk_values m c t h d l ⟨n.val, lt⟩ hn).trans (Arrays.values m c _ d l)

/-- The second result, whole: sixteen rows a head, the four queries' rows four times over. -/
theorem result : (dats m 0 c).arrAt 14 cfg0.N = fun i =>
      attAt (m ((c : Thread nD τ).loc main_arg3)) (m ((c : Thread nD τ).loc main_arg4)) (m ((c : Thread nD τ).loc main_arg5))
          (m ((c : Thread nD τ).loc main_arg6)) (m ((c : Thread nD τ).loc main_arg7)) (i 0) ⟨(i 1).val % 4, Nat.mod_lt _ (by decide)⟩ (i 2) := by
  refine (dats m 0 c).arrAt_eq_of_covers 14 _ (by decide +kernel) fun t hf y => ?_
  rw [after0_14]
  have e := (Arrays.index_maps t).2.2.2.2.2.2.2.2.2.2.2.2.2.2
  obtain ⟨h, r, d, rfl⟩ : ∃ (h : Fin 14) (r : Fin 16) (d : Fin 64), y = ix3 h r d := ⟨y 0, y 1, y 2, by idx_vars y⟩
  obtain ⟨b, t', rfl⟩ : ∃ b t' : Fin 4, r = row b t' := ⟨⟨r.val / 4, by omega⟩, ⟨r.val % 4, by omega⟩, Fin.ext (by simp only [row]; omega)⟩
  have e0 : (((cfg0.win 14).blk t).view.emb (ix3 h (row b t') d) 0).val = t.val * 14 + h.val := by
    show win0_14.index t (0 : Fin 3) * 14 + 1 * h.val = _
    rw [e]; simp
  have e1 : (((cfg0.win 14).blk t).view.emb (ix3 h (row b t') d) 1).val = (row b t').val := by
    show win0_14.index t (1 : Fin 3) * 16 + 1 * (row b t').val = _
    rw [e]; simp
  have e3 : (((cfg0.win 14).blk t).view.emb (ix3 h (row b t') d) 1).val % 4 = t'.val := by
    rw [e1]
    show (4 * b.val + t'.val) % 4 = t'.val
    omega
  have e2 : (((cfg0.win 14).blk t).view.emb (ix3 h (row b t') d) 2) = d := by
    refine Fin.ext ?_
    show win0_14.index t (2 : Fin 3) * 64 + 1 * d.val = _
    rw [e]; simp
  refine (point m c h3 h4 h6 t h b t' d _ e0).trans ?_
  congr 1
  · exact Fin.ext e3.symm
  · exact e2.symm
end

end Cert.KernelIdeal.Head

end
-- ==== Proof.RefKeys.lean ====
/- The keys and values at which the reference looks: the gather of a branch reads the cached and the new keys at the branch's positions. -/
module

public import proofs.«01_k».proof.Proof.HeadArray
public import proofs.«01_k».proof.Proof.Gen.ReferenceIdeal.Read

@[expose] public section

set_option maxRecDepth 16384

noncomputable section

namespace Cert.RefHead

open Idealize.ShloMosaic Cert.ReferenceIdeal Cert.ReferenceIdeal.Read Cert.Mix Cert.KernelIdeal.Head Cert.Soft

/-- The gather's read: sequence, head and lane stay, the position is the start index, read signed and kept within the keys. -/
theorem gather_read {α : Type} (x : S112x2052x8x64.Idx → α) (idx : IVec S4x129x1 32) (s : Fin 112) (t : Fin 4) (j : Fin 129) (h : Fin 8) (d : Fin 64) :
    Host.gather gather_S112x2052x8x64_S4x129x1_S112x4x129x8x64_034_1_n_n_1_2_1121864 x idx (ix5 s t j h d)
      = x (ix4 s ⟨min (idx (ix3 t j 0)).toInt.toNat 2051, by omega⟩ h d) := by
  unfold Host.gather
  congr 1
  funext a
  refine Fin.ext ?_
  show GatherDims.start _ _ idx a + GatherDims.batchCoord _ _ a + GatherDims.offCoord _ _ a = _
  have hbatch : ∀ a, GatherDims.batchCoord gather_S112x2052x8x64_S4x129x1_S112x4x129x8x64_034_1_n_n_1_2_1121864 (ix5 s t j h d) a = 0 :=
    fun a => GatherDims.batchCoord_eq_zero _ _ _ List.not_mem_nil
  rw [hbatch]
  have cases : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases cases with rfl | rfl | rfl | rfl
  · unfold GatherDims.start
    rw [dif_neg (by decide)]
    unfold GatherDims.offCoord
    rw [dif_pos (by decide)]
    show 0 + 0 + s.val = s.val
    omega
  · rw [GatherDims.offCoord_eq_zero _ _ _ (by decide)]
    unfold GatherDims.start
    rw [dif_pos (by decide)]
    have hsi : ∀ p, GatherDims.siIdx gather_S112x2052x8x64_S4x129x1_S112x4x129x8x64_034_1_n_n_1_2_1121864 (ix5 s t j h d) ⟨0, p⟩ = ix3 t j 0 := by
      intro p
      funext b
      refine Fin.ext ?_
      match b with
      | ⟨0, _⟩ => rfl
      | ⟨1, _⟩ => rfl
      | ⟨2, _⟩ => rfl
    exact congrArg (fun z => min (idx z).toInt.toNat 2051) (hsi _)
  · unfold GatherDims.start
    rw [dif_neg (by decide)]
    unfold GatherDims.offCoord
    rw [dif_pos (by decide)]
    show 0 + 0 + h.val = h.val
    omega
  · unfold GatherDims.start
    rw [dif_neg (by decide)]
    unfold GatherDims.offCoord
    rw [dif_pos (by decide)]
    show 0 + 0 + d.val = d.val
    omega

variable (x3 x4 x5 : FVec Ideal S128x4x8x64 .f32) (x6 x7 : FVec Ideal S1x128x2048x8x64 .f32) (s : Fin 112) (h : Fin 8)

/-- The queries of a sequence and a head, as numbers. -/
def qs (t : Fin 4) (d : Fin 64) : ℝ := (x3 (ix4 ⟨s, by omega⟩ t h d) : EReal).toReal
/-- The cached keys of a sequence and a head, as numbers. -/
def cs (d : Fin 64) (l : Fin 2048) : ℝ := (x6 (ix5 0 ⟨s, by omega⟩ l h d) : EReal).toReal
/-- The new values at an entry. -/
def vnew (d : Fin 64) (u : Fin 4) : EReal := x5 (ix4 ⟨s, by omega⟩ u h d)
/-- The cached values at an entry. -/
def vold (d : Fin 64) (l : Fin 2048) : EReal := x7 (ix5 0 ⟨s, by omega⟩ l h d)

/-- The score of a branch's step. -/
def logit (b : Fin 3) (t : Fin 4) (j : Fin 129) : ℝ :=
  place (fun l => old (qs x3 s h) (cs x6 s h) t l) (fun u => new (qs x3 s h) (qs x4 s h) t u) (pos b t j) (pos_lt b t j)

theorem raw_eq (b : Fin 3) (t : Fin 4) (j : Fin 129) :
    raw (qs x3 s h) (qs x4 s h) (cs x6 s h) b t j = Real.exp (logit x3 x4 x6 s h b t j) :=
  place_map Real.exp (fun l => old (qs x3 s h) (cs x6 s h) t l) (fun u => new (qs x3 s h) (qs x4 s h) t u) (pos b t j) (pos_lt b t j)

/-- The dot product of a query and the key at a position, where all entries are numbers. -/
theorem dot_place (h3 : ∀ i, IsNum (x3 i)) (h4 : ∀ i, IsNum (x4 i)) (h6 : ∀ i, IsNum (x6 i)) (t : Fin 4) (p : ℕ) (hp : p < 2048 + 4) :
    (∑ d : Fin 64, x3 (ix4 ⟨s, by omega⟩ t h d) * place (vold x6 s h d) (vnew x4 s h d) p hp : EReal)
      = ((place (fun l => old (qs x3 s h) (cs x6 s h) t l) (fun u => new (qs x3 s h) (qs x4 s h) t u) p hp : ℝ) : EReal) := by
  unfold place
  split_ifs
  · unfold old
    rw [← Mix.coe_sum]
    refine Finset.sum_congr rfl fun d _ => ?_
    rw [EReal.coe_mul]
    exact congrArg₂ (· * ·) (num_eq (h3 _)) (num_eq (h6 _))
  · unfold new
    rw [← Mix.coe_sum]
    refine Finset.sum_congr rfl fun d _ => ?_
    rw [EReal.coe_mul]
    exact congrArg₂ (· * ·) (num_eq (h3 _)) (num_eq (h4 _))

/-- The keys of the sequences that the call serves: the cached ones, and after them the new ones. -/
theorem keys0 (p : Fin 2052) (d : Fin 64) :
    val_main_v46 (F := Ideal) x4 x6 (ix4 ⟨s, by omega⟩ p h d) = place (vold x6 s h d) (vnew x4 s h d) p.val p.isLt := by
  pointwise [val_main_v46, val_main_v45]
  unfold place
  rfl

theorem values0 (p : Fin 2052) (d : Fin 64) :
    val_main_v48 (F := Ideal) x5 x7 (ix4 ⟨s, by omega⟩ p h d) = place (vold x7 s h d) (vnew x5 s h d) p.val p.isLt := by
  pointwise [val_main_v48, val_main_v47]
  unfold place
  rfl

theorem clamp (b : Fin 3) (t : Fin 4) (j : Fin 129) (w : BitVec 32) (hw : w = BitVec.ofNat 32 (pos b t j)) : min w.toInt.toNat 2051 = pos b t j := by
  have lt := pos_lt b t j
  subst hw
  rw [BitVec.toInt_eq_toNat_of_lt (by rw [BitVec.toNat_ofNat]; omega), BitVec.toNat_ofNat]
  omega

/-- Softmax over branches, each with its own subtracted number, and all with a common one. -/
theorem softmax (f : Fin 3 → Fin 129 → ℝ) (v : Fin 3 → Fin 129 → EReal) (μ : Fin 3 → ℝ) (M : ℝ) :
    Ideal.div (∑ b, Ideal.exp ((μ b : EReal) - (M : EReal)) * ∑ j, Ideal.exp ((f b j : EReal) - (μ b : EReal)) * v b j)
        (∑ b, Ideal.exp ((μ b : EReal) - (M : EReal)) * ∑ j, Ideal.exp ((f b j : EReal) - (μ b : EReal)))
      = ∑ b, ∑ j, ((Real.exp (f b j) / ∑ b, ∑ j, Real.exp (f b j) : ℝ) : EReal) * v b j := by
  have pos : 0 < ∑ b, ∑ j, Real.exp (f b j) :=
    Finset.sum_pos (fun b _ => Finset.sum_pos (fun j _ => Real.exp_pos _) ⟨0, Finset.mem_univ _⟩) ⟨0, Finset.mem_univ _⟩
  have term : ∀ b j, Real.exp (μ b - M) * Real.exp (f b j - μ b) = Real.exp (f b j) * Real.exp (-M) := fun b j => by
    rw [← Real.exp_add, ← Real.exp_add]
    congr 1
    ring
  have den : (∑ b, Ideal.exp ((μ b : EReal) - (M : EReal)) * ∑ j, Ideal.exp ((f b j : EReal) - (μ b : EReal)))
      = (((∑ b, ∑ j, Real.exp (f b j)) * Real.exp (-M) : ℝ) : EReal) := by
    simp only [Soft.exp_sub]
    simp only [Mix.coe_sum, ← EReal.coe_mul]
    congr 1
    rw [Finset.sum_mul]
    refine Finset.sum_congr rfl fun b _ => ?_
    rw [Finset.mul_sum, Finset.sum_mul]
    exact Finset.sum_congr rfl fun j _ => term b j
  have num : (∑ b, Ideal.exp ((μ b : EReal) - (M : EReal)) * ∑ j, Ideal.exp ((f b j : EReal) - (μ b : EReal)) * v b j)
      = ∑ b, ∑ j, ((Real.exp (f b j) * Real.exp (-M) : ℝ) : EReal) * v b j := by
    refine Finset.sum_congr rfl fun b _ => ?_
    rw [Soft.exp_sub, Mix.mul_sum _ _ (Real.exp_pos _).le]
    refine Finset.sum_congr rfl fun j _ => ?_
    rw [Soft.exp_sub, ← mul_assoc, ← EReal.coe_mul, term]
  have ne : (∑ b, ∑ j, Real.exp (f b j)) * Real.exp (-M) ≠ 0 := (mul_pos pos (Real.exp_pos _)).ne'
  rw [den, num, Ideal.div_coe ne, mul_comm, Mix.mul_sum _ _ (one_div_nonneg.2 (mul_pos pos (Real.exp_pos _)).le)]
  refine Finset.sum_congr rfl fun b _ => ?_
  rw [mul_comm, Mix.scale_sum _ _ (one_div_nonneg.2 (mul_pos pos (Real.exp_pos _)).le)]
  refine Finset.sum_congr rfl fun j _ => ?_
  congr 2
  have := (Real.exp_pos (-M)).ne'
  have := pos.ne'
  field_simp

/-- The word of zero. -/
theorem zero_word : Ideal.ofBits .f32 0x00000000#32 = 0 := by simp [Ideal.ofBits, Ideal.ieee]

end Cert.RefHead
-- ==== Proof.RefBranch.lean ====
/- A branch of the reference, per step: the positions, the scores, the largest score and the weights. -/
module

public import proofs.«01_k».proof.Proof.RefKeys

@[expose] public section

set_option maxRecDepth 16384

noncomputable section

namespace Cert.RefHead

open Idealize.ShloMosaic Cert.ReferenceIdeal Cert.ReferenceIdeal.Read Cert.Mix Cert.KernelIdeal.Head Cert.Soft

variable (x3 x4 x5 : FVec Ideal S128x4x8x64 .f32) (x6 x7 : FVec Ideal S1x128x2048x8x64 .f32) (s : Fin 112) (h : Fin 8)

theorem start_0 (t : Fin 4) (j : Fin 129) : val_main_v76 (F := Ideal) (ix3 t j 0) = BitVec.ofNat 32 (pos 0 t j) := by
  pointwise [val_main_v76, val_main_v75, val_main_v74, val_main_v73, val_main_v72, val_main_v71, val_main_v70, val_main_v62, val_main_v61, val_main_v60, val_main_v59, val_main_v58, val_main_v57, val_main_v56, val_main_v55, val_main_v54, val_main_v53, val_main_v52, val_main_c, val_main_c_5, val_main_c_9, val_main_c_10, val_main_c_11,
    val_main_call1_v1, val_main_call1_v0]
  revert t j
  decide +kernel

theorem startV_0 (t : Fin 4) (j : Fin 129) : val_main_v83 (F := Ideal) (ix3 t j 0) = BitVec.ofNat 32 (pos 0 t j) := start_0 t j

theorem valid_0 (t : Fin 4) (j : Fin 129) : val_main_v69 (F := Ideal) (ix2 t j) = 1#1 := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_c, val_main_c_5, val_main_c_6, val_main_c_7, val_main_c_8]
  revert t j
  decide +kernel

theorem key_0 (t : Fin 4) (j : Fin 129) (d : Fin 64) :
    val_main_v77 (F := Ideal) x4 x6 (ix5 s t j h d) = place (vold x6 s h d) (vnew x4 s h d) (pos 0 t j) (pos_lt 0 t j) := by
  unfold val_main_v77
  rw [gather_read]
  pointwise [val_main_v50]
  rw [keys0]
  have e := clamp 0 t j _ (start_0 t j)
  congr 1

theorem value_0 (t : Fin 4) (j : Fin 129) (d : Fin 64) :
    val_main_v84 (F := Ideal) x5 x7 (ix5 s t j h d) = place (vold x7 s h d) (vnew x5 s h d) (pos 0 t j) (pos_lt 0 t j) := by
  unfold val_main_v84
  rw [gather_read]
  pointwise [val_main_v51]
  rw [values0]
  have e := clamp 0 t j _ (startV_0 t j)
  congr 1

theorem score_0 (h3 : ∀ i, IsNum (x3 i)) (h4 : ∀ i, IsNum (x4 i)) (h6 : ∀ i, IsNum (x6 i)) (t : Fin 4) (j : Fin 129) :
    val_main_v87 (F := Ideal) x3 x4 x6 (ix4 s t h j) = ((logit x3 x4 x6 s h 0 t j : ℝ) : EReal) := by
  pointwise [val_main_v87, val_main_v85, val_main_v49, val_main_call2_v1, val_main_v86]
  rw [valid_0]
  simp only [key_0]
  exact dot_place x3 x4 x6 s h h3 h4 h6 t (pos 0 t j) (pos_lt 0 t j)

theorem max_0 (h3 : ∀ i, IsNum (x3 i)) (h4 : ∀ i, IsNum (x4 i)) (h6 : ∀ i, IsNum (x6 i)) (t : Fin 4) :
    IsNum (val_main_v88 (F := Ideal) x3 x4 x6 (ix3 s t h)) := by
  pointwise [val_main_v88, val_main_cst_15]
  rw [minus_infinity]
  simp only [score_0 x3 x4 x6 s h h3 h4 h6]
  exact Soft.fold_isNum _ _ (fun _ _ => EReal.coe_ne_top _) 0 (Finset.mem_univ _) (IsNum.coe _)

theorem weight_0 (h3 : ∀ i, IsNum (x3 i)) (h4 : ∀ i, IsNum (x4 i)) (h6 : ∀ i, IsNum (x6 i)) (t : Fin 4) (j : Fin 129) :
    val_main_v92 (F := Ideal) x3 x4 x6 (ix4 s t h j)
      = Ideal.exp (((logit x3 x4 x6 s h 0 t j : ℝ) : EReal) - val_main_v88 (F := Ideal) x3 x4 x6 (ix3 s t h)) := by
  rw [← score_0 x3 x4 x6 s h h3 h4 h6]
  pointwise [val_main_v92, val_main_v91, val_main_v90, val_main_v89]

theorem mass_0 (t : Fin 4) :
    val_main_v93 (F := Ideal) x3 x4 x6 (ix3 s t h) = ∑ j : Fin 129, val_main_v92 (F := Ideal) x3 x4 x6 (ix4 s t h j) := by
  pointwise [val_main_v93, val_main_cst_16]

theorem acc_0 (t : Fin 4) (d : Fin 64) :
    val_main_v94 (F := Ideal) x3 x4 x5 x6 x7 (ix4 s t h d)
      = ∑ j : Fin 129, val_main_v92 (F := Ideal) x3 x4 x6 (ix4 s t h j) * place (vold x7 s h d) (vnew x5 s h d) (pos 0 t j) (pos_lt 0 t j) := by
  pointwise [val_main_v94]
  simp only [value_0]

theorem start_1 (t : Fin 4) (j : Fin 129) : val_main_v122 (F := Ideal) (ix3 t j 0) = BitVec.ofNat 32 (pos 1 t j) := by
  pointwise [val_main_v122, val_main_v121, val_main_v120, val_main_v119, val_main_v118, val_main_v117, val_main_v116, val_main_v108, val_main_v107, val_main_v106, val_main_v105, val_main_v104, val_main_v103, val_main_v102, val_main_v101, val_main_v100, val_main_v99, val_main_v98, val_main_c_17, val_main_c_18, val_main_c_22, val_main_c_23, val_main_c_24,
    val_main_call3_v1, val_main_call3_v0]
  revert t j
  decide +kernel

theorem startV_1 (t : Fin 4) (j : Fin 129) : val_main_v129 (F := Ideal) (ix3 t j 0) = BitVec.ofNat 32 (pos 1 t j) := start_1 t j

theorem valid_1 (t : Fin 4) (j : Fin 129) : val_main_v115 (F := Ideal) (ix2 t j) = 1#1 := by
  pointwise [val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_c_17, val_main_c_18, val_main_c_19, val_main_c_20, val_main_c_21]
  revert t j
  decide +kernel

theorem key_1 (t : Fin 4) (j : Fin 129) (d : Fin 64) :
    val_main_v123 (F := Ideal) x4 x6 (ix5 s t j h d) = place (vold x6 s h d) (vnew x4 s h d) (pos 1 t j) (pos_lt 1 t j) := by
  unfold val_main_v123
  rw [gather_read]
  pointwise [val_main_v96]
  rw [keys0]
  have e := clamp 1 t j _ (start_1 t j)
  congr 1

theorem value_1 (t : Fin 4) (j : Fin 129) (d : Fin 64) :
    val_main_v130 (F := Ideal) x5 x7 (ix5 s t j h d) = place (vold x7 s h d) (vnew x5 s h d) (pos 1 t j) (pos_lt 1 t j) := by
  unfold val_main_v130
  rw [gather_read]
  pointwise [val_main_v97]
  rw [values0]
  have e := clamp 1 t j _ (startV_1 t j)
  congr 1

theorem score_1 (h3 : ∀ i, IsNum (x3 i)) (h4 : ∀ i, IsNum (x4 i)) (h6 : ∀ i, IsNum (x6 i)) (t : Fin 4) (j : Fin 129) :
    val_main_v133 (F := Ideal) x3 x4 x6 (ix4 s t h j) = ((logit x3 x4 x6 s h 1 t j : ℝ) : EReal) := by
  pointwise [val_main_v133, val_main_v131, val_main_v95, val_main_call4_v1, val_main_v132]
  rw [valid_1]
  simp only [key_1]
  exact dot_place x3 x4 x6 s h h3 h4 h6 t (pos 1 t j) (pos_lt 1 t j)

theorem max_1 (h3 : ∀ i, IsNum (x3 i)) (h4 : ∀ i, IsNum (x4 i)) (h6 : ∀ i, IsNum (x6 i)) (t : Fin 4) :
    IsNum (val_main_v134 (F := Ideal) x3 x4 x6 (ix3 s t h)) := by
  pointwise [val_main_v134, val_main_cst_28]
  rw [minus_infinity]
  simp only [score_1 x3 x4 x6 s h h3 h4 h6]
  exact Soft.fold_isNum _ _ (fun _ _ => EReal.coe_ne_top _) 0 (Finset.mem_univ _) (IsNum.coe _)

theorem weight_1 (h3 : ∀ i, IsNum (x3 i)) (h4 : ∀ i, IsNum (x4 i)) (h6 : ∀ i, IsNum (x6 i)) (t : Fin 4) (j : Fin 129) :
    val_main_v138 (F := Ideal) x3 x4 x6 (ix4 s t h j)
      = Ideal.exp (((logit x3 x4 x6 s h 1 t j : ℝ) : EReal) - val_main_v134 (F := Ideal) x3 x4 x6 (ix3 s t h)) := by
  rw [← score_1 x3 x4 x6 s h h3 h4 h6]
  pointwise [val_main_v138, val_main_v137, val_main_v136, val_main_v135]

theorem mass_1 (t : Fin 4) :
    val_main_v139 (F := Ideal) x3 x4 x6 (ix3 s t h) = ∑ j : Fin 129, val_main_v138 (F := Ideal) x3 x4 x6 (ix4 s t h j) := by
  pointwise [val_main_v139, val_main_cst_29]

theorem acc_1 (t : Fin 4) (d : Fin 64) :
    val_main_v140 (F := Ideal) x3 x4 x5 x6 x7 (ix4 s t h d)
      = ∑ j : Fin 129, val_main_v138 (F := Ideal) x3 x4 x6 (ix4 s t h j) * place (vold x7 s h d) (vnew x5 s h d) (pos 1 t j) (pos_lt 1 t j) := by
  pointwise [val_main_v140]
  simp only [value_1]

theorem start_2 (t : Fin 4) (j : Fin 129) : val_main_v168 (F := Ideal) (ix3 t j 0) = BitVec.ofNat 32 (pos 2 t j) := by
  pointwise [val_main_v168, val_main_v167, val_main_v166, val_main_v165, val_main_v164, val_main_v163, val_main_v162, val_main_v154, val_main_v153, val_main_v152, val_main_v151, val_main_v150, val_main_v149, val_main_v148, val_main_v147, val_main_v146, val_main_v145, val_main_v144, val_main_c_30, val_main_c_31, val_main_c_35, val_main_c_36, val_main_c_37,
    val_main_call5_v1, val_main_call5_v0]
  revert t j
  decide +kernel

theorem startV_2 (t : Fin 4) (j : Fin 129) : val_main_v175 (F := Ideal) (ix3 t j 0) = BitVec.ofNat 32 (pos 2 t j) := start_2 t j

theorem valid_2 (t : Fin 4) (j : Fin 129) : val_main_v161 (F := Ideal) (ix2 t j) = 1#1 := by
  pointwise [val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_c_30, val_main_c_31, val_main_c_32, val_main_c_33, val_main_c_34]
  revert t j
  decide +kernel

theorem key_2 (t : Fin 4) (j : Fin 129) (d : Fin 64) :
    val_main_v169 (F := Ideal) x4 x6 (ix5 s t j h d) = place (vold x6 s h d) (vnew x4 s h d) (pos 2 t j) (pos_lt 2 t j) := by
  unfold val_main_v169
  rw [gather_read]
  pointwise [val_main_v142]
  rw [keys0]
  have e := clamp 2 t j _ (start_2 t j)
  congr 1

theorem value_2 (t : Fin 4) (j : Fin 129) (d : Fin 64) :
    val_main_v176 (F := Ideal) x5 x7 (ix5 s t j h d) = place (vold x7 s h d) (vnew x5 s h d) (pos 2 t j) (pos_lt 2 t j) := by
  unfold val_main_v176
  rw [gather_read]
  pointwise [val_main_v143]
  rw [values0]
  have e := clamp 2 t j _ (startV_2 t j)
  congr 1

theorem score_2 (h3 : ∀ i, IsNum (x3 i)) (h4 : ∀ i, IsNum (x4 i)) (h6 : ∀ i, IsNum (x6 i)) (t : Fin 4) (j : Fin 129) :
    val_main_v179 (F := Ideal) x3 x4 x6 (ix4 s t h j) = ((logit x3 x4 x6 s h 2 t j : ℝ) : EReal) := by
  pointwise [val_main_v179, val_main_v177, val_main_v141, val_main_call6_v1, val_main_v178]
  rw [valid_2]
  simp only [key_2]
  exact dot_place x3 x4 x6 s h h3 h4 h6 t (pos 2 t j) (pos_lt 2 t j)

theorem max_2 (h3 : ∀ i, IsNum (x3 i)) (h4 : ∀ i, IsNum (x4 i)) (h6 : ∀ i, IsNum (x6 i)) (t : Fin 4) :
    IsNum (val_main_v180 (F := Ideal) x3 x4 x6 (ix3 s t h)) := by
  pointwise [val_main_v180, val_main_cst_41]
  rw [minus_infinity]
  simp only [score_2 x3 x4 x6 s h h3 h4 h6]
  exact Soft.fold_isNum _ _ (fun _ _ => EReal.coe_ne_top _) 0 (Finset.mem_univ _) (IsNum.coe _)

theorem weight_2 (h3 : ∀ i, IsNum (x3 i)) (h4 : ∀ i, IsNum (x4 i)) (h6 : ∀ i, IsNum (x6 i)) (t : Fin 4) (j : Fin 129) :
    val_main_v184 (F := Ideal) x3 x4 x6 (ix4 s t h j)
      = Ideal.exp (((logit x3 x4 x6 s h 2 t j : ℝ) : EReal) - val_main_v180 (F := Ideal) x3 x4 x6 (ix3 s t h)) := by
  rw [← score_2 x3 x4 x6 s h h3 h4 h6]
  pointwise [val_main_v184, val_main_v183, val_main_v182, val_main_v181]

theorem mass_2 (t : Fin 4) :
    val_main_v185 (F := Ideal) x3 x4 x6 (ix3 s t h) = ∑ j : Fin 129, val_main_v184 (F := Ideal) x3 x4 x6 (ix4 s t h j) := by
  pointwise [val_main_v185, val_main_cst_42]

theorem acc_2 (t : Fin 4) (d : Fin 64) :
    val_main_v186 (F := Ideal) x3 x4 x5 x6 x7 (ix4 s t h d)
      = ∑ j : Fin 129, val_main_v184 (F := Ideal) x3 x4 x6 (ix4 s t h j) * place (vold x7 s h d) (vnew x5 s h d) (pos 2 t j) (pos_lt 2 t j) := by
  pointwise [val_main_v186]
  simp only [value_2]

end Cert.RefHead
-- ==== Proof.RefHead.lean ====
/- The second result of the reference: the sample group's attention, the three branches combined into one softmax. -/
module

public import proofs.«01_k».proof.Proof.RefBranch

@[expose] public section

set_option maxRecDepth 16384

noncomputable section

namespace Cert.RefHead

open Idealize.ShloMosaic Cert.ReferenceIdeal Cert.ReferenceIdeal.Read Cert.Mix Cert.KernelIdeal.Head Cert.Soft

variable (x3 x4 x5 : FVec Ideal S128x4x8x64 .f32) (x6 x7 : FVec Ideal S1x128x2048x8x64 .f32) (s : Fin 112) (h : Fin 8)

/-- What holds of each of the three branches holds of every branch. -/
theorem every {P : Fin 3 → Prop} (h0 : P 0) (h1 : P 1) (h2 : P 2) : ∀ b, P b
  | 0 => h0
  | 1 => h1
  | 2 => h2

theorem top_0 (t : Fin 4) : val_main_v190 (F := Ideal) x3 x4 x6 (ix4 0 s t h) = val_main_v88 (F := Ideal) x3 x4 x6 (ix3 s t h) := by
  pointwise [val_main_v190, val_main_v189, val_main_v188, val_main_v187]

theorem top_1 (t : Fin 4) : val_main_v190 (F := Ideal) x3 x4 x6 (ix4 1 s t h) = val_main_v134 (F := Ideal) x3 x4 x6 (ix3 s t h) := by
  pointwise [val_main_v190, val_main_v189, val_main_v188, val_main_v187]

theorem top_2 (t : Fin 4) : val_main_v190 (F := Ideal) x3 x4 x6 (ix4 2 s t h) = val_main_v180 (F := Ideal) x3 x4 x6 (ix3 s t h) := by
  pointwise [val_main_v190, val_main_v189, val_main_v188, val_main_v187]

/-- The branches' largest scores are numbers. -/
theorem tops_isNum (h3 : ∀ i, IsNum (x3 i)) (h4 : ∀ i, IsNum (x4 i)) (h6 : ∀ i, IsNum (x6 i)) (b : Fin 3) (t : Fin 4) :
    IsNum (val_main_v190 (F := Ideal) x3 x4 x6 (ix4 b s t h)) := by
  revert b
  refine every ?_ ?_ ?_
  · rw [top_0]
    exact max_0 x3 x4 x6 s h h3 h4 h6 t
  · rw [top_1]
    exact max_1 x3 x4 x6 s h h3 h4 h6 t
  · rw [top_2]
    exact max_2 x3 x4 x6 s h h3 h4 h6 t

/-- The largest score of all. -/
theorem top_isNum (h3 : ∀ i, IsNum (x3 i)) (h4 : ∀ i, IsNum (x4 i)) (h6 : ∀ i, IsNum (x6 i)) (t : Fin 4) :
    IsNum (val_main_v199 (F := Ideal) x3 x4 x6 (ix3 s t h)) := by
  pointwise [val_main_v199, val_main_cst_43]
  rw [minus_infinity]
  refine Soft.fold_isNum _ _ (fun b _ => ?_) 0 (Finset.mem_univ _) (tops_isNum x3 x4 x6 s h h3 h4 h6 0 t)
  obtain ⟨r, e⟩ := tops_isNum x3 x4 x6 s h h3 h4 h6 b t
  rw [e]
  exact EReal.coe_ne_top r

theorem side_0 (t : Fin 4) : val_main_v194 (F := Ideal) x3 x4 x6 (ix4 0 s t h) = val_main_v93 (F := Ideal) x3 x4 x6 (ix3 s t h) := by
  pointwise [val_main_v194, val_main_v193, val_main_v192, val_main_v191]

theorem sideV_0 (t : Fin 4) (d : Fin 64) : val_main_v198 (F := Ideal) x3 x4 x5 x6 x7 (ix5 0 s t h d) = val_main_v94 (F := Ideal) x3 x4 x5 x6 x7 (ix4 s t h d) := by
  pointwise [val_main_v198, val_main_v197, val_main_v196, val_main_v195]

theorem side_1 (t : Fin 4) : val_main_v194 (F := Ideal) x3 x4 x6 (ix4 1 s t h) = val_main_v139 (F := Ideal) x3 x4 x6 (ix3 s t h) := by
  pointwise [val_main_v194, val_main_v193, val_main_v192, val_main_v191]

theorem sideV_1 (t : Fin 4) (d : Fin 64) : val_main_v198 (F := Ideal) x3 x4 x5 x6 x7 (ix5 1 s t h d) = val_main_v140 (F := Ideal) x3 x4 x5 x6 x7 (ix4 s t h d) := by
  pointwise [val_main_v198, val_main_v197, val_main_v196, val_main_v195]

theorem side_2 (t : Fin 4) : val_main_v194 (F := Ideal) x3 x4 x6 (ix4 2 s t h) = val_main_v185 (F := Ideal) x3 x4 x6 (ix3 s t h) := by
  pointwise [val_main_v194, val_main_v193, val_main_v192, val_main_v191]

theorem sideV_2 (t : Fin 4) (d : Fin 64) : val_main_v198 (F := Ideal) x3 x4 x5 x6 x7 (ix5 2 s t h d) = val_main_v186 (F := Ideal) x3 x4 x5 x6 x7 (ix4 s t h d) := by
  pointwise [val_main_v198, val_main_v197, val_main_v196, val_main_v195]

/-- The branches' sums of weights. -/
theorem masses (h3 : ∀ i, IsNum (x3 i)) (h4 : ∀ i, IsNum (x4 i)) (h6 : ∀ i, IsNum (x6 i)) (b : Fin 3) (t : Fin 4) :
    val_main_v194 (F := Ideal) x3 x4 x6 (ix4 b s t h)
      = ∑ j, Ideal.exp (((logit x3 x4 x6 s h b t j : ℝ) : EReal) - val_main_v190 (F := Ideal) x3 x4 x6 (ix4 b s t h)) := by
  revert b
  refine every ?_ ?_ ?_
  · rw [side_0, top_0, mass_0]
    exact Finset.sum_congr rfl fun j _ => weight_0 x3 x4 x6 s h h3 h4 h6 t j
  · rw [side_1, top_1, mass_1]
    exact Finset.sum_congr rfl fun j _ => weight_1 x3 x4 x6 s h h3 h4 h6 t j
  · rw [side_2, top_2, mass_2]
    exact Finset.sum_congr rfl fun j _ => weight_2 x3 x4 x6 s h h3 h4 h6 t j

/-- The branches' weighted values. -/
theorem accs (h3 : ∀ i, IsNum (x3 i)) (h4 : ∀ i, IsNum (x4 i)) (h6 : ∀ i, IsNum (x6 i)) (b : Fin 3) (t : Fin 4) (d : Fin 64) :
    val_main_v198 (F := Ideal) x3 x4 x5 x6 x7 (ix5 b s t h d)
      = ∑ j, Ideal.exp (((logit x3 x4 x6 s h b t j : ℝ) : EReal) - val_main_v190 (F := Ideal) x3 x4 x6 (ix4 b s t h))
          * place (vold x7 s h d) (vnew x5 s h d) (pos b t j) (pos_lt b t j) := by
  revert b
  refine every ?_ ?_ ?_
  · rw [sideV_0, top_0, acc_0]
    exact Finset.sum_congr rfl fun j _ => congrArg (· * _) (weight_0 x3 x4 x6 s h h3 h4 h6 t j)
  · rw [sideV_1, top_1, acc_1]
    exact Finset.sum_congr rfl fun j _ => congrArg (· * _) (weight_1 x3 x4 x6 s h h3 h4 h6 t j)
  · rw [sideV_2, top_2, acc_2]
    exact Finset.sum_congr rfl fun j _ => congrArg (· * _) (weight_2 x3 x4 x6 s h h3 h4 h6 t j)

/-- The three branches, combined. -/
theorem combined (h3 : ∀ i, IsNum (x3 i)) (h4 : ∀ i, IsNum (x4 i)) (h6 : ∀ i, IsNum (x6 i)) (t : Fin 4) (d : Fin 64) :
    val_main_v212 (F := Ideal) x3 x4 x5 x6 x7 (ix4 s t h d)
      = att (qs x3 s h) (qs x4 s h) (cs x6 s h) (vnew x5 s h d) (vold x7 s h d) t := by
  pointwise [val_main_v212, val_main_v211, val_main_v210, val_main_v209, val_main_v208, val_main_v207, val_main_v206, val_main_v205, val_main_v204,
    val_main_v203, val_main_v202, val_main_v201, val_main_v200, val_main_cst_44, val_main_cst_45]
  simp only [masses x3 x4 x6 s h h3 h4 h6, accs x3 x4 x5 x6 x7 s h h3 h4 h6]
  have hμ : ∀ b, ∃ r : ℝ, val_main_v190 (F := Ideal) x3 x4 x6 (ix4 b s t h) = (r : EReal) := fun b => tops_isNum x3 x4 x6 s h h3 h4 h6 b t
  choose μ hμ using hμ
  obtain ⟨M, hM⟩ := top_isNum x3 x4 x6 s h h3 h4 h6 t
  simp only [hμ, hM]
  refine (softmax (fun b j => logit x3 x4 x6 s h b t j) (fun b j => place (vold x7 s h d) (vnew x5 s h d) (pos b t j) (pos_lt b t j)) μ M).trans ?_
  unfold att whole branch
  simp only [raw_eq]

/-- The second result at an index. -/
theorem result (h3 : ∀ i, IsNum (x3 i)) (h4 : ∀ i, IsNum (x4 i)) (h6 : ∀ i, IsNum (x6 i)) :
    val_main_v217 (F := Ideal) x3 x4 x5 x6 x7
      = fun i => attAt x3 x4 x5 x6 x7 (i 0) ⟨(i 1).val % 4, Nat.mod_lt _ (by decide)⟩ (i 2) := by
  have at_ix : ∀ (n : Fin 896) (r : Fin 16) (d : Fin 64), val_main_v217 (F := Ideal) x3 x4 x5 x6 x7 (ix3 n r d)
      = attAt x3 x4 x5 x6 x7 n ⟨r.val % 4, Nat.mod_lt _ (by decide)⟩ d := by
    intro n r d
    have e : val_main_v217 (F := Ideal) x3 x4 x5 x6 x7 (ix3 n r d)
        = val_main_v212 (F := Ideal) x3 x4 x5 x6 x7 (ix4 ⟨n / 8, by omega⟩ ⟨r % 4, by omega⟩ ⟨n % 8, by omega⟩ d) := by
      pointwise [val_main_v217, val_main_v216, val_main_v215, val_main_v214, val_main_v213]
    rw [e, combined x3 x4 x5 x6 x7 _ _ h3 h4 h6]
    rfl
  funext i
  idx_vars i
  exact at_ix _ _ _

end Cert.RefHead
-- ==== Proof.lean ====
module

public import proofs.«01_k».proof.Defs
public import proofs.«01_k».proof.Proof.Gen.Kernel2
public import proofs.«01_k».proof.Proof.Gen.Kernel2.Frame.RunA
public import proofs.«01_k».proof.Proof.Gen.Kernel2Ideal
public import proofs.«01_k».proof.Proof.Gen.Kernel2Ideal.Frame.RunA
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Read
public import proofs.«01_k».proof.Proof.ProjClaim
public import proofs.«01_k».proof.Proof.SampClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FinishRef
public import proofs.«01_k».proof.Proof.Finite
public import proofs.«01_k».proof.Proof.HeadArray
public import proofs.«01_k».proof.Proof.RefHead
public import Idealize.ShloMosaic.Lib.Claim
public import Idealize.ShloMosaic.Adequacy
public import Idealize.ShloMosaic.Init

@[expose] public section

noncomputable section

namespace Cert.Proof

open Idealize.ShloMosaic Idealize.SL.Sem

/-- The kernel leaves every semaphore at zero and its arguments unchanged. -/
theorem frame_kernel : Cert.quiescent_Kernel (hKernel := Cert.Kernel.Gen.facts) := fun m ρ _ => Cert.Kernel.Gen.frame m ρ

/-- So does its ideal program. -/
theorem frame_ideal : Cert.quiescent_KernelIdeal (hKernelIdeal := Cert.KernelIdeal.Gen.facts) := fun m ρ _ => Cert.KernelIdeal.Gen.frame m ρ

/-- Also where the scores are numbers. -/
theorem frame_ideal_pre : Cert.quiescent_KernelIdeal_pre_finite_scores (hKernelIdeal := Cert.KernelIdeal.Gen.facts) (hPre_finite_scores := Cert.Pre_finite_scores.facts) :=
  fun m ρ _ => Cert.KernelIdeal.Gen.frame m ρ

/-- So does the reference. -/
theorem frame_reference : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩) (Cert.ReferenceIdeal.Value.run m g)

/-- Also where the scores are numbers. -/
theorem frame_reference_pre : Cert.quiescent_ReferenceIdeal_pre_finite_scores (hReferenceIdeal := Cert.ReferenceIdeal.Gen.facts) (hPre_finite_scores := Cert.Pre_finite_scores.facts) := by
  intro m g _
  exact (θ_run _ _ _).mono (fun r h => ⟨fun c => (h c).2.2, sem_eq_zero_of_no_sems (by decide) r.2⟩) (Cert.ReferenceIdeal.Value.run m g)

/-- The ideal program is the kernel with the named constant read as the reciprocal of the logarithm of two. -/
theorem preserved : Cert.preserves_Kernel_KernelIdeal :=
  IdealRules.named_const.statement Cert.KernelIdeal.κ "log2_e" .f32 0x3FB8AA3B#32 (((Real.log 2)⁻¹ : ℝ) : EReal) rfl

/-- Kernel and reference end with the same values. -/
theorem equal : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' pre agree
  refine ⟨fun c => (Cert.KernelIdeal.Gen.dats m 0 c).arrAt 13 Cert.KernelIdeal.cfg0.N,
    fun c => (Cert.KernelIdeal.Gen.dats m 0 c).arrAt 14 Cert.KernelIdeal.cfg0.N, Cert.KernelIdeal.Value.run_blocks m g, ?_⟩
  refine (θ_run _ _ _).mono (fun r h c => ⟨?_, ?_, (h c).2.2⟩) (Cert.ReferenceIdeal.Value.run m' g')
  · obtain ⟨a0, a1, a2, a3, a4, a5, a6, a7, a8, a9, a10, a11, a12, a13⟩ := agree c
    rw [(h c).1, Cert.ReferenceIdeal.Read.val_main_v44_eq]
    show Cert.ReferenceIdeal.Read.val_main_v44 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) = _
    rw [a0, a1, a2, a8, a9, a10, a11, a12, a13, FinishRef.result]
    exact (FinishArray.result m c).symm
  · obtain ⟨a0, a1, a2, a3, a4, a5, a6, a7, a8, a9, a10, a11, a12, a13⟩ := agree c
    obtain ⟨h3, h4, h6⟩ := Cert.Pre_finite_scores.of_pre m pre c
    rw [(h c).2.1, Cert.ReferenceIdeal.Read.val_main_v217_eq]
    show Cert.ReferenceIdeal.Read.val_main_v217 (F := Ideal) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [a3, a4, a5, a6, a7]
    refine (RefHead.result _ _ _ _ _ h3 h4 h6).trans ?_
    exact (Cert.KernelIdeal.Head.result m c h3 h4 h6).symm

/-- Every claim of this certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite_scores.facts,
  frame_kernel, frame_ideal, frame_ideal_pre, frame_reference, frame_reference_pre, ProjClaim.frame_kernel, ProjClaim.frame_ideal,
  ProjClaim.frame_reference, SampClaim.frame_kernel, SampClaim.frame_ideal, SampClaim.frame_reference, preserved, equal,
  ProjClaim.preserved, ProjClaim.equal, SampClaim.preserved, SampClaim.equal⟩

end Cert.Proof

end
